-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutReferenceIdeal (m : (ℓ : Loc Cert.MergeOutReferenceIdeal.nD Cert.MergeOutReferenceIdeal.τ Cert.MergeOutReferenceIdeal.sig) → Buf (Elt Ideal) ℓ) : Prop :=
  True

def Pre_InProjMeta (m : (ℓ : Loc Cert.InProjMeta.nD Cert.InProjMeta.τ Cert.InProjMeta.sig) → Buf (Elt Bits) ℓ) : Prop :=
  True

def Pre_InProjMetaIdeal (m : (ℓ : Loc Cert.InProjMetaIdeal.nD Cert.InProjMetaIdeal.τ Cert.InProjMetaIdeal.sig) → Buf (Elt Ideal) ℓ) : Prop :=
  True

def Pre_InProjMetaReferenceIdeal (m : (ℓ : Loc Cert.InProjMetaReferenceIdeal.nD Cert.InProjMetaReferenceIdeal.τ Cert.InProjMetaReferenceIdeal.sig) → Buf (Elt Ideal) ℓ) : Prop :=
  True

def Pre_SsdMeta (m : (ℓ : Loc Cert.SsdMeta.nD Cert.SsdMeta.τ Cert.SsdMeta.sig) → Buf (Elt Bits) ℓ) : Prop :=
  True

def Pre_SsdMetaIdeal (m : (ℓ : Loc Cert.SsdMetaIdeal.nD Cert.SsdMetaIdeal.τ Cert.SsdMetaIdeal.sig) → Buf (Elt Ideal) ℓ) : Prop :=
  True

def Pre_SsdMetaReferenceIdeal (m : (ℓ : Loc Cert.SsdMetaReferenceIdeal.nD Cert.SsdMetaReferenceIdeal.τ Cert.SsdMetaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6)
      ∧ r.2.mem ((c.tc : Thread Cert.MergeOut.nD Cert.MergeOut.τ).loc Cert.MergeOut.main_arg7) = m ((c.tc : Thread Cert.MergeOut.nD Cert.MergeOut.τ).loc Cert.MergeOut.main_arg7))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
      ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7))
      ∧ r.2.sem = fun _ => 0)

def quiescent_MergeOutReferenceIdeal [hMergeOutReferenceIdeal : Cert.MergeOutReferenceIdeal.Facts] : Prop :=
  ∀ (m : (ℓ : Loc Cert.MergeOutReferenceIdeal.nD Cert.MergeOutReferenceIdeal.τ Cert.MergeOutReferenceIdeal.sig) → Buf (Elt Ideal) ℓ) (g : Dev Cert.MergeOutReferenceIdeal.nD → PrngReg), Pre_MergeOutReferenceIdeal m →
    θ_run (Cert.MergeOutReferenceIdeal.defs (F := Ideal)) (onTc (τ := Cert.MergeOutReferenceIdeal.τ) (Cert.MergeOutReferenceIdeal.main (F := Ideal))) ⟨m, fun _ => 0, g⟩ (fun r => (∀ c : Dev Cert.MergeOutReferenceIdeal.nD,
      r.2.mem ((c.tc : Thread Cert.MergeOutReferenceIdeal.nD Cert.MergeOutReferenceIdeal.τ).loc Cert.MergeOutReferenceIdeal.main_arg0) = m ((c.tc : Thread Cert.MergeOutReferenceIdeal.nD Cert.MergeOutReferenceIdeal.τ).loc Cert.MergeOutReferenceIdeal.main_arg0)
      ∧ r.2.mem ((c.tc : Thread Cert.MergeOutReferenceIdeal.nD Cert.MergeOutReferenceIdeal.τ).loc Cert.MergeOutReferenceIdeal.main_arg1) = m ((c.tc : Thread Cert.MergeOutReferenceIdeal.nD Cert.MergeOutReferenceIdeal.τ).loc Cert.MergeOutReferenceIdeal.main_arg1)
      ∧ r.2.mem ((c.tc : Thread Cert.MergeOutReferenceIdeal.nD Cert.MergeOutReferenceIdeal.τ).loc Cert.MergeOutReferenceIdeal.main_arg2) = m ((c.tc : Thread Cert.MergeOutReferenceIdeal.nD Cert.MergeOutReferenceIdeal.τ).loc Cert.MergeOutReferenceIdeal.main_arg2)
      ∧ r.2.mem ((c.tc : Thread Cert.MergeOutReferenceIdeal.nD Cert.MergeOutReferenceIdeal.τ).loc Cert.MergeOutReferenceIdeal.main_arg3) = m ((c.tc : Thread Cert.MergeOutReferenceIdeal.nD Cert.MergeOutReferenceIdeal.τ).loc Cert.MergeOutReferenceIdeal.main_arg3)
      ∧ r.2.mem ((c.tc : Thread Cert.MergeOutReferenceIdeal.nD Cert.MergeOutReferenceIdeal.τ).loc Cert.MergeOutReferenceIdeal.main_arg4) = m ((c.tc : Thread Cert.MergeOutReferenceIdeal.nD Cert.MergeOutReferenceIdeal.τ).loc Cert.MergeOutReferenceIdeal.main_arg4)
      ∧ r.2.mem ((c.tc : Thread Cert.MergeOutReferenceIdeal.nD Cert.MergeOutReferenceIdeal.τ).loc Cert.MergeOutReferenceIdeal.main_arg5) = m ((c.tc : Thread Cert.MergeOutReferenceIdeal.nD Cert.MergeOutReferenceIdeal.τ).loc Cert.MergeOutReferenceIdeal.main_arg5)
      ∧ r.2.mem ((c.tc : Thread Cert.MergeOutReferenceIdeal.nD Cert.MergeOutReferenceIdeal.τ).loc Cert.MergeOutReferenceIdeal.main_arg6) = m ((c.tc : Thread Cert.MergeOutReferenceIdeal.nD Cert.MergeOutReferenceIdeal.τ).loc Cert.MergeOutReferenceIdeal.main_arg6)
      ∧ r.2.mem ((c.tc : Thread Cert.MergeOutReferenceIdeal.nD Cert.MergeOutReferenceIdeal.τ).loc Cert.MergeOutReferenceIdeal.main_arg7) = m ((c.tc : Thread Cert.MergeOutReferenceIdeal.nD Cert.MergeOutReferenceIdeal.τ).loc Cert.MergeOutReferenceIdeal.main_arg7))
      ∧ r.2.sem = fun _ => 0)

def quiescent_InProjMeta [hInProjMeta : Cert.InProjMeta.Facts] : Prop :=
  ∀ (m : (ℓ : Loc Cert.InProjMeta.nD Cert.InProjMeta.τ Cert.InProjMeta.sig) → Buf (Elt Bits) ℓ) (g : Dev Cert.InProjMeta.nD → PrngReg), Pre_InProjMeta m →
    θ_run (Cert.InProjMeta.defs (F := Bits)) (onTc (τ := Cert.InProjMeta.τ) (Cert.InProjMeta.main (F := Bits))) ⟨m, fun _ => 0, g⟩ (fun r => (∀ c : Dev Cert.InProjMeta.nD,
      r.2.mem ((c.tc : Thread Cert.InProjMeta.nD Cert.InProjMeta.τ).loc Cert.InProjMeta.main_arg0) = m ((c.tc : Thread Cert.InProjMeta.nD Cert.InProjMeta.τ).loc Cert.InProjMeta.main_arg0)
      ∧ r.2.mem ((c.tc : Thread Cert.InProjMeta.nD Cert.InProjMeta.τ).loc Cert.InProjMeta.main_arg1) = m ((c.tc : Thread Cert.InProjMeta.nD Cert.InProjMeta.τ).loc Cert.InProjMeta.main_arg1)
      ∧ r.2.mem ((c.tc : Thread Cert.InProjMeta.nD Cert.InProjMeta.τ).loc Cert.InProjMeta.main_arg2) = m ((c.tc : Thread Cert.InProjMeta.nD Cert.InProjMeta.τ).loc Cert.InProjMeta.main_arg2))
      ∧ r.2.sem = fun _ => 0)

def quiescent_InProjMetaIdeal [hInProjMetaIdeal : Cert.InProjMetaIdeal.Facts] : Prop :=
  ∀ (m : (ℓ : Loc Cert.InProjMetaIdeal.nD Cert.InProjMetaIdeal.τ Cert.InProjMetaIdeal.sig) → Buf (Elt Ideal) ℓ) (g : Dev Cert.InProjMetaIdeal.nD → PrngReg), Pre_InProjMetaIdeal m →
    θ_run (Cert.InProjMetaIdeal.defs (F := Ideal)) (onTc (τ := Cert.InProjMetaIdeal.τ) (Cert.InProjMetaIdeal.main (F := Ideal))) ⟨m, fun _ => 0, g⟩ (fun r => (∀ c : Dev Cert.InProjMetaIdeal.nD,
      r.2.mem ((c.tc : Thread Cert.InProjMetaIdeal.nD Cert.InProjMetaIdeal.τ).loc Cert.InProjMetaIdeal.main_arg0) = m ((c.tc : Thread Cert.InProjMetaIdeal.nD Cert.InProjMetaIdeal.τ).loc Cert.InProjMetaIdeal.main_arg0)
      ∧ r.2.mem ((c.tc : Thread Cert.InProjMetaIdeal.nD Cert.InProjMetaIdeal.τ).loc Cert.InProjMetaIdeal.main_arg1) = m ((c.tc : Thread Cert.InProjMetaIdeal.nD Cert.InProjMetaIdeal.τ).loc Cert.InProjMetaIdeal.main_arg1)
      ∧ r.2.mem ((c.tc : Thread Cert.InProjMetaIdeal.nD Cert.InProjMetaIdeal.τ).loc Cert.InProjMetaIdeal.main_arg2) = m ((c.tc : Thread Cert.InProjMetaIdeal.nD Cert.InProjMetaIdeal.τ).loc Cert.InProjMetaIdeal.main_arg2))
      ∧ r.2.sem = fun _ => 0)

def quiescent_InProjMetaReferenceIdeal [hInProjMetaReferenceIdeal : Cert.InProjMetaReferenceIdeal.Facts] : Prop :=
  ∀ (m : (ℓ : Loc Cert.InProjMetaReferenceIdeal.nD Cert.InProjMetaReferenceIdeal.τ Cert.InProjMetaReferenceIdeal.sig) → Buf (Elt Ideal) ℓ) (g : Dev Cert.InProjMetaReferenceIdeal.nD → PrngReg), Pre_InProjMetaReferenceIdeal m →
    θ_run (Cert.InProjMetaReferenceIdeal.defs (F := Ideal)) (onTc (τ := Cert.InProjMetaReferenceIdeal.τ) (Cert.InProjMetaReferenceIdeal.main (F := Ideal))) ⟨m, fun _ => 0, g⟩ (fun r => (∀ c : Dev Cert.InProjMetaReferenceIdeal.nD,
      r.2.mem ((c.tc : Thread Cert.InProjMetaReferenceIdeal.nD Cert.InProjMetaReferenceIdeal.τ).loc Cert.InProjMetaReferenceIdeal.main_arg0) = m ((c.tc : Thread Cert.InProjMetaReferenceIdeal.nD Cert.InProjMetaReferenceIdeal.τ).loc Cert.InProjMetaReferenceIdeal.main_arg0)
      ∧ r.2.mem ((c.tc : Thread Cert.InProjMetaReferenceIdeal.nD Cert.InProjMetaReferenceIdeal.τ).loc Cert.InProjMetaReferenceIdeal.main_arg1) = m ((c.tc : Thread Cert.InProjMetaReferenceIdeal.nD Cert.InProjMetaReferenceIdeal.τ).loc Cert.InProjMetaReferenceIdeal.main_arg1)
      ∧ r.2.mem ((c.tc : Thread Cert.InProjMetaReferenceIdeal.nD Cert.InProjMetaReferenceIdeal.τ).loc Cert.InProjMetaReferenceIdeal.main_arg2) = m ((c.tc : Thread Cert.InProjMetaReferenceIdeal.nD Cert.InProjMetaReferenceIdeal.τ).loc Cert.InProjMetaReferenceIdeal.main_arg2))
      ∧ r.2.sem = fun _ => 0)

def quiescent_SsdMeta [hSsdMeta : Cert.SsdMeta.Facts] : Prop :=
  ∀ (m : (ℓ : Loc Cert.SsdMeta.nD Cert.SsdMeta.τ Cert.SsdMeta.sig) → Buf (Elt Bits) ℓ) (g : Dev Cert.SsdMeta.nD → PrngReg), Pre_SsdMeta m →
    θ_run (Cert.SsdMeta.defs (F := Bits)) (onTc (τ := Cert.SsdMeta.τ) (Cert.SsdMeta.main (F := Bits))) ⟨m, fun _ => 0, g⟩ (fun r => (∀ c : Dev Cert.SsdMeta.nD,
      r.2.mem ((c.tc : Thread Cert.SsdMeta.nD Cert.SsdMeta.τ).loc Cert.SsdMeta.main_arg0) = m ((c.tc : Thread Cert.SsdMeta.nD Cert.SsdMeta.τ).loc Cert.SsdMeta.main_arg0)
      ∧ r.2.mem ((c.tc : Thread Cert.SsdMeta.nD Cert.SsdMeta.τ).loc Cert.SsdMeta.main_arg1) = m ((c.tc : Thread Cert.SsdMeta.nD Cert.SsdMeta.τ).loc Cert.SsdMeta.main_arg1)
      ∧ r.2.mem ((c.tc : Thread Cert.SsdMeta.nD Cert.SsdMeta.τ).loc Cert.SsdMeta.main_arg2) = m ((c.tc : Thread Cert.SsdMeta.nD Cert.SsdMeta.τ).loc Cert.SsdMeta.main_arg2)
      ∧ r.2.mem ((c.tc : Thread Cert.SsdMeta.nD Cert.SsdMeta.τ).loc Cert.SsdMeta.main_arg3) = m ((c.tc : Thread Cert.SsdMeta.nD Cert.SsdMeta.τ).loc Cert.SsdMeta.main_arg3)
      ∧ r.2.mem ((c.tc : Thread Cert.SsdMeta.nD Cert.SsdMeta.τ).loc Cert.SsdMeta.main_arg4) = m ((c.tc : Thread Cert.SsdMeta.nD Cert.SsdMeta.τ).loc Cert.SsdMeta.main_arg4)
      ∧ r.2.mem ((c.tc : Thread Cert.SsdMeta.nD Cert.SsdMeta.τ).loc Cert.SsdMeta.main_arg5) = m ((c.tc : Thread Cert.SsdMeta.nD Cert.SsdMeta.τ).loc Cert.SsdMeta.main_arg5)
      ∧ r.2.mem ((c.tc : Thread Cert.SsdMeta.nD Cert.SsdMeta.τ).loc Cert.SsdMeta.main_arg6) = m ((c.tc : Thread Cert.SsdMeta.nD Cert.SsdMeta.τ).loc Cert.SsdMeta.main_arg6)
      ∧ r.2.mem ((c.tc : Thread Cert.SsdMeta.nD Cert.SsdMeta.τ).loc Cert.SsdMeta.main_arg7) = m ((c.tc : Thread Cert.SsdMeta.nD Cert.SsdMeta.τ).loc Cert.SsdMeta.main_arg7))
      ∧ r.2.sem = fun _ => 0)

def quiescent_SsdMetaIdeal [hSsdMetaIdeal : Cert.SsdMetaIdeal.Facts] : Prop :=
  ∀ (m : (ℓ : Loc Cert.SsdMetaIdeal.nD Cert.SsdMetaIdeal.τ Cert.SsdMetaIdeal.sig) → Buf (Elt Ideal) ℓ) (g : Dev Cert.SsdMetaIdeal.nD → PrngReg), Pre_SsdMetaIdeal m →
    θ_run (Cert.SsdMetaIdeal.defs (F := Ideal)) (onTc (τ := Cert.SsdMetaIdeal.τ) (Cert.SsdMetaIdeal.main (F := Ideal))) ⟨m, fun _ => 0, g⟩ (fun r => (∀ c : Dev Cert.SsdMetaIdeal.nD,
      r.2.mem ((c.tc : Thread Cert.SsdMetaIdeal.nD Cert.SsdMetaIdeal.τ).loc Cert.SsdMetaIdeal.main_arg0) = m ((c.tc : Thread Cert.SsdMetaIdeal.nD Cert.SsdMetaIdeal.τ).loc Cert.SsdMetaIdeal.main_arg0)
      ∧ r.2.mem ((c.tc : Thread Cert.SsdMetaIdeal.nD Cert.SsdMetaIdeal.τ).loc Cert.SsdMetaIdeal.main_arg1) = m ((c.tc : Thread Cert.SsdMetaIdeal.nD Cert.SsdMetaIdeal.τ).loc Cert.SsdMetaIdeal.main_arg1)
      ∧ r.2.mem ((c.tc : Thread Cert.SsdMetaIdeal.nD Cert.SsdMetaIdeal.τ).loc Cert.SsdMetaIdeal.main_arg2) = m ((c.tc : Thread Cert.SsdMetaIdeal.nD Cert.SsdMetaIdeal.τ).loc Cert.SsdMetaIdeal.main_arg2)
      ∧ r.2.mem ((c.tc : Thread Cert.SsdMetaIdeal.nD Cert.SsdMetaIdeal.τ).loc Cert.SsdMetaIdeal.main_arg3) = m ((c.tc : Thread Cert.SsdMetaIdeal.nD Cert.SsdMetaIdeal.τ).loc Cert.SsdMetaIdeal.main_arg3)
      ∧ r.2.mem ((c.tc : Thread Cert.SsdMetaIdeal.nD Cert.SsdMetaIdeal.τ).loc Cert.SsdMetaIdeal.main_arg4) = m ((c.tc : Thread Cert.SsdMetaIdeal.nD Cert.SsdMetaIdeal.τ).loc Cert.SsdMetaIdeal.main_arg4)
      ∧ r.2.mem ((c.tc : Thread Cert.SsdMetaIdeal.nD Cert.SsdMetaIdeal.τ).loc Cert.SsdMetaIdeal.main_arg5) = m ((c.tc : Thread Cert.SsdMetaIdeal.nD Cert.SsdMetaIdeal.τ).loc Cert.SsdMetaIdeal.main_arg5)
      ∧ r.2.mem ((c.tc : Thread Cert.SsdMetaIdeal.nD Cert.SsdMetaIdeal.τ).loc Cert.SsdMetaIdeal.main_arg6) = m ((c.tc : Thread Cert.SsdMetaIdeal.nD Cert.SsdMetaIdeal.τ).loc Cert.SsdMetaIdeal.main_arg6)
      ∧ r.2.mem ((c.tc : Thread Cert.SsdMetaIdeal.nD Cert.SsdMetaIdeal.τ).loc Cert.SsdMetaIdeal.main_arg7) = m ((c.tc : Thread Cert.SsdMetaIdeal.nD Cert.SsdMetaIdeal.τ).loc Cert.SsdMetaIdeal.main_arg7))
      ∧ r.2.sem = fun _ => 0)

def quiescent_SsdMetaReferenceIdeal [hSsdMetaReferenceIdeal : Cert.SsdMetaReferenceIdeal.Facts] : Prop :=
  ∀ (m : (ℓ : Loc Cert.SsdMetaReferenceIdeal.nD Cert.SsdMetaReferenceIdeal.τ Cert.SsdMetaReferenceIdeal.sig) → Buf (Elt Ideal) ℓ) (g : Dev Cert.SsdMetaReferenceIdeal.nD → PrngReg), Pre_SsdMetaReferenceIdeal m →
    θ_run (Cert.SsdMetaReferenceIdeal.defs (F := Ideal)) (onTc (τ := Cert.SsdMetaReferenceIdeal.τ) (Cert.SsdMetaReferenceIdeal.main (F := Ideal))) ⟨m, fun _ => 0, g⟩ (fun r => (∀ c : Dev Cert.SsdMetaReferenceIdeal.nD,
      r.2.mem ((c.tc : Thread Cert.SsdMetaReferenceIdeal.nD Cert.SsdMetaReferenceIdeal.τ).loc Cert.SsdMetaReferenceIdeal.main_arg0) = m ((c.tc : Thread Cert.SsdMetaReferenceIdeal.nD Cert.SsdMetaReferenceIdeal.τ).loc Cert.SsdMetaReferenceIdeal.main_arg0)
      ∧ r.2.mem ((c.tc : Thread Cert.SsdMetaReferenceIdeal.nD Cert.SsdMetaReferenceIdeal.τ).loc Cert.SsdMetaReferenceIdeal.main_arg1) = m ((c.tc : Thread Cert.SsdMetaReferenceIdeal.nD Cert.SsdMetaReferenceIdeal.τ).loc Cert.SsdMetaReferenceIdeal.main_arg1)
      ∧ r.2.mem ((c.tc : Thread Cert.SsdMetaReferenceIdeal.nD Cert.SsdMetaReferenceIdeal.τ).loc Cert.SsdMetaReferenceIdeal.main_arg2) = m ((c.tc : Thread Cert.SsdMetaReferenceIdeal.nD Cert.SsdMetaReferenceIdeal.τ).loc Cert.SsdMetaReferenceIdeal.main_arg2)
      ∧ r.2.mem ((c.tc : Thread Cert.SsdMetaReferenceIdeal.nD Cert.SsdMetaReferenceIdeal.τ).loc Cert.SsdMetaReferenceIdeal.main_arg3) = m ((c.tc : Thread Cert.SsdMetaReferenceIdeal.nD Cert.SsdMetaReferenceIdeal.τ).loc Cert.SsdMetaReferenceIdeal.main_arg3)
      ∧ r.2.mem ((c.tc : Thread Cert.SsdMetaReferenceIdeal.nD Cert.SsdMetaReferenceIdeal.τ).loc Cert.SsdMetaReferenceIdeal.main_arg4) = m ((c.tc : Thread Cert.SsdMetaReferenceIdeal.nD Cert.SsdMetaReferenceIdeal.τ).loc Cert.SsdMetaReferenceIdeal.main_arg4)
      ∧ r.2.mem ((c.tc : Thread Cert.SsdMetaReferenceIdeal.nD Cert.SsdMetaReferenceIdeal.τ).loc Cert.SsdMetaReferenceIdeal.main_arg5) = m ((c.tc : Thread Cert.SsdMetaReferenceIdeal.nD Cert.SsdMetaReferenceIdeal.τ).loc Cert.SsdMetaReferenceIdeal.main_arg5)
      ∧ r.2.mem ((c.tc : Thread Cert.SsdMetaReferenceIdeal.nD Cert.SsdMetaReferenceIdeal.τ).loc Cert.SsdMetaReferenceIdeal.main_arg6) = m ((c.tc : Thread Cert.SsdMetaReferenceIdeal.nD Cert.SsdMetaReferenceIdeal.τ).loc Cert.SsdMetaReferenceIdeal.main_arg6)
      ∧ r.2.mem ((c.tc : Thread Cert.SsdMetaReferenceIdeal.nD Cert.SsdMetaReferenceIdeal.τ).loc Cert.SsdMetaReferenceIdeal.main_arg7) = m ((c.tc : Thread Cert.SsdMetaReferenceIdeal.nD Cert.SsdMetaReferenceIdeal.τ).loc Cert.SsdMetaReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v17_0)) (v1 : (c : Dev Cert.InProjIdeal.nD) → Buf (Elt Ideal) ((c.tc : Thread Cert.InProjIdeal.nD Cert.InProjIdeal.τ).loc Cert.InProjIdeal.main_v17_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v17_0) = v0 c
          ∧ r.2.mem ((c.tc : Thread Cert.InProjIdeal.nD Cert.InProjIdeal.τ).loc Cert.InProjIdeal.main_v17_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v28) = v0 c
          ∧ r.2.mem ((c.tc : Thread Cert.InProjReferenceIdeal.nD Cert.InProjReferenceIdeal.τ).loc Cert.InProjReferenceIdeal.main_v29) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MergeOut_MergeOutIdeal : Prop :=
  True

def algebraic_MergeOutIdeal_MergeOutReferenceIdeal [hMergeOutIdeal : Cert.MergeOutIdeal.Facts] [hMergeOutReferenceIdeal : Cert.MergeOutReferenceIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutReferenceIdeal.nD Cert.MergeOutReferenceIdeal.τ Cert.MergeOutReferenceIdeal.sig) → Buf (Elt Ideal) ℓ) (g' : Dev Cert.MergeOutReferenceIdeal.nD → PrngReg), Pre_MergeOutIdeal m →
    (∀ c : Dev Cert.MergeOutIdeal.nD,
      m' ((c.tc : Thread Cert.MergeOutReferenceIdeal.nD Cert.MergeOutReferenceIdeal.τ).loc Cert.MergeOutReferenceIdeal.main_arg0) = m ((c.tc : Thread Cert.MergeOutIdeal.nD Cert.MergeOutIdeal.τ).loc Cert.MergeOutIdeal.main_arg0)
      ∧ m' ((c.tc : Thread Cert.MergeOutReferenceIdeal.nD Cert.MergeOutReferenceIdeal.τ).loc Cert.MergeOutReferenceIdeal.main_arg1) = m ((c.tc : Thread Cert.MergeOutIdeal.nD Cert.MergeOutIdeal.τ).loc Cert.MergeOutIdeal.main_arg1)
      ∧ m' ((c.tc : Thread Cert.MergeOutReferenceIdeal.nD Cert.MergeOutReferenceIdeal.τ).loc Cert.MergeOutReferenceIdeal.main_arg2) = m ((c.tc : Thread Cert.MergeOutIdeal.nD Cert.MergeOutIdeal.τ).loc Cert.MergeOutIdeal.main_arg2)
      ∧ m' ((c.tc : Thread Cert.MergeOutReferenceIdeal.nD Cert.MergeOutReferenceIdeal.τ).loc Cert.MergeOutReferenceIdeal.main_arg3) = m ((c.tc : Thread Cert.MergeOutIdeal.nD Cert.MergeOutIdeal.τ).loc Cert.MergeOutIdeal.main_arg3)
      ∧ m' ((c.tc : Thread Cert.MergeOutReferenceIdeal.nD Cert.MergeOutReferenceIdeal.τ).loc Cert.MergeOutReferenceIdeal.main_arg4) = m ((c.tc : Thread Cert.MergeOutIdeal.nD Cert.MergeOutIdeal.τ).loc Cert.MergeOutIdeal.main_arg4)
      ∧ m' ((c.tc : Thread Cert.MergeOutReferenceIdeal.nD Cert.MergeOutReferenceIdeal.τ).loc Cert.MergeOutReferenceIdeal.main_arg5) = m ((c.tc : Thread Cert.MergeOutIdeal.nD Cert.MergeOutIdeal.τ).loc Cert.MergeOutIdeal.main_arg5)
      ∧ m' ((c.tc : Thread Cert.MergeOutReferenceIdeal.nD Cert.MergeOutReferenceIdeal.τ).loc Cert.MergeOutReferenceIdeal.main_arg6) = m ((c.tc : Thread Cert.MergeOutIdeal.nD Cert.MergeOutIdeal.τ).loc Cert.MergeOutIdeal.main_arg6)
      ∧ m' ((c.tc : Thread Cert.MergeOutReferenceIdeal.nD Cert.MergeOutReferenceIdeal.τ).loc Cert.MergeOutReferenceIdeal.main_arg7) = m ((c.tc : Thread Cert.MergeOutIdeal.nD Cert.MergeOutIdeal.τ).loc Cert.MergeOutIdeal.main_arg7)) →
    ∃ (v0 : (c : Dev Cert.MergeOutIdeal.nD) → Buf (Elt Ideal) ((c.tc : Thread Cert.MergeOutIdeal.nD Cert.MergeOutIdeal.τ).loc Cert.MergeOutIdeal.main_v11)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v11) = v0 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
          ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7))
      ∧ θ_run (Cert.MergeOutReferenceIdeal.defs (F := Ideal)) (onTc (τ := Cert.MergeOutReferenceIdeal.τ) (Cert.MergeOutReferenceIdeal.main (F := Ideal))) ⟨m', fun _ => 0, g'⟩ (fun r => ∀ c : Dev Cert.MergeOutReferenceIdeal.nD,
          r.2.mem ((c.tc : Thread Cert.MergeOutReferenceIdeal.nD Cert.MergeOutReferenceIdeal.τ).loc Cert.MergeOutReferenceIdeal.main_v44) = v0 c
          ∧ r.2.mem ((c.tc : Thread Cert.MergeOutReferenceIdeal.nD Cert.MergeOutReferenceIdeal.τ).loc Cert.MergeOutReferenceIdeal.main_arg0) = m' ((c.tc : Thread Cert.MergeOutReferenceIdeal.nD Cert.MergeOutReferenceIdeal.τ).loc Cert.MergeOutReferenceIdeal.main_arg0)
          ∧ r.2.mem ((c.tc : Thread Cert.MergeOutReferenceIdeal.nD Cert.MergeOutReferenceIdeal.τ).loc Cert.MergeOutReferenceIdeal.main_arg1) = m' ((c.tc : Thread Cert.MergeOutReferenceIdeal.nD Cert.MergeOutReferenceIdeal.τ).loc Cert.MergeOutReferenceIdeal.main_arg1)
          ∧ r.2.mem ((c.tc : Thread Cert.MergeOutReferenceIdeal.nD Cert.MergeOutReferenceIdeal.τ).loc Cert.MergeOutReferenceIdeal.main_arg2) = m' ((c.tc : Thread Cert.MergeOutReferenceIdeal.nD Cert.MergeOutReferenceIdeal.τ).loc Cert.MergeOutReferenceIdeal.main_arg2)
          ∧ r.2.mem ((c.tc : Thread Cert.MergeOutReferenceIdeal.nD Cert.MergeOutReferenceIdeal.τ).loc Cert.MergeOutReferenceIdeal.main_arg3) = m' ((c.tc : Thread Cert.MergeOutReferenceIdeal.nD Cert.MergeOutReferenceIdeal.τ).loc Cert.MergeOutReferenceIdeal.main_arg3)
          ∧ r.2.mem ((c.tc : Thread Cert.MergeOutReferenceIdeal.nD Cert.MergeOutReferenceIdeal.τ).loc Cert.MergeOutReferenceIdeal.main_arg4) = m' ((c.tc : Thread Cert.MergeOutReferenceIdeal.nD Cert.MergeOutReferenceIdeal.τ).loc Cert.MergeOutReferenceIdeal.main_arg4)
          ∧ r.2.mem ((c.tc : Thread Cert.MergeOutReferenceIdeal.nD Cert.MergeOutReferenceIdeal.τ).loc Cert.MergeOutReferenceIdeal.main_arg5) = m' ((c.tc : Thread Cert.MergeOutReferenceIdeal.nD Cert.MergeOutReferenceIdeal.τ).loc Cert.MergeOutReferenceIdeal.main_arg5)
          ∧ r.2.mem ((c.tc : Thread Cert.MergeOutReferenceIdeal.nD Cert.MergeOutReferenceIdeal.τ).loc Cert.MergeOutReferenceIdeal.main_arg6) = m' ((c.tc : Thread Cert.MergeOutReferenceIdeal.nD Cert.MergeOutReferenceIdeal.τ).loc Cert.MergeOutReferenceIdeal.main_arg6)
          ∧ r.2.mem ((c.tc : Thread Cert.MergeOutReferenceIdeal.nD Cert.MergeOutReferenceIdeal.τ).loc Cert.MergeOutReferenceIdeal.main_arg7) = m' ((c.tc : Thread Cert.MergeOutReferenceIdeal.nD Cert.MergeOutReferenceIdeal.τ).loc Cert.MergeOutReferenceIdeal.main_arg7))

def preserves_InProjMeta_InProjMetaIdeal : Prop :=
  True

def algebraic_InProjMetaIdeal_InProjMetaReferenceIdeal [hInProjMetaIdeal : Cert.InProjMetaIdeal.Facts] [hInProjMetaReferenceIdeal : Cert.InProjMetaReferenceIdeal.Facts] : Prop :=
  ∀ (m : (ℓ : Loc Cert.InProjMetaIdeal.nD Cert.InProjMetaIdeal.τ Cert.InProjMetaIdeal.sig) → Buf (Elt Ideal) ℓ) (g : Dev Cert.InProjMetaIdeal.nD → PrngReg)
    (m' : (ℓ : Loc Cert.InProjMetaReferenceIdeal.nD Cert.InProjMetaReferenceIdeal.τ Cert.InProjMetaReferenceIdeal.sig) → Buf (Elt Ideal) ℓ) (g' : Dev Cert.InProjMetaReferenceIdeal.nD → PrngReg), Pre_InProjMetaIdeal m →
    (∀ c : Dev Cert.InProjMetaIdeal.nD,
      m' ((c.tc : Thread Cert.InProjMetaReferenceIdeal.nD Cert.InProjMetaReferenceIdeal.τ).loc Cert.InProjMetaReferenceIdeal.main_arg0) = m ((c.tc : Thread Cert.InProjMetaIdeal.nD Cert.InProjMetaIdeal.τ).loc Cert.InProjMetaIdeal.main_arg0)
      ∧ m' ((c.tc : Thread Cert.InProjMetaReferenceIdeal.nD Cert.InProjMetaReferenceIdeal.τ).loc Cert.InProjMetaReferenceIdeal.main_arg1) = m ((c.tc : Thread Cert.InProjMetaIdeal.nD Cert.InProjMetaIdeal.τ).loc Cert.InProjMetaIdeal.main_arg1)
      ∧ m' ((c.tc : Thread Cert.InProjMetaReferenceIdeal.nD Cert.InProjMetaReferenceIdeal.τ).loc Cert.InProjMetaReferenceIdeal.main_arg2) = m ((c.tc : Thread Cert.InProjMetaIdeal.nD Cert.InProjMetaIdeal.τ).loc Cert.InProjMetaIdeal.main_arg2)) →
    ∃ (v0 : (c : Dev Cert.InProjMetaIdeal.nD) → Buf (Elt Ideal) ((c.tc : Thread Cert.InProjMetaIdeal.nD Cert.InProjMetaIdeal.τ).loc Cert.InProjMetaIdeal.main_v18_0)) (v1 : (c : Dev Cert.InProjMetaIdeal.nD) → Buf (Elt Ideal) ((c.tc : Thread Cert.InProjMetaIdeal.nD Cert.InProjMetaIdeal.τ).loc Cert.InProjMetaIdeal.main_v18_1)),
      θ_run (Cert.InProjMetaIdeal.defs (F := Ideal)) (onTc (τ := Cert.InProjMetaIdeal.τ) (Cert.InProjMetaIdeal.main (F := Ideal))) ⟨m, fun _ => 0, g⟩ (fun r => ∀ c : Dev Cert.InProjMetaIdeal.nD,
          r.2.mem ((c.tc : Thread Cert.InProjMetaIdeal.nD Cert.InProjMetaIdeal.τ).loc Cert.InProjMetaIdeal.main_v18_0) = v0 c
          ∧ r.2.mem ((c.tc : Thread Cert.InProjMetaIdeal.nD Cert.InProjMetaIdeal.τ).loc Cert.InProjMetaIdeal.main_v18_1) = v1 c
          ∧ r.2.mem ((c.tc : Thread Cert.InProjMetaIdeal.nD Cert.InProjMetaIdeal.τ).loc Cert.InProjMetaIdeal.main_arg0) = m ((c.tc : Thread Cert.InProjMetaIdeal.nD Cert.InProjMetaIdeal.τ).loc Cert.InProjMetaIdeal.main_arg0)
          ∧ r.2.mem ((c.tc : Thread Cert.InProjMetaIdeal.nD Cert.InProjMetaIdeal.τ).loc Cert.InProjMetaIdeal.main_arg1) = m ((c.tc : Thread Cert.InProjMetaIdeal.nD Cert.InProjMetaIdeal.τ).loc Cert.InProjMetaIdeal.main_arg1)
          ∧ r.2.mem ((c.tc : Thread Cert.InProjMetaIdeal.nD Cert.InProjMetaIdeal.τ).loc Cert.InProjMetaIdeal.main_arg2) = m ((c.tc : Thread Cert.InProjMetaIdeal.nD Cert.InProjMetaIdeal.τ).loc Cert.InProjMetaIdeal.main_arg2))
      ∧ θ_run (Cert.InProjMetaReferenceIdeal.defs (F := Ideal)) (onTc (τ := Cert.InProjMetaReferenceIdeal.τ) (Cert.InProjMetaReferenceIdeal.main (F := Ideal))) ⟨m', fun _ => 0, g'⟩ (fun r => ∀ c : Dev Cert.InProjMetaReferenceIdeal.nD,
          r.2.mem ((c.tc : Thread Cert.InProjMetaReferenceIdeal.nD Cert.InProjMetaReferenceIdeal.τ).loc Cert.InProjMetaReferenceIdeal.main_v28) = v0 c
          ∧ r.2.mem ((c.tc : Thread Cert.InProjMetaReferenceIdeal.nD Cert.InProjMetaReferenceIdeal.τ).loc Cert.InProjMetaReferenceIdeal.main_v29) = v1 c
          ∧ r.2.mem ((c.tc : Thread Cert.InProjMetaReferenceIdeal.nD Cert.InProjMetaReferenceIdeal.τ).loc Cert.InProjMetaReferenceIdeal.main_arg0) = m' ((c.tc : Thread Cert.InProjMetaReferenceIdeal.nD Cert.InProjMetaReferenceIdeal.τ).loc Cert.InProjMetaReferenceIdeal.main_arg0)
          ∧ r.2.mem ((c.tc : Thread Cert.InProjMetaReferenceIdeal.nD Cert.InProjMetaReferenceIdeal.τ).loc Cert.InProjMetaReferenceIdeal.main_arg1) = m' ((c.tc : Thread Cert.InProjMetaReferenceIdeal.nD Cert.InProjMetaReferenceIdeal.τ).loc Cert.InProjMetaReferenceIdeal.main_arg1)
          ∧ r.2.mem ((c.tc : Thread Cert.InProjMetaReferenceIdeal.nD Cert.InProjMetaReferenceIdeal.τ).loc Cert.InProjMetaReferenceIdeal.main_arg2) = m' ((c.tc : Thread Cert.InProjMetaReferenceIdeal.nD Cert.InProjMetaReferenceIdeal.τ).loc Cert.InProjMetaReferenceIdeal.main_arg2))

def preserves_SsdMeta_SsdMetaIdeal : Prop :=
  True

def algebraic_SsdMetaIdeal_SsdMetaReferenceIdeal [hSsdMetaIdeal : Cert.SsdMetaIdeal.Facts] [hSsdMetaReferenceIdeal : Cert.SsdMetaReferenceIdeal.Facts] : Prop :=
  ∀ (m : (ℓ : Loc Cert.SsdMetaIdeal.nD Cert.SsdMetaIdeal.τ Cert.SsdMetaIdeal.sig) → Buf (Elt Ideal) ℓ) (g : Dev Cert.SsdMetaIdeal.nD → PrngReg)
    (m' : (ℓ : Loc Cert.SsdMetaReferenceIdeal.nD Cert.SsdMetaReferenceIdeal.τ Cert.SsdMetaReferenceIdeal.sig) → Buf (Elt Ideal) ℓ) (g' : Dev Cert.SsdMetaReferenceIdeal.nD → PrngReg), Pre_SsdMetaIdeal m →
    (∀ c : Dev Cert.SsdMetaIdeal.nD,
      m' ((c.tc : Thread Cert.SsdMetaReferenceIdeal.nD Cert.SsdMetaReferenceIdeal.τ).loc Cert.SsdMetaReferenceIdeal.main_arg0) = m ((c.tc : Thread Cert.SsdMetaIdeal.nD Cert.SsdMetaIdeal.τ).loc Cert.SsdMetaIdeal.main_arg0)
      ∧ m' ((c.tc : Thread Cert.SsdMetaReferenceIdeal.nD Cert.SsdMetaReferenceIdeal.τ).loc Cert.SsdMetaReferenceIdeal.main_arg1) = m ((c.tc : Thread Cert.SsdMetaIdeal.nD Cert.SsdMetaIdeal.τ).loc Cert.SsdMetaIdeal.main_arg1)
      ∧ m' ((c.tc : Thread Cert.SsdMetaReferenceIdeal.nD Cert.SsdMetaReferenceIdeal.τ).loc Cert.SsdMetaReferenceIdeal.main_arg2) = m ((c.tc : Thread Cert.SsdMetaIdeal.nD Cert.SsdMetaIdeal.τ).loc Cert.SsdMetaIdeal.main_arg2)
      ∧ m' ((c.tc : Thread Cert.SsdMetaReferenceIdeal.nD Cert.SsdMetaReferenceIdeal.τ).loc Cert.SsdMetaReferenceIdeal.main_arg3) = m ((c.tc : Thread Cert.SsdMetaIdeal.nD Cert.SsdMetaIdeal.τ).loc Cert.SsdMetaIdeal.main_arg3)
      ∧ m' ((c.tc : Thread Cert.SsdMetaReferenceIdeal.nD Cert.SsdMetaReferenceIdeal.τ).loc Cert.SsdMetaReferenceIdeal.main_arg4) = m ((c.tc : Thread Cert.SsdMetaIdeal.nD Cert.SsdMetaIdeal.τ).loc Cert.SsdMetaIdeal.main_arg4)
      ∧ m' ((c.tc : Thread Cert.SsdMetaReferenceIdeal.nD Cert.SsdMetaReferenceIdeal.τ).loc Cert.SsdMetaReferenceIdeal.main_arg5) = m ((c.tc : Thread Cert.SsdMetaIdeal.nD Cert.SsdMetaIdeal.τ).loc Cert.SsdMetaIdeal.main_arg5)
      ∧ m' ((c.tc : Thread Cert.SsdMetaReferenceIdeal.nD Cert.SsdMetaReferenceIdeal.τ).loc Cert.SsdMetaReferenceIdeal.main_arg6) = m ((c.tc : Thread Cert.SsdMetaIdeal.nD Cert.SsdMetaIdeal.τ).loc Cert.SsdMetaIdeal.main_arg6)
      ∧ m' ((c.tc : Thread Cert.SsdMetaReferenceIdeal.nD Cert.SsdMetaReferenceIdeal.τ).loc Cert.SsdMetaReferenceIdeal.main_arg7) = m ((c.tc : Thread Cert.SsdMetaIdeal.nD Cert.SsdMetaIdeal.τ).loc Cert.SsdMetaIdeal.main_arg7)) →
    ∃ (v0 : (c : Dev Cert.SsdMetaIdeal.nD) → Buf (Elt Ideal) ((c.tc : Thread Cert.SsdMetaIdeal.nD Cert.SsdMetaIdeal.τ).loc Cert.SsdMetaIdeal.main_v17_0)) (v1 : (c : Dev Cert.SsdMetaIdeal.nD) → Buf (Elt Ideal) ((c.tc : Thread Cert.SsdMetaIdeal.nD Cert.SsdMetaIdeal.τ).loc Cert.SsdMetaIdeal.main_v17_1)),
      θ_run (Cert.SsdMetaIdeal.defs (F := Ideal)) (onTc (τ := Cert.SsdMetaIdeal.τ) (Cert.SsdMetaIdeal.main (F := Ideal))) ⟨m, fun _ => 0, g⟩ (fun r => ∀ c : Dev Cert.SsdMetaIdeal.nD,
          r.2.mem ((c.tc : Thread Cert.SsdMetaIdeal.nD Cert.SsdMetaIdeal.τ).loc Cert.SsdMetaIdeal.main_v17_0) = v0 c
          ∧ r.2.mem ((c.tc : Thread Cert.SsdMetaIdeal.nD Cert.SsdMetaIdeal.τ).loc Cert.SsdMetaIdeal.main_v17_1) = v1 c
          ∧ r.2.mem ((c.tc : Thread Cert.SsdMetaIdeal.nD Cert.SsdMetaIdeal.τ).loc Cert.SsdMetaIdeal.main_arg0) = m ((c.tc : Thread Cert.SsdMetaIdeal.nD Cert.SsdMetaIdeal.τ).loc Cert.SsdMetaIdeal.main_arg0)
          ∧ r.2.mem ((c.tc : Thread Cert.SsdMetaIdeal.nD Cert.SsdMetaIdeal.τ).loc Cert.SsdMetaIdeal.main_arg1) = m ((c.tc : Thread Cert.SsdMetaIdeal.nD Cert.SsdMetaIdeal.τ).loc Cert.SsdMetaIdeal.main_arg1)
          ∧ r.2.mem ((c.tc : Thread Cert.SsdMetaIdeal.nD Cert.SsdMetaIdeal.τ).loc Cert.SsdMetaIdeal.main_arg2) = m ((c.tc : Thread Cert.SsdMetaIdeal.nD Cert.SsdMetaIdeal.τ).loc Cert.SsdMetaIdeal.main_arg2)
          ∧ r.2.mem ((c.tc : Thread Cert.SsdMetaIdeal.nD Cert.SsdMetaIdeal.τ).loc Cert.SsdMetaIdeal.main_arg3) = m ((c.tc : Thread Cert.SsdMetaIdeal.nD Cert.SsdMetaIdeal.τ).loc Cert.SsdMetaIdeal.main_arg3)
          ∧ r.2.mem ((c.tc : Thread Cert.SsdMetaIdeal.nD Cert.SsdMetaIdeal.τ).loc Cert.SsdMetaIdeal.main_arg4) = m ((c.tc : Thread Cert.SsdMetaIdeal.nD Cert.SsdMetaIdeal.τ).loc Cert.SsdMetaIdeal.main_arg4)
          ∧ r.2.mem ((c.tc : Thread Cert.SsdMetaIdeal.nD Cert.SsdMetaIdeal.τ).loc Cert.SsdMetaIdeal.main_arg5) = m ((c.tc : Thread Cert.SsdMetaIdeal.nD Cert.SsdMetaIdeal.τ).loc Cert.SsdMetaIdeal.main_arg5)
          ∧ r.2.mem ((c.tc : Thread Cert.SsdMetaIdeal.nD Cert.SsdMetaIdeal.τ).loc Cert.SsdMetaIdeal.main_arg6) = m ((c.tc : Thread Cert.SsdMetaIdeal.nD Cert.SsdMetaIdeal.τ).loc Cert.SsdMetaIdeal.main_arg6)
          ∧ r.2.mem ((c.tc : Thread Cert.SsdMetaIdeal.nD Cert.SsdMetaIdeal.τ).loc Cert.SsdMetaIdeal.main_arg7) = m ((c.tc : Thread Cert.SsdMetaIdeal.nD Cert.SsdMetaIdeal.τ).loc Cert.SsdMetaIdeal.main_arg7))
      ∧ θ_run (Cert.SsdMetaReferenceIdeal.defs (F := Ideal)) (onTc (τ := Cert.SsdMetaReferenceIdeal.τ) (Cert.SsdMetaReferenceIdeal.main (F := Ideal))) ⟨m', fun _ => 0, g'⟩ (fun r => ∀ c : Dev Cert.SsdMetaReferenceIdeal.nD,
          r.2.mem ((c.tc : Thread Cert.SsdMetaReferenceIdeal.nD Cert.SsdMetaReferenceIdeal.τ).loc Cert.SsdMetaReferenceIdeal.main_v80) = v0 c
          ∧ r.2.mem ((c.tc : Thread Cert.SsdMetaReferenceIdeal.nD Cert.SsdMetaReferenceIdeal.τ).loc Cert.SsdMetaReferenceIdeal.main_v81) = v1 c
          ∧ r.2.mem ((c.tc : Thread Cert.SsdMetaReferenceIdeal.nD Cert.SsdMetaReferenceIdeal.τ).loc Cert.SsdMetaReferenceIdeal.main_arg0) = m' ((c.tc : Thread Cert.SsdMetaReferenceIdeal.nD Cert.SsdMetaReferenceIdeal.τ).loc Cert.SsdMetaReferenceIdeal.main_arg0)
          ∧ r.2.mem ((c.tc : Thread Cert.SsdMetaReferenceIdeal.nD Cert.SsdMetaReferenceIdeal.τ).loc Cert.SsdMetaReferenceIdeal.main_arg1) = m' ((c.tc : Thread Cert.SsdMetaReferenceIdeal.nD Cert.SsdMetaReferenceIdeal.τ).loc Cert.SsdMetaReferenceIdeal.main_arg1)
          ∧ r.2.mem ((c.tc : Thread Cert.SsdMetaReferenceIdeal.nD Cert.SsdMetaReferenceIdeal.τ).loc Cert.SsdMetaReferenceIdeal.main_arg2) = m' ((c.tc : Thread Cert.SsdMetaReferenceIdeal.nD Cert.SsdMetaReferenceIdeal.τ).loc Cert.SsdMetaReferenceIdeal.main_arg2)
          ∧ r.2.mem ((c.tc : Thread Cert.SsdMetaReferenceIdeal.nD Cert.SsdMetaReferenceIdeal.τ).loc Cert.SsdMetaReferenceIdeal.main_arg3) = m' ((c.tc : Thread Cert.SsdMetaReferenceIdeal.nD Cert.SsdMetaReferenceIdeal.τ).loc Cert.SsdMetaReferenceIdeal.main_arg3)
          ∧ r.2.mem ((c.tc : Thread Cert.SsdMetaReferenceIdeal.nD Cert.SsdMetaReferenceIdeal.τ).loc Cert.SsdMetaReferenceIdeal.main_arg4) = m' ((c.tc : Thread Cert.SsdMetaReferenceIdeal.nD Cert.SsdMetaReferenceIdeal.τ).loc Cert.SsdMetaReferenceIdeal.main_arg4)
          ∧ r.2.mem ((c.tc : Thread Cert.SsdMetaReferenceIdeal.nD Cert.SsdMetaReferenceIdeal.τ).loc Cert.SsdMetaReferenceIdeal.main_arg5) = m' ((c.tc : Thread Cert.SsdMetaReferenceIdeal.nD Cert.SsdMetaReferenceIdeal.τ).loc Cert.SsdMetaReferenceIdeal.main_arg5)
          ∧ r.2.mem ((c.tc : Thread Cert.SsdMetaReferenceIdeal.nD Cert.SsdMetaReferenceIdeal.τ).loc Cert.SsdMetaReferenceIdeal.main_arg6) = m' ((c.tc : Thread Cert.SsdMetaReferenceIdeal.nD Cert.SsdMetaReferenceIdeal.τ).loc Cert.SsdMetaReferenceIdeal.main_arg6)
          ∧ r.2.mem ((c.tc : Thread Cert.SsdMetaReferenceIdeal.nD Cert.SsdMetaReferenceIdeal.τ).loc Cert.SsdMetaReferenceIdeal.main_arg7) = m' ((c.tc : Thread Cert.SsdMetaReferenceIdeal.nD Cert.SsdMetaReferenceIdeal.τ).loc Cert.SsdMetaReferenceIdeal.main_arg7))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMergeOut : Cert.MergeOut.Facts) (hMergeOutIdeal : Cert.MergeOutIdeal.Facts) (hMergeOutReferenceIdeal : Cert.MergeOutReferenceIdeal.Facts) (hInProjMeta : Cert.InProjMeta.Facts) (hInProjMetaIdeal : Cert.InProjMetaIdeal.Facts) (hInProjMetaReferenceIdeal : Cert.InProjMetaReferenceIdeal.Facts) (hSsdMeta : Cert.SsdMeta.Facts) (hSsdMetaIdeal : Cert.SsdMetaIdeal.Facts) (hSsdMetaReferenceIdeal : Cert.SsdMetaReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_MergeOut (hMergeOut := hMergeOut)
    ∧ quiescent_MergeOutIdeal (hMergeOutIdeal := hMergeOutIdeal)
    ∧ quiescent_MergeOutReferenceIdeal (hMergeOutReferenceIdeal := hMergeOutReferenceIdeal)
    ∧ quiescent_InProjMeta (hInProjMeta := hInProjMeta)
    ∧ quiescent_InProjMetaIdeal (hInProjMetaIdeal := hInProjMetaIdeal)
    ∧ quiescent_InProjMetaReferenceIdeal (hInProjMetaReferenceIdeal := hInProjMetaReferenceIdeal)
    ∧ quiescent_SsdMeta (hSsdMeta := hSsdMeta)
    ∧ quiescent_SsdMetaIdeal (hSsdMetaIdeal := hSsdMetaIdeal)
    ∧ quiescent_SsdMetaReferenceIdeal (hSsdMetaReferenceIdeal := hSsdMetaReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_MergeOut_MergeOutIdeal
    ∧ algebraic_MergeOutIdeal_MergeOutReferenceIdeal (hMergeOutIdeal := hMergeOutIdeal) (hMergeOutReferenceIdeal := hMergeOutReferenceIdeal)
    ∧ preserves_InProjMeta_InProjMetaIdeal
    ∧ algebraic_InProjMetaIdeal_InProjMetaReferenceIdeal (hInProjMetaIdeal := hInProjMetaIdeal) (hInProjMetaReferenceIdeal := hInProjMetaReferenceIdeal)
    ∧ preserves_SsdMeta_SsdMetaIdeal
    ∧ algebraic_SsdMetaIdeal_SsdMetaReferenceIdeal (hSsdMetaIdeal := hSsdMetaIdeal) (hSsdMetaReferenceIdeal := hSsdMetaReferenceIdeal)
-- ==== Pre_finite_scores.lean ====
abbrev S8x2048x9728 : Shape := ⟨3, ![8, 2048, 9728]⟩
abbrev S1x128x9728 : Shape := ⟨3, ![1, 128, 9728]⟩
abbrev S1x16 : Shape := ⟨2, ![1, 16]⟩
abbrev S8x2048x1024 : Shape := ⟨3, ![8, 2048, 1024]⟩
abbrev S_ : Shape := ⟨0, ![]⟩
abbrev S8x2048x256 : Shape := ⟨3, ![8, 2048, 256]⟩
abbrev S1x128x256 : Shape := ⟨3, ![1, 128, 256]⟩

class Facts : Prop where
  slices_S8x2048x9728_S8x2048x1024_0_0_0 : S8x2048x9728.Slices ![0, 0, 0] S8x2048x1024
  bitsLt_bf16_f32 : FTy.bits .bf16 < FTy.bits .f32
  bcast_S_S8x2048x1024 : S_.BroadcastsInDim S8x2048x1024 (![] : Fin 0 → Fin S8x2048x1024.rank)
  slices_S8x2048x9728_S8x2048x256_0_0_9216 : S8x2048x9728.Slices ![0, 0, 9216] S8x2048x256
  bcast_S_S8x2048x256 : S_.BroadcastsInDim S8x2048x256 (![] : Fin 0 → Fin S8x2048x256.rank)
  slices_S1x128x9728_S1x128x256_0_0_9216 : S1x128x9728.Slices ![0, 0, 9216] S1x128x256
  bcast_S_S1x128x256 : S_.BroadcastsInDim S1x128x256 (![] : Fin 0 → Fin S1x128x256.rank)
  bcast_S_S1x16 : S_.BroadcastsInDim S1x16 (![] : Fin 0 → Fin S1x16.rank)

variable [Facts]

def fn {F : FTy → Type} [FloatOps F] (main_arg0 : FVec F S8x2048x9728 .bf16) (main_arg1 : FVec F S1x128x9728 .bf16) (main_arg2 : FVec F S1x16 .f32) : IVec S8x2048x1024 1 × IVec S8x2048x256 1 × IVec S1x128x256 1 × IVec S1x16 1 :=
  let main_v0 : FVec F S8x2048x1024 .bf16 := (extractStridedSlice S8x2048x1024 ![0, 0, 0] · slices_S8x2048x9728_S8x2048x1024_0_0_0) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_v5 : FVec F S8x2048x256 .bf16 := (extractStridedSlice S8x2048x256 ![0, 0, 9216] · slices_S8x2048x9728_S8x2048x256_0_0_9216) main_arg0
  let main_v6 : FVec F S8x2048x256 .f32 := (extf .f32 · bitsLt_bf16_f32) main_v5
  let main_v7 : FVec F S8x2048x256 .f32 := Host.absf main_v6
  let main_cst_0 : FVec F S_ .f32 := constant S_ .f32 0x7F800000#32
  let main_v8 : FVec F S8x2048x256 .f32 := broadcastInDim S8x2048x256 ![] bcast_S_S8x2048x256 main_cst_0
  let main_v9 : IVec S8x2048x256 1 := cmpf .olt main_v7 main_v8
  let main_v10 : FVec F S1x128x256 .bf16 := (extractStridedSlice S1x128x256 ![0, 0, 9216] · slices_S1x128x9728_S1x128x256_0_0_9216) main_arg1
  let main_v11 : FVec F S1x128x256 .f32 := (extf .f32 · bitsLt_bf16_f32) main_v10
  let main_v12 : FVec F S1x128x256 .f32 := Host.absf main_v11
  let main_cst_1 : FVec F S_ .f32 := constant S_ .f32 0x7F800000#32
  let main_v13 : FVec F S1x128x256 .f32 := broadcastInDim S1x128x256 ![] bcast_S_S1x128x256 main_cst_1
  let main_v14 : IVec S1x128x256 1 := cmpf .olt main_v12 main_v13
  let main_v15 : FVec F S1x16 .f32 := Host.absf main_arg2
  let main_cst_2 : FVec F S_ .f32 := constant S_ .f32 0x7F800000#32
  let main_v16 : FVec F S1x16 .f32 := broadcastInDim S1x16 ![] bcast_S_S1x16 main_cst_2
  let main_v17 : IVec S1x16 1 := cmpf .olt main_v15 main_v16
  (main_v4, main_v9, main_v14, main_v17)
-- ==== Kernel.lean ====
abbrev S8x2048x9728 : Shape := ⟨3, ![8, 2048, 9728]⟩
abbrev S1x128x9728 : Shape := ⟨3, ![1, 128, 9728]⟩
abbrev S1x16 : Shape := ⟨2, ![1, 16]⟩
abbrev S16 : Shape := ⟨1, ![16]⟩
abbrev S8x2048x1024 : Shape := ⟨3, ![8, 2048, 1024]⟩
abbrev S1x128x1024 : Shape := ⟨3, ![1, 128, 1024]⟩
abbrev S1x128x256 : Shape := ⟨3, ![1, 128, 256]⟩
abbrev S1x16x256 : Shape := ⟨3, ![1, 16, 256]⟩
abbrev S128x128 : Shape := ⟨2, ![128, 128]⟩
abbrev S128x1024 : Shape := ⟨2, ![128, 1024]⟩
abbrev S128x256 : Shape := ⟨2, ![128, 256]⟩
abbrev S256x256 : Shape := ⟨2, ![256, 256]⟩
abbrev S16x256 : Shape := ⟨2, ![16, 256]⟩
abbrev S1 : Shape := ⟨1, ![1]⟩
abbrev S128x64 : Shape := ⟨2, ![128, 64]⟩
abbrev S256x64 : Shape := ⟨2, ![256, 64]⟩
abbrev S16x64 : Shape := ⟨2, ![16, 64]⟩
abbrev S128x16 : Shape := ⟨2, ![128, 16]⟩
abbrev S128 : Shape := ⟨1, ![128]⟩
abbrev S128x1 : Shape := ⟨2, ![128, 1]⟩

abbrev nBuf : Space → Nat
  | .hbm => 5
  | .vmem => 16
  | .smem => 1
  | _ => 0

abbrev bufTy : (tb : Table) → Fin (tcTables nBuf tb) → BufTy
  | .hbm, ⟨0, _⟩ => ⟨S8x2048x9728, .bf16⟩
  | .hbm, ⟨1, _⟩ => ⟨S1x128x9728, .bf16⟩
  | .hbm, ⟨2, _⟩ => ⟨S1x16, .f32⟩
  | .hbm, ⟨3, _⟩ => ⟨S16, .f32⟩
  | .hbm, ⟨4, _⟩ => ⟨S8x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x16x256, .bf16⟩
  | .local _ .vmem, ⟨11, _⟩ => ⟨S1x16x256, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x128x1024, .bf16⟩
  | .local _ .vmem, ⟨15, _⟩ => ⟨S1x128x1024, .bf16⟩
  | .local _ .smem, ⟨0, _⟩ => ⟨S16, .f32⟩
  | _, _ => ⟨S8x2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let c0_i32 : BitVec 32 := 0#32
  ![arg0.toNat, arg1.toNat, c36_i32.toNat]

def cc0_transform_3 (i : grid0.Coords) : Fin 3 → Nat :=
  let arg0 : BitVec 32 := BitVec.ofNat 32 (i 0).val
  let arg1 : BitVec 32 := BitVec.ofNat 32 (i 1).val
  let c37_i32 : BitVec 32 := 37#32
  let c0_i32 : BitVec 32 := 0#32
  ![arg0.toNat, arg1.toNat, c37_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c36_i32 : BitVec 32 := 36#32
  let c0_i32_0 : BitVec 32 := 0#32
  ![arg0.toNat, v1.toNat, c36_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c37_i32 : BitVec 32 := 37#32
  let c0_i32_0 : BitVec 32 := 0#32
  ![arg0.toNat, v1.toNat, c37_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c36_i32 : BitVec 32 := 36#32
  let c0_i32_0 : BitVec 32 := 0#32
  ![c0_i32.toNat, c7_i32.toNat, c36_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c37_i32 : BitVec 32 := 37#32
  let c0_i32_0 : BitVec 32 := 0#32
  ![c0_i32.toNat, c7_i32.toNat, c37_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x2048x9728 : Shape := ⟨3, ![8, 2048, 9728]⟩
abbrev S1x128x9728 : Shape := ⟨3, ![1, 128, 9728]⟩
abbrev S1x16 : Shape := ⟨2, ![1, 16]⟩
abbrev S16 : Shape := ⟨1, ![16]⟩
abbrev S8x128x9728 : Shape := ⟨3, ![8, 128, 9728]⟩
abbrev S8x2176x9728 : Shape := ⟨3, ![8, 2176, 9728]⟩
abbrev S8x2176x1024 : Shape := ⟨3, ![8, 2176, 1024]⟩
abbrev S8x2176x256 : Shape := ⟨3, ![8, 2176, 256]⟩
abbrev S8x16x256 : Shape := ⟨3, ![8, 16, 256]⟩
abbrev S8x16x4x64 : Shape := ⟨4, ![8, 16, 4, 64]⟩
abbrev S8x17x128x4x4x64 : Shape := ⟨6, ![8, 17, 128, 4, 4, 64]⟩
abbrev S_ : Shape := ⟨0, ![]⟩
abbrev S8x17x128x4x64 : Shape := ⟨5, ![8, 17, 128, 4, 64]⟩
abbrev S8x1x128x4x64 : Shape := ⟨5, ![8, 1, 128, 4, 64]⟩
abbrev S8x16x128x4x64 : Shape := ⟨5, ![8, 16, 128, 4, 64]⟩
abbrev S8x17x256x4x64 : Shape := ⟨5, ![8, 17, 256, 4, 64]⟩
abbrev S17 : Shape := ⟨1, ![17]⟩
abbrev S17x1 : Shape := ⟨2, ![17, 1]⟩
abbrev S128 : Shape := ⟨1, ![128]⟩
abbrev S1x128 : Shape := ⟨2, ![1, 128]⟩
abbrev S17x128 : Shape := ⟨2, ![17, 128]⟩
abbrev S256 : Shape := ⟨1, ![256]⟩
abbrev S1x256 : Shape := ⟨2, ![1, 256]⟩
abbrev S17x256 : Shape := ⟨2, ![17, 256]⟩
abbrev S17x128x1 : Shape := ⟨3, ![17, 128, 1]⟩
abbrev S17x1x256 : Shape := ⟨3, ![17, 1, 256]⟩
abbrev S17x128x256 : Shape := ⟨3, ![17, 128, 256]⟩
abbrev S1x1x16 : Shape := ⟨3, ![1, 1, 16]⟩
abbrev S17x128x16 : Shape := ⟨3, ![17, 128, 16]⟩
abbrev S1x1x4x4x1x1 : Shape := ⟨6, ![1, 1, 4, 4, 1, 1]⟩
abbrev S8x17x4x256x128x4 : Shape := ⟨6, ![8, 17, 4, 256, 128, 4]⟩
abbrev S8x17x4x4x128x256 : Shape := ⟨6, ![8, 17, 4, 4, 128, 256]⟩
abbrev S1x17x1x1x128x256 : Shape := ⟨6, ![1, 17, 1, 1, 128, 256]⟩
abbrev S1x17x4x4x128x256 : Shape := ⟨6, ![1, 17, 4, 4, 128, 256]⟩
abbrev S8x4x16x17x128x4 : Shape := ⟨6, ![8, 4, 16, 17, 128, 4]⟩
abbrev S8x17x4x4x128x16 : Shape := ⟨6, ![8, 17, 4, 4, 128, 16]⟩
abbrev S1x17x1x1x128x16 : Shape := ⟨6, ![1, 17, 1, 1, 128, 16]⟩
abbrev S8x17x4x4x128x1 : Shape := ⟨6, ![8, 17, 4, 4, 128, 1]⟩
abbrev S8x17x4x4x128x273 : Shape := ⟨6, ![8, 17, 4, 4, 128, 273]⟩
abbrev S8x17x4x4x128 : Shape := ⟨5, ![8, 17, 4, 4, 128]⟩
abbrev S8x4x64x17x4x128 : Shape := ⟨6, ![8, 4, 64, 17, 4, 128]⟩
abbrev S8x17x4x64x4x128 : Shape := ⟨6, ![8, 17, 4, 64, 4, 128]⟩
abbrev S8x2048x1024 : Shape := ⟨3, ![8, 2048, 1024]⟩

abbrev nBuf : Space → Nat
  | .hbm => 145
  | .vmem => 0
  | .smem => 0
  | _ => 0

abbrev hbmTy0_0 (i : Nat) : BufTy := match i % 128 with
  | 0 => ⟨S8x2048x9728, .bf16⟩
  | 1 => ⟨S1x128x9728, .bf16⟩
  | 2 => ⟨S1x16, .f32⟩
  | 3 => ⟨S16, .f32⟩
  | 4 => ⟨S8x128x9728, .bf16⟩
  | 5 => ⟨S8x2176x9728, .bf16⟩
  | 6 => ⟨S8x2176x9728, .f32⟩
  | 7 => ⟨S8x2176x1024, .f32⟩
  | 8 => ⟨S8x2176x1024, .f32⟩
  | 9 => ⟨S8x2176x256, .f32⟩
  | 10 => ⟨S8x2176x256, .f32⟩
  | 11 => ⟨S16, .f32⟩
  | 12 => ⟨S8x16x256, .f32⟩
  | 13 => ⟨S8x16x4x64, .f32⟩
  | 14 => ⟨S8x16x256, .f32⟩
  | 15 => ⟨S8x16x4x64, .f32⟩
  | 16 => ⟨S8x17x128x4x4x64, .f32⟩
  | 17 => ⟨S_, .f32⟩
  | 18 => ⟨S8x17x128x4x4x64, .f32⟩
  | 19 => ⟨S8x17x128x4x4x64, .f32⟩
  | 20 => ⟨S8x17x128x4x64, .f32⟩
  | 21 => ⟨S8x1x128x4x64, .f32⟩
  | 22 => ⟨S_, .f32⟩
  | 23 => ⟨S8x1x128x4x64, .f32⟩
  | 24 => ⟨S8x16x128x4x64, .f32⟩
  | 25 => ⟨S8x17x128x4x64, .f32⟩
  | 26 => ⟨S8x17x256x4x64, .f32⟩
  | 27 => ⟨S8x17x128x4x64, .f32⟩
  | 28 => ⟨S8x1x128x4x64, .f32⟩
  | 29 => ⟨S_, .f32⟩
  | 30 => ⟨S8x1x128x4x64, .f32⟩
  | 31 => ⟨S8x16x128x4x64, .f32⟩
  | 32 => ⟨S8x17x128x4x64, .f32⟩
  | 33 => ⟨S8x17x256x4x64, .f32⟩
  | 34 => ⟨S17, .i32⟩
  | 35 => ⟨S17x1, .i32⟩
  | 36 => ⟨S_, .i32⟩
  | 37 => ⟨S17x1, .i32⟩
  | 38 => ⟨S17x1, .i32⟩
  | 39 => ⟨S128, .i32⟩
  | 40 => ⟨S1x128, .i32⟩
  | 41 => ⟨S17x128, .i32⟩
  | 42 => ⟨S17x128, .i32⟩
  | 43 => ⟨S17x128, .i32⟩
  | 44 => ⟨S17, .i32⟩
  | 45 => ⟨S17x1, .i32⟩
  | 46 => ⟨S_, .i32⟩
  | 47 => ⟨S17x1, .i32⟩
  | 48 => ⟨S17x1, .i32⟩
  | 49 => ⟨S_, .i32⟩
  | 50 => ⟨S17x1, .i32⟩
  | 51 => ⟨S17x1, .i32⟩
  | 52 => ⟨S256, .i32⟩
  | 53 => ⟨S1x256, .i32⟩
  | 54 => ⟨S17x256, .i32⟩
  | 55 => ⟨S17x256, .i32⟩
  | 56 => ⟨S17x256, .i32⟩
  | 57 => ⟨S17x128x1, .i32⟩
  | 58 => ⟨S17x1x256, .i32⟩
  | 59 => ⟨S17x128x256, .i32⟩
  | 60 => ⟨S17x128x256, .i32⟩
  | 61 => ⟨S17x128x256, .i32⟩
  | 62 => ⟨S_, .i32⟩
  | 63 => ⟨S17x128x256, .i32⟩
  | 64 => ⟨S17x128x256, .i1⟩
  | 65 => ⟨S_, .i32⟩
  | 66 => ⟨S17x128x256, .i32⟩
  | 67 => ⟨S17x128x256, .i1⟩
  | 68 => ⟨S17x128x256, .i1⟩
  | 69 => ⟨S17x1x256, .i32⟩
  | 70 => ⟨S_, .i32⟩
  | 71 => ⟨S17x1x256, .i32⟩
  | 72 => ⟨S17x1x256, .i1⟩
  | 73 => ⟨S17x128x256, .i1⟩
  | 74 => ⟨S17x128x256, .i1⟩
  | 75 => ⟨S16, .i32⟩
  | 76 => ⟨S_, .i32⟩
  | 77 => ⟨S16, .i32⟩
  | 78 => ⟨S16, .i32⟩
  | 79 => ⟨S1x1x16, .i32⟩
  | 80 => ⟨S17x128x1, .i32⟩
  | 81 => ⟨S17x128x16, .i32⟩
  | 82 => ⟨S17x128x16, .i32⟩
  | 83 => ⟨S17x128x16, .i1⟩
  | 84 => ⟨S1x1x4x4x1x1, .f32⟩
  | 85 => ⟨S8x17x4x256x128x4, .f32⟩
  | 86 => ⟨S8x17x4x4x128x256, .f32⟩
  | 87 => ⟨S1x17x1x1x128x256, .i32⟩
  | 88 => ⟨S1x17x1x1x128x256, .f32⟩
  | 89 => ⟨S1x17x4x4x128x256, .f32⟩
  | 90 => ⟨S1x17x4x4x128x256, .f32⟩
  | 91 => ⟨S1x17x4x4x128x256, .f32⟩
  | 92 => ⟨S8x17x4x4x128x256, .f32⟩
  | 93 => ⟨S8x17x4x4x128x256, .f32⟩
  | 94 => ⟨S1x17x1x1x128x256, .i1⟩
  | 95 => ⟨S_, .f32⟩
  | 96 => ⟨S_, .f32⟩
  | 97 => ⟨S8x17x4x4x128x256, .i1⟩
  | 98 => ⟨S8x17x4x4x128x256, .f32⟩
  | 99 => ⟨S8x17x4x4x128x256, .f32⟩
  | 100 => ⟨S8x4x16x17x128x4, .f32⟩
  | 101 => ⟨S8x17x4x4x128x16, .f32⟩
  | 102 => ⟨S1x17x1x1x128x16, .i1⟩
  | 103 => ⟨S_, .f32⟩
  | 104 => ⟨S_, .f32⟩
  | 105 => ⟨S8x17x4x4x128x16, .i1⟩
  | 106 => ⟨S8x17x4x4x128x16, .f32⟩
  | 107 => ⟨S8x17x4x4x128x16, .f32⟩
  | 108 => ⟨S1x1x4x4x1x1, .f32⟩
  | 109 => ⟨S8x17x4x4x128x1, .f32⟩
  | 110 => ⟨S8x17x4x4x128x273, .f32⟩
  | 111 => ⟨S_, .f32⟩
  | 112 => ⟨S8x17x4x4x128, .f32⟩
  | 113 => ⟨S_, .f32⟩
  | 114 => ⟨S8x17x4x4x128, .f32⟩
  | 115 => ⟨S8x17x4x4x128, .f32⟩
  | 116 => ⟨S8x17x4x4x128x1, .f32⟩
  | 117 => ⟨S8x17x4x4x128x273, .f32⟩
  | 118 => ⟨S8x17x4x4x128x273, .f32⟩
  | 119 => ⟨S8x17x4x4x128x273, .f32⟩
  | 120 => ⟨S_, .f32⟩
  | 121 => ⟨S8x17x4x4x128, .f32⟩
  | 122 => ⟨S8x17x4x4x128x1, .f32⟩
  | 123 => ⟨S8x17x4x4x128x273, .f32⟩
  | 124 => ⟨S8x17x4x4x128x273, .f32⟩
  | 125 => ⟨S8x17x4x4x128x16, .f32⟩
  | 126 => ⟨S8x17x4x4x128x256, .f32⟩
  | 127 => ⟨S8x4x64x17x4x128, .f32⟩
  | _ => ⟨S8x2048x9728, .bf16⟩

abbrev hbmTy0_1 (i : Nat) : BufTy := match i % 128 with
  | 0 => ⟨S8x17x128x4x4x64, .f32⟩
  | 1 => ⟨S8x17x4x64x4x128, .f32⟩
  | 2 => ⟨S8x17x128x4x4x64, .f32⟩
  | 3 => ⟨S8x17x128x4x4x64, .f32⟩
  | 4 => ⟨S8x2176x1024, .f32⟩
  | 5 => ⟨S8x2176x1024, .f32⟩
  | 6 => ⟨S8x2176x1024, .f32⟩
  | 7 => ⟨S_, .f32⟩
  | 8 => ⟨S8x2176x1024, .f32⟩
  | 9 => ⟨S8x2176x1024, .f32⟩
  | 10 => ⟨S_, .f32⟩
  | 11 => ⟨S8x2176x1024, .f32⟩
  | 12 => ⟨S8x2176x1024, .f32⟩
  | 13 => ⟨S8x2176x1024, .f32⟩
  | 14 => ⟨S8x2176x1024, .f32⟩
  | 15 => ⟨S8x2048x1024, .f32⟩
  | 16 => ⟨S8x2048x1024, .bf16⟩
  | _ => ⟨S8x2048x9728, .bf16⟩

abbrev hbmTy (i : Nat) : BufTy := match i / 128 with
  | 0 => hbmTy0_0 i
  | 1 => hbmTy0_1 i
  | _ => ⟨S8x2048x9728, .bf16⟩

abbrev bufTy : (tb : Table) → Fin (tcTables nBuf tb) → BufTy
  | .hbm, ⟨i, _⟩ => hbmTy i
  | _, _ => ⟨S8x2048x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_3 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c_5 : Ref sig .tc := ⟨.hbm, 62, rfl⟩
abbrev main_v52 : Ref sig .tc := ⟨.hbm, 63, rfl⟩
abbrev main_v53 : Ref sig .tc := ⟨.hbm, 64, rfl⟩
abbrev main_c_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_9 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_cst_12 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_13 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩

abbrev nD : Nat := 1
abbrev τ : Topo := Topo.v7x

variable {F : FTy → Type} [FloatOps F]
-- ==== InProj.lean ====
abbrev S8x2048x1024 : Shape := ⟨3, ![8, 2048, 1024]⟩
abbrev S1x1024 : Shape := ⟨2, ![1, 1024]⟩
abbrev S1x1024x9760 : Shape := ⟨3, ![1, 1024, 9760]⟩
abbrev S1024x9760 : Shape := ⟨2, ![1024, 9760]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x32 : Shape := ⟨2, ![1024, 32]⟩
abbrev S1024x9728 : Shape := ⟨2, ![1024, 9728]⟩
abbrev S_ : Shape := ⟨0, ![]⟩
abbrev S1024x128 : Shape := ⟨2, ![1024, 128]⟩
abbrev S16384x1024 : Shape := ⟨2, ![16384, 1024]⟩
abbrev S1024 : Shape := ⟨1, ![1024]⟩
abbrev S16384x9728 : Shape := ⟨2, ![16384, 9728]⟩
abbrev S16384x128 : Shape := ⟨2, ![16384, 128]⟩
abbrev S512x1024 : Shape := ⟨2, ![512, 1024]⟩
abbrev S1024x2432 : Shape := ⟨2, ![1024, 2432]⟩
abbrev S512x2432 : Shape := ⟨2, ![512, 2432]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x9760, .f32⟩
  | .hbm, ⟨3, _⟩ => ⟨S1024x9760, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x1024, .f32⟩
  | .hbm, ⟨8, _⟩ => ⟨S1024x2048, .f32⟩
  | .hbm, ⟨9, _⟩ => ⟨S1024x3072, .f32⟩
  | .hbm, ⟨10, _⟩ => ⟨S1024x32, .f32⟩
  | .hbm, ⟨11, _⟩ => ⟨S1024x1024, .f32⟩
  | .hbm, ⟨12, _⟩ => ⟨S1024x1024, .f32⟩
  | .hbm, ⟨13, _⟩ => ⟨S1024x9728, .f32⟩
  | .hbm, ⟨14, _⟩ => ⟨S1024x9728, .bf16⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S16384x1024, .f32⟩
  | .hbm, ⟨20, _⟩ => ⟨S1024, .f32⟩
  | .hbm, ⟨21, _⟩ => ⟨S1x1024, .f32⟩
  | .hbm, ⟨22, _⟩ => ⟨S16384x9728, .bf16⟩
  | .hbm, ⟨23, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S1024x2432, .bf16⟩
  | .local _ .vmem, ⟨5, _⟩ => ⟨S1024x128, .bf16⟩
  | .local _ .vmem, ⟨6, _⟩ => ⟨S512x2432, .bf16⟩
  | .local _ .vmem, ⟨7, _⟩ => ⟨S512x2432, .bf16⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjReferenceIdeal.lean ====
abbrev S8x2048x1024 : Shape := ⟨3, ![8, 2048, 1024]⟩
abbrev S1x1024 : Shape := ⟨2, ![1, 1024]⟩
abbrev S1x1024x9760 : Shape := ⟨3, ![1, 1024, 9760]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x9760 : Shape := ⟨2, ![1024, 9760]⟩
abbrev S8x2048x9760 : Shape := ⟨3, ![8, 2048, 9760]⟩
abbrev S8x2048x256 : Shape := ⟨3, ![8, 2048, 256]⟩
abbrev S8x2048x2048 : Shape := ⟨3, ![8, 2048, 2048]⟩
abbrev S8x2048x3072 : Shape := ⟨3, ![8, 2048, 3072]⟩
abbrev S8x2048x32 : Shape := ⟨3, ![8, 2048, 32]⟩
abbrev S8x2048x9728 : Shape := ⟨3, ![8, 2048, 9728]⟩
abbrev S8x2048x128 : Shape := ⟨3, ![8, 2048, 128]⟩
abbrev S16384x9728 : Shape := ⟨2, ![16384, 9728]⟩
abbrev S16384x128 : Shape := ⟨2, ![16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x9760, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x9760, .f32⟩
  | .hbm, ⟨21, _⟩ => ⟨S8x2048x9760, .f32⟩
  | .hbm, ⟨22, _⟩ => ⟨S8x2048x1024, .f32⟩
  | .hbm, ⟨23, _⟩ => ⟨S8x2048x256, .f32⟩
  | .hbm, ⟨24, _⟩ => ⟨S8x2048x256, .f32⟩
  | .hbm, ⟨25, _⟩ => ⟨S8x2048x1024, .f32⟩
  | .hbm, ⟨26, _⟩ => ⟨S8x2048x2048, .f32⟩
  | .hbm, ⟨27, _⟩ => ⟨S8x2048x3072, .f32⟩
  | .hbm, ⟨28, _⟩ => ⟨S8x2048x32, .f32⟩
  | .hbm, ⟨29, _⟩ => ⟨S8x2048x1024, .f32⟩
  | .hbm, ⟨30, _⟩ => ⟨S8x2048x1024, .f32⟩
  | .hbm, ⟨31, _⟩ => ⟨S8x2048x9728, .f32⟩
  | .hbm, ⟨32, _⟩ => ⟨S8x2048x9728, .bf16⟩
  | .hbm, ⟨33, _⟩ => ⟨S_, .i32⟩
  | .hbm, ⟨34, _⟩ => ⟨S_, .f32⟩
  | .hbm, ⟨35, _⟩ => ⟨S8x2048x128, .f32⟩
  | .hbm, ⟨36, _⟩ => ⟨S16384x9728, .bf16⟩
  | .hbm, ⟨37, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== MergeOut.lean ====
abbrev S8x2048x1024 : Shape := ⟨3, ![8, 2048, 1024]⟩
abbrev S8x2048x2048 : Shape := ⟨3, ![8, 2048, 2048]⟩
abbrev S16384x9728 : Shape := ⟨2, ![16384, 9728]⟩
abbrev S1x1024x1024 : Shape := ⟨3, ![1, 1024, 1024]⟩
abbrev S1x2048x1024 : Shape := ⟨3, ![1, 2048, 1024]⟩
abbrev S1x1024 : Shape := ⟨2, ![1, 1024]⟩
abbrev S16384x1024 : Shape := ⟨2, ![16384, 1024]⟩
abbrev S16384x2048 : Shape := ⟨2, ![16384, 2048]⟩
abbrev S1024x1024 : Shape := ⟨2, ![1024, 1024]⟩
abbrev S2048x1024 : Shape := ⟨2, ![2048, 1024]⟩
abbrev S1024 : Shape := ⟨1, ![1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S16384x9728, .bf16⟩
  | .hbm, ⟨3, _⟩ => ⟨S8x2048x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S16384x1024, .bf16⟩
  | .hbm, ⟨9, _⟩ => ⟨S16384x2048, .bf16⟩
  | .hbm, ⟨10, _⟩ => ⟨S16384x1024, .f32⟩
  | .hbm, ⟨11, _⟩ => ⟨S1024x1024, .f32⟩
  | .hbm, ⟨12, _⟩ => ⟨S1024x1024, .bf16⟩
  | .hbm, ⟨13, _⟩ => ⟨S2048x1024, .f32⟩
  | .hbm, ⟨14, _⟩ => ⟨S2048x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeOutReferenceIdeal.lean ====
abbrev S8x2048x1024 : Shape := ⟨3, ![8, 2048, 1024]⟩
abbrev S8x2048x2048 : Shape := ⟨3, ![8, 2048, 2048]⟩
abbrev S16384x9728 : Shape := ⟨2, ![16384, 9728]⟩
abbrev S1x1024x1024 : Shape := ⟨3, ![1, 1024, 1024]⟩
abbrev S1x2048x1024 : Shape := ⟨3, ![1, 2048, 1024]⟩
abbrev S1x1024 : Shape := ⟨2, ![1, 1024]⟩
abbrev S16384x1024 : Shape := ⟨2, ![16384, 1024]⟩
abbrev S1024x1024 : Shape := ⟨2, ![1024, 1024]⟩
abbrev S16384x2048 : Shape := ⟨2, ![16384, 2048]⟩
abbrev S2048x1024 : Shape := ⟨2, ![2048, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S16384x9728, .bf16⟩
  | .hbm, ⟨3, _⟩ => ⟨S8x2048x1024, .f32⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x2048, .bf16⟩
  | .hbm, ⟨17, _⟩ => ⟨S16384x2048, .f32⟩
  | .hbm, ⟨18, _⟩ => ⟨S2048x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== InProjMeta.lean ====
abbrev S16x1024 : Shape := ⟨2, ![16, 1024]⟩
abbrev S1x1024 : Shape := ⟨2, ![1, 1024]⟩
abbrev S1x1024x9760 : Shape := ⟨3, ![1, 1024, 9760]⟩
abbrev S1024x9760 : Shape := ⟨2, ![1024, 9760]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x32 : Shape := ⟨2, ![1024, 32]⟩
abbrev S1024x9728 : Shape := ⟨2, ![1024, 9728]⟩
abbrev S_ : Shape := ⟨0, ![]⟩
abbrev S1024x128 : Shape := ⟨2, ![1024, 128]⟩
abbrev S112x1024 : Shape := ⟨2, ![112, 1024]⟩
abbrev S128x1024 : Shape := ⟨2, ![128, 1024]⟩
abbrev S1024 : Shape := ⟨1, ![1024]⟩
abbrev S128x9728 : Shape := ⟨2, ![128, 9728]⟩
abbrev S128x128 : Shape := ⟨2, ![128, 128]⟩
abbrev S1024x2432 : Shape := ⟨2, ![1024, 2432]⟩
abbrev S128x2432 : Shape := ⟨2, ![128, 2432]⟩
abbrev S128 : Shape := ⟨1, ![128]⟩
abbrev S128x1 : Shape := ⟨2, ![128, 1]⟩

abbrev nBuf : Space → Nat
  | .hbm => 26
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024x9760, .f32⟩
  | .hbm, ⟨3, _⟩ => ⟨S1024x9760, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x1024, .f32⟩
  | .hbm, ⟨8, _⟩ => ⟨S1024x2048, .f32⟩
  | .hbm, ⟨9, _⟩ => ⟨S1024x3072, .f32⟩
  | .hbm, ⟨10, _⟩ => ⟨S1024x32, .f32⟩
  | .hbm, ⟨11, _⟩ => ⟨S1024x1024, .f32⟩
  | .hbm, ⟨12, _⟩ => ⟨S1024x1024, .f32⟩
  | .hbm, ⟨13, _⟩ => ⟨S1024x9728, .f32⟩
  | .hbm, ⟨14, _⟩ => ⟨S1024x9728, .bf16⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S112x1024, .f32⟩
  | .hbm, ⟨21, _⟩ => ⟨S128x1024, .f32⟩
  | .hbm, ⟨22, _⟩ => ⟨S1024, .f32⟩
  | .hbm, ⟨23, _⟩ => ⟨S1x1024, .f32⟩
  | .hbm, ⟨24, _⟩ => ⟨S128x9728, .bf16⟩
  | .hbm, ⟨25, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x2432, .bf16⟩
  | .local _ .vmem, ⟨3, _⟩ => ⟨S1024x2432, .bf16⟩
  | .local _ .vmem, ⟨4, _⟩ => ⟨S1024x128, .bf16⟩
  | .local _ .vmem, ⟨5, _⟩ => ⟨S128x2432, .bf16⟩
  | .local _ .vmem, ⟨6, _⟩ => ⟨S128x2432, .bf16⟩
  | .local _ .vmem, ⟨7, _⟩ => ⟨S128x128, .f32⟩
  | .local _ .vmem, ⟨8, _⟩ => ⟨S128x1024, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== InProjMetaReferenceIdeal.lean ====
abbrev S16x1024 : Shape := ⟨2, ![16, 1024]⟩
abbrev S1x1024 : Shape := ⟨2, ![1, 1024]⟩
abbrev S1x1024x9760 : Shape := ⟨3, ![1, 1024, 9760]⟩
abbrev S_ : Shape := ⟨0, ![]⟩
abbrev S112x1024 : Shape := ⟨2, ![112, 1024]⟩
abbrev S128x1024 : Shape := ⟨2, ![128, 1024]⟩
abbrev S1024 : Shape := ⟨1, ![1024]⟩
abbrev S128 : Shape := ⟨1, ![128]⟩
abbrev S128x1 : Shape := ⟨2, ![128, 1]⟩
abbrev S1024x9760 : Shape := ⟨2, ![1024, 9760]⟩
abbrev S128x9760 : Shape := ⟨2, ![128, 9760]⟩
abbrev S128x256 : Shape := ⟨2, ![128, 256]⟩
abbrev S128x2048 : Shape := ⟨2, ![128, 2048]⟩
abbrev S128x3072 : Shape := ⟨2, ![128, 3072]⟩
abbrev S128x32 : Shape := ⟨2, ![128, 32]⟩
abbrev S128x9728 : Shape := ⟨2, ![128, 9728]⟩
abbrev S128x128 : Shape := ⟨2, ![128, 128]⟩

abbrev nBuf : Space → Nat
  | .hbm => 39
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024x9760, .f32⟩
  | .hbm, ⟨3, _⟩ => ⟨S_, .f32⟩
  | .hbm, ⟨4, _⟩ => ⟨S112x1024, .f32⟩
  | .hbm, ⟨5, _⟩ => ⟨S128x1024, .f32⟩
  | .hbm, ⟨6, _⟩ => ⟨S1024, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S1024x9760, .f32⟩
  | .hbm, ⟨24, _⟩ => ⟨S128x9760, .f32⟩
  | .hbm, ⟨25, _⟩ => ⟨S128x1024, .f32⟩
  | .hbm, ⟨26, _⟩ => ⟨S128x256, .f32⟩
  | .hbm, ⟨27, _⟩ => ⟨S128x256, .f32⟩
  | .hbm, ⟨28, _⟩ => ⟨S128x1024, .f32⟩
  | .hbm, ⟨29, _⟩ => ⟨S128x2048, .f32⟩
  | .hbm, ⟨30, _⟩ => ⟨S128x3072, .f32⟩
  | .hbm, ⟨31, _⟩ => ⟨S128x32, .f32⟩
  | .hbm, ⟨32, _⟩ => ⟨S128x1024, .f32⟩
  | .hbm, ⟨33, _⟩ => ⟨S128x1024, .f32⟩
  | .hbm, ⟨34, _⟩ => ⟨S128x9728, .f32⟩
  | .hbm, ⟨35, _⟩ => ⟨S128x9728, .bf16⟩
  | .hbm, ⟨36, _⟩ => ⟨S_, .i32⟩
  | .hbm, ⟨37, _⟩ => ⟨S_, .f32⟩
  | .hbm, ⟨38, _⟩ => ⟨S128x128, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== SsdMeta.lean ====
abbrev S1x128x9728 : Shape := ⟨3, ![1, 128, 9728]⟩
abbrev S1x128x128 : Shape := ⟨3, ![1, 128, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S3072 : Shape := ⟨1, ![3072]⟩
abbrev S32 : Shape := ⟨1, ![32]⟩
abbrev S_ : Shape := ⟨0, ![]⟩
abbrev S128 : Shape := ⟨1, ![128]⟩
abbrev S1x128 : Shape := ⟨2, ![1, 128]⟩
abbrev S32x64 : Shape := ⟨2, ![32, 64]⟩
abbrev S2048 : Shape := ⟨1, ![2048]⟩
abbrev S4x3072 : Shape := ⟨2, ![4, 3072]⟩
abbrev S128x2048 : Shape := ⟨2, ![128, 2048]⟩
abbrev S8x3072 : Shape := ⟨2, ![8, 3072]⟩
abbrev S1x128x2048 : Shape := ⟨3, ![1, 128, 2048]⟩
abbrev S1x128x3072 : Shape := ⟨3, ![1, 128, 3072]⟩
abbrev S136x3072 : Shape := ⟨2, ![136, 3072]⟩
abbrev S128x128 : Shape := ⟨2, ![128, 128]⟩
abbrev S128x3072 : Shape := ⟨2, ![128, 3072]⟩
abbrev S128x1 : Shape := ⟨2, ![128, 1]⟩
abbrev S128x512 : Shape := ⟨2, ![128, 512]⟩
abbrev S1x1 : Shape := ⟨2, ![1, 1]⟩
abbrev S256x128 : Shape := ⟨2, ![256, 128]⟩
abbrev S128x256 : Shape := ⟨2, ![128, 256]⟩

abbrev nBuf : Space → Nat
  | .hbm => 33
  | .vmem => 18
  | .smem => 0
  | _ => 0

abbrev bufTy : (tb : Table) → Fin (tcTables nBuf tb) → BufTy
  | .hbm, ⟨0, _⟩ => ⟨S1x128x9728, .bf16⟩
  | .hbm, ⟨1, _⟩ => ⟨S1x128x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S3072, .f32⟩
  | .hbm, ⟨9, _⟩ => ⟨S1x3072, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S32, .f32⟩
  | .hbm, ⟨21, _⟩ => ⟨S32x64, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S4x3072, .f32⟩
  | .hbm, ⟨27, _⟩ => ⟨S_, .f32⟩
  | .hbm, ⟨28, _⟩ => ⟨S128x2048, .f32⟩
  | .hbm, ⟨29, _⟩ => ⟨S_, .f32⟩
  | .hbm, ⟨30, _⟩ => ⟨S8x3072, .f32⟩
  | .hbm, ⟨31, _⟩ => ⟨S128x2048, .f32⟩
  | .hbm, ⟨32, _⟩ => ⟨S8x3072, .f32⟩
  | .local _ .vmem, ⟨0, _⟩ => ⟨S1x128x2048, .bf16⟩
  | .local _ .vmem, ⟨1, _⟩ => ⟨S1x128x3072, .bf16⟩
  | .local _ .vmem, ⟨2, _⟩ => ⟨S1x128x128, .f32⟩
  | .local _ .vmem, ⟨3, _⟩ => ⟨S4x3072, .f32⟩
  | .local _ .vmem, ⟨4, _⟩ => ⟨S1x3072, .f32⟩
  | .local _ .vmem, ⟨5, _⟩ => ⟨S1x128, .f32⟩
  | .local _ .vmem, ⟨6, _⟩ => ⟨S1x128, .f32⟩
  | .local _ .vmem, ⟨7, _⟩ => ⟨S1x2048, .f32⟩
  | .local _ .vmem, ⟨8, _⟩ => ⟨S1x2048, .f32⟩
  | .local _ .vmem, ⟨9, _⟩ => ⟨S128x2048, .f32⟩
  | .local _ .vmem, ⟨10, _⟩ => ⟨S8x3072, .f32⟩
  | .local _ .vmem, ⟨11, _⟩ => ⟨S128x2048, .f32⟩
  | .local _ .vmem, ⟨12, _⟩ => ⟨S8x3072, .f32⟩
  | .local _ .vmem, ⟨13, _⟩ => ⟨S128x2048, .f32⟩
  | .local _ .vmem, ⟨14, _⟩ => ⟨S136x3072, .f32⟩
  | .local _ .vmem, ⟨15, _⟩ => ⟨S128x2048, .f32⟩
  | .local _ .vmem, ⟨16, _⟩ => ⟨S128x128, .f32⟩
  | .local _ .vmem, ⟨17, _⟩ => ⟨S128x128, .f32⟩
  | _, _ => ⟨S1x128x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_240 : BitVec 32 := 0#32
  let v889 : BitVec 1 := Scalar.cmpi .eq arg1 c0_i32_240
  let v890 : BitVec 32 := Scalar.extui v889
  let c0_i32_241 : BitVec 32 := 0#32
  let v891 : BitVec 1 := Scalar.cmpi .ne v890 c0_i32_241
  v891

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== SsdMetaReferenceIdeal.lean ====
abbrev S1x128x9728 : Shape := ⟨3, ![1, 128, 9728]⟩
abbrev S1x128x128 : Shape := ⟨3, ![1, 128, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S1x128x3072 : Shape := ⟨3, ![1, 128, 3072]⟩
abbrev S128x3072 : Shape := ⟨2, ![128, 3072]⟩
abbrev S128 : Shape := ⟨1, ![128]⟩
abbrev S_ : Shape := ⟨0, ![]⟩
abbrev S4x3072 : Shape := ⟨2, ![4, 3072]⟩
abbrev S3072 : Shape := ⟨1, ![3072]⟩
abbrev S131x3072 : Shape := ⟨2, ![131, 3072]⟩
abbrev S128x1 : Shape := ⟨2, ![128, 1]⟩
abbrev S128x2048 : Shape := ⟨2, ![128, 2048]⟩
abbrev S128x32x64 : Shape := ⟨3, ![128, 32, 64]⟩
abbrev S128x512 : Shape := ⟨2, ![128, 512]⟩
abbrev S128x4x128 : Shape := ⟨3, ![128, 4, 128]⟩
abbrev S1x128x32 : Shape := ⟨3, ![1, 128, 32]⟩
abbrev S128x32 : Shape := ⟨2, ![128, 32]⟩
abbrev S32 : Shape := ⟨1, ![32]⟩
abbrev S128x32x1 : Shape := ⟨3, ![128, 32, 1]⟩
abbrev S128x4x8x64 : Shape := ⟨4, ![128, 4, 8, 64]⟩
abbrev S128x4x8 : Shape := ⟨3, ![128, 4, 8]⟩
abbrev S4x8x128 : Shape := ⟨3, ![4, 8, 128]⟩
abbrev S4x8x1 : Shape := ⟨3, ![4, 8, 1]⟩
abbrev S128x4x8x1 : Shape := ⟨4, ![128, 4, 8, 1]⟩
abbrev S4x8x64x128 : Shape := ⟨4, ![4, 8, 64, 128]⟩
abbrev S8x3072 : Shape := ⟨2, ![8, 3072]⟩

abbrev nBuf : Space → Nat
  | .hbm => 117
  | .vmem => 0
  | .smem => 0
  | _ => 0

abbrev bufTy : (tb : Table) → Fin (tcTables nBuf tb) → BufTy
  | .hbm, ⟨0, _⟩ => ⟨S1x128x9728, .bf16⟩
  | .hbm, ⟨1, _⟩ => ⟨S1x128x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S1x128x3072, .bf16⟩
  | .hbm, ⟨9, _⟩ => ⟨S128x3072, .bf16⟩
  | .hbm, ⟨10, _⟩ => ⟨S128x3072, .f32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .f32⟩
  | .hbm, ⟨16, _⟩ => ⟨S4x3072, .f32⟩
  | .hbm, ⟨17, _⟩ => ⟨S3072, .f32⟩
  | .hbm, ⟨18, _⟩ => ⟨S_, .i32⟩
  | .hbm, ⟨19, _⟩ => ⟨S_, .f32⟩
  | .hbm, ⟨20, _⟩ => ⟨S131x3072, .f32⟩
  | .hbm, ⟨21, _⟩ => ⟨S1x3072, .f32⟩
  | .hbm, ⟨22, _⟩ => ⟨S3072, .f32⟩
  | .hbm, ⟨23, _⟩ => ⟨S128x3072, .f32⟩
  | .hbm, ⟨24, _⟩ => ⟨S1x3072, .f32⟩
  | .hbm, ⟨25, _⟩ => ⟨S128x3072, .f32⟩
  | .hbm, ⟨26, _⟩ => ⟨S128x3072, .f32⟩
  | .hbm, ⟨27, _⟩ => ⟨S_, .f32⟩
  | .hbm, ⟨28, _⟩ => ⟨S128x3072, .f32⟩
  | .hbm, ⟨29, _⟩ => ⟨S128x3072, .f32⟩
  | .hbm, ⟨30, _⟩ => ⟨S1x3072, .f32⟩
  | .hbm, ⟨31, _⟩ => ⟨S3072, .f32⟩
  | .hbm, ⟨32, _⟩ => ⟨S128x3072, .f32⟩
  | .hbm, ⟨33, _⟩ => ⟨S1x3072, .f32⟩
  | .hbm, ⟨34, _⟩ => ⟨S128x3072, .f32⟩
  | .hbm, ⟨35, _⟩ => ⟨S128x3072, .f32⟩
  | .hbm, ⟨36, _⟩ => ⟨S128x3072, .f32⟩
  | .hbm, ⟨37, _⟩ => ⟨S1x3072, .f32⟩
  | .hbm, ⟨38, _⟩ => ⟨S3072, .f32⟩
  | .hbm, ⟨39, _⟩ => ⟨S128x3072, .f32⟩
  | .hbm, ⟨40, _⟩ => ⟨S1x3072, .f32⟩
  | .hbm, ⟨41, _⟩ => ⟨S128x3072, .f32⟩
  | .hbm, ⟨42, _⟩ => ⟨S128x3072, .f32⟩
  | .hbm, ⟨43, _⟩ => ⟨S128x3072, .f32⟩
  | .hbm, ⟨44, _⟩ => ⟨S1x3072, .f32⟩
  | .hbm, ⟨45, _⟩ => ⟨S3072, .f32⟩
  | .hbm, ⟨46, _⟩ => ⟨S128x3072, .f32⟩
  | .hbm, ⟨47, _⟩ => ⟨S1x3072, .f32⟩
  | .hbm, ⟨48, _⟩ => ⟨S128x3072, .f32⟩
  | .hbm, ⟨49, _⟩ => ⟨S128x3072, .f32⟩
  | .hbm, ⟨50, _⟩ => ⟨S128x3072, .f32⟩
  | .hbm, ⟨51, _⟩ => ⟨S1x3072, .f32⟩
  | .hbm, ⟨52, _⟩ => ⟨S128x3072, .f32⟩
  | .hbm, ⟨53, _⟩ => ⟨S128x3072, .f32⟩
  | .hbm, ⟨54, _⟩ => ⟨S128x3072, .f32⟩
  | .hbm, ⟨55, _⟩ => ⟨S128x3072, .f32⟩
  | .hbm, ⟨56, _⟩ => ⟨S_, .f32⟩
  | .hbm, ⟨57, _⟩ => ⟨S128x3072, .f32⟩
  | .hbm, ⟨58, _⟩ => ⟨S128x3072, .f32⟩
  | .hbm, ⟨59, _⟩ => ⟨S_, .f32⟩
  | .hbm, ⟨60, _⟩ => ⟨S128x3072, .f32⟩
  | .hbm, ⟨61, _⟩ => ⟨S128x3072, .f32⟩
  | .hbm, ⟨62, _⟩ => ⟨S128x3072, .f32⟩
  | .hbm, ⟨63, _⟩ => ⟨S128x1, .f32⟩
  | .hbm, ⟨64, _⟩ => ⟨S128x3072, .f32⟩
  | .hbm, ⟨65, _⟩ => ⟨S128x3072, .f32⟩
  | .hbm, ⟨66, _⟩ => ⟨S128x2048, .f32⟩
  | .hbm, ⟨67, _⟩ => ⟨S128x32x64, .f32⟩
  | .hbm, ⟨68, _⟩ => ⟨S128x512, .f32⟩
  | .hbm, ⟨69, _⟩ => ⟨S128x4x128, .f32⟩
  | .hbm, ⟨70, _⟩ => ⟨S1x128x32, .f32⟩
  | .hbm, ⟨71, _⟩ => ⟨S128x32, .f32⟩
  | .hbm, ⟨72, _⟩ => ⟨S32, .f32⟩
  | .hbm, ⟨73, _⟩ => ⟨S1x32, .f32⟩
  | .hbm, ⟨74, _⟩ => ⟨S128x32, .f32⟩
  | .hbm, ⟨75, _⟩ => ⟨S128x32, .f32⟩
  | .hbm, ⟨76, _⟩ => ⟨S_, .f32⟩
  | .hbm, ⟨77, _⟩ => ⟨S128x32, .f32⟩
  | .hbm, ⟨78, _⟩ => ⟨S128x32, .f32⟩
  | .hbm, ⟨79, _⟩ => ⟨S128x32, .f32⟩
  | .hbm, ⟨80, _⟩ => ⟨S128x32, .f32⟩
  | .hbm, ⟨81, _⟩ => ⟨S128x32, .i1⟩
  | .hbm, ⟨82, _⟩ => ⟨S128x32, .f32⟩
  | .hbm, ⟨83, _⟩ => ⟨S128x32, .f32⟩
  | .hbm, ⟨84, _⟩ => ⟨S128x32, .f32⟩
  | .hbm, ⟨85, _⟩ => ⟨S128x32, .f32⟩
  | .hbm, ⟨86, _⟩ => ⟨S128x32, .f32⟩
  | .hbm, ⟨87, _⟩ => ⟨S128x32, .f32⟩
  | .hbm, ⟨88, _⟩ => ⟨S128x32, .f32⟩
  | .hbm, ⟨89, _⟩ => ⟨S128x32, .f32⟩
  | .hbm, ⟨90, _⟩ => ⟨S32, .f32⟩
  | .hbm, ⟨91, _⟩ => ⟨S32, .f32⟩
  | .hbm, ⟨92, _⟩ => ⟨S32, .f32⟩
  | .hbm, ⟨93, _⟩ => ⟨S128x32x1, .f32⟩
  | .hbm, ⟨94, _⟩ => ⟨S128x32x64, .f32⟩
  | .hbm, ⟨95, _⟩ => ⟨S128x32x64, .f32⟩
  | .hbm, ⟨96, _⟩ => ⟨S128x4x8x64, .f32⟩
  | .hbm, ⟨97, _⟩ => ⟨S1x32, .f32⟩
  | .hbm, ⟨98, _⟩ => ⟨S128x32, .f32⟩
  | .hbm, ⟨99, _⟩ => ⟨S128x32, .f32⟩
  | .hbm, ⟨100, _⟩ => ⟨S128x4x8, .f32⟩
  | .hbm, ⟨101, _⟩ => ⟨S4x8x128, .f32⟩
  | .hbm, ⟨102, _⟩ => ⟨S_, .f32⟩
  | .hbm, ⟨103, _⟩ => ⟨S_, .f32⟩
  | .hbm, ⟨104, _⟩ => ⟨S4x8x128, .f32⟩
  | .hbm, ⟨105, _⟩ => ⟨S4x8x1, .f32⟩
  | .hbm, ⟨106, _⟩ => ⟨S4x8x128, .f32⟩
  | .hbm, ⟨107, _⟩ => ⟨S4x8x128, .f32⟩
  | .hbm, ⟨108, _⟩ => ⟨S4x8x128, .f32⟩
  | .hbm, ⟨109, _⟩ => ⟨S128x4x8, .f32⟩
  | .hbm, ⟨110, _⟩ => ⟨S128x4x8x1, .f32⟩
  | .hbm, ⟨111, _⟩ => ⟨S128x4x8x64, .f32⟩
  | .hbm, ⟨112, _⟩ => ⟨S128x4x8x64, .f32⟩
  | .hbm, ⟨113, _⟩ => ⟨S4x8x64x128, .f32⟩
  | .hbm, ⟨114, _⟩ => ⟨S128x4x8x64, .f32⟩
  | .hbm, ⟨115, _⟩ => ⟨S128x2048, .f32⟩
  | .hbm, ⟨116, _⟩ => ⟨S8x3072, .f32⟩
  | _, _ => ⟨S1x128x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call3_call0_cst : Ref sig .tc := ⟨.hbm, 102, rfl⟩
abbrev main_call3_call0_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Proof.AttnCore.lean ====
/- The equation of the two attentions at one row and one channel, over the extended reals, free of any program.
   One side keeps in every column the one key of two blocks that the query sees, sums the weighted values and divides the
   sums by the weights' sum; the other joins sink, meta keys and both blocks along one axis, minus infinity where a key is
   not seen, and sums the weighted values with every weight divided beforehand. -/
module

public import Idealize.ShloMosaic.Lib.Pointwise

@[expose] public section

noncomputable section

namespace Cert.Proof.AttnCore

open Idealize.ShloMosaic

/-- The exponential is nowhere negative. -/
theorem exp_nonneg (x : EReal) : 0 ≤ Ideal.exp x := by
  induction x with
  | bot => simp
  | top => simp
  | coe r => simpa using (Real.exp_pos r).le

/-- A finite factor, not negative, goes into a sum. -/
theorem sum_mul {n : Nat} (f : Fin n → EReal) {i : EReal} (h0 : 0 ≤ i) (ht : i ≠ ⊤) :
    (∑ k, f k) * i = ∑ k, f k * i := by
  have : ∀ s : Finset (Fin n), (∑ k ∈ s, f k) * i = ∑ k ∈ s, f k * i := by
    intro s
    induction s using Finset.induction_on with
    | empty => simp
    | insert a s ha ih => rw [Finset.sum_insert ha, Finset.sum_insert ha,
        EReal.right_distrib_of_nonneg_of_ne_top h0 ht, ih]
  exact this _

/-- Over a positive number, a quotient is a product with a factor that is finite and not negative. -/
theorem div_pos {d : EReal} (hd : 1 ≤ d) : ∃ i : EReal, 0 ≤ i ∧ i ≠ ⊤ ∧ ∀ x, Ideal.div x d = x * i := by
  have h0 : d ≠ 0 := fun e => by rw [e] at hd; exact absurd hd (by norm_num)
  refine ⟨d⁻¹, EReal.inv_nonneg_of_nonneg (le_trans zero_le_one hd), ?_, fun x => by rw [Ideal.div, if_neg h0]⟩
  induction d with
  | bot => exact absurd (le_bot_iff.mp hd) (EReal.coe_ne_bot 1)
  | top => simp
  | coe r => rw [← EReal.coe_inv]; exact EReal.coe_ne_top _

/-- A sum along the joined axis, piece by piece. -/
theorem sum_joined (f : Fin 273 → EReal) :
    ∑ k, f k = f 0 + (∑ x : Fin 16, f ⟨1 + x.val, by omega⟩
      + (∑ s : Fin 128, f ⟨17 + s.val, by omega⟩ + ∑ s : Fin 128, f ⟨145 + s.val, by omega⟩)) := by
  rw [Fin.sum_univ_two_halves 1 272 rfl f, Fin.sum_univ_two_halves 16 256 rfl (fun k : Fin 272 => f ⟨1 + k.val, by omega⟩),
    Fin.sum_univ_two_halves 128 128 rfl (fun k : Fin 256 => f ⟨1 + (16 + k.val), by omega⟩)]
  have e : ∀ (a b : Nat) (ha : a < 273) (hb : b < 273), a = b → f ⟨a, ha⟩ = f ⟨b, hb⟩ := fun a b ha hb h => by subst h; rfl
  refine congrArg₂ (· + ·) (Fin.sum_univ_one _) (congrArg₂ (· + ·) rfl (congrArg₂ (· + ·) ?_ ?_))
  · exact Finset.sum_congr rfl fun s _ => e _ _ _ _ (by simp only; omega)
  · exact Finset.sum_congr rfl fun s _ => e _ _ _ _ (by simp only; omega)

/-- What one row of the two programs' scores holds: in the tile `S` column `s` is `B s` where the query sees the key of
    its own block and `A s` elsewhere; the joined scores `J` are the sink, the meta scores `M`, `A` and `B`. -/
structure Row (r : Fin 128) (S A B : Fin 128 → EReal) (M : Fin 16 → EReal) (sk : EReal) (J : Fin 273 → EReal) : Prop where
  tile : ∀ s, S s = if s ≤ r then B s else A s
  hidA : ∀ s, s ≤ r → A s = ⊥
  hidB : ∀ s, ¬ s ≤ r → B s = ⊥
  topA : ∀ s, A s ≠ ⊤
  topB : ∀ s, B s ≠ ⊤
  topM : ∀ x, M x ≠ ⊤
  topS : sk ≠ ⊤
  botS : sk ≠ ⊥
  j0 : J 0 = sk
  jM : ∀ x : Fin 16, J ⟨1 + x.val, by omega⟩ = M x
  jA : ∀ s : Fin 128, J ⟨17 + s.val, by omega⟩ = A s
  jB : ∀ s : Fin 128, J ⟨145 + s.val, by omega⟩ = B s

variable {r : Fin 128} {S A B : Fin 128 → EReal} {M : Fin 16 → EReal} {sk : EReal} {J : Fin 273 → EReal}

/-- Every place of the joined axis is the sink, a meta key, or a key of one of the two blocks. -/
theorem place_cases (P : Fin 273 → Prop) (h0 : P 0) (h1 : ∀ x : Fin 16, P ⟨1 + x.val, by omega⟩)
    (h2 : ∀ s : Fin 128, P ⟨17 + s.val, by omega⟩) (h3 : ∀ s : Fin 128, P ⟨145 + s.val, by omega⟩) (k : Fin 273) : P k := by
  have e : ∀ (a b : Nat) (ha : a < 273) (hb : b < 273), a = b → P ⟨a, ha⟩ → P ⟨b, hb⟩ := fun a b ha hb h p => by subst h; exact p
  obtain ⟨k, hk⟩ := k
  by_cases c0 : k = 0
  · subst c0; exact h0
  by_cases c1 : k < 17
  · exact e _ _ _ hk (by simp only; omega) (h1 ⟨k - 1, by omega⟩)
  by_cases c2 : k < 145
  · exact e _ _ _ hk (by simp only; omega) (h2 ⟨k - 17, by omega⟩)
  · exact e _ _ _ hk (by simp only; omega) (h3 ⟨k - 145, by omega⟩)

/-- The two programs find the same largest score. -/
theorem Row.top_eq (h : Row r S A B M sk J) :
    max ⊥ (Finset.univ.fold max ⊥ J) = max (max (Finset.univ.fold max ⊥ S) (Finset.univ.fold max ⊥ M)) sk := by
  show max ⊥ (Finset.univ.sup J) = max (max (Finset.univ.sup S) (Finset.univ.sup M)) sk
  rw [max_eq_right bot_le]
  have hS : ∀ s, S s ≤ max (max (Finset.univ.sup S) (Finset.univ.sup M)) sk := fun s =>
    le_trans (Finset.le_sup (f := S) (Finset.mem_univ s)) (le_trans (le_max_left _ _) (le_max_left _ _))
  have hJ : ∀ k, J k ≤ Finset.univ.sup J := fun k => Finset.le_sup (f := J) (Finset.mem_univ k)
  apply le_antisymm
  · refine Finset.sup_le fun k _ => ?_
    refine place_cases (fun k => J k ≤ max (max (Finset.univ.sup S) (Finset.univ.sup M)) sk) ?_ ?_ ?_ ?_ k
    · rw [h.j0]; exact le_max_right _ _
    · intro x; rw [h.jM]
      exact le_trans (Finset.le_sup (f := M) (Finset.mem_univ x)) (le_trans (le_max_right _ _) (le_max_left _ _))
    · intro s; rw [h.jA]
      by_cases c : s ≤ r
      · rw [h.hidA s c]; exact bot_le
      · refine le_trans (le_of_eq ?_) (hS s); rw [h.tile, if_neg c]
    · intro s; rw [h.jB]
      by_cases c : s ≤ r
      · refine le_trans (le_of_eq ?_) (hS s); rw [h.tile, if_pos c]
      · rw [h.hidB s c]; exact bot_le
  · refine max_le (max_le (Finset.sup_le fun s _ => ?_) (Finset.sup_le fun x _ => ?_)) ?_
    · rw [h.tile]
      split
      · rw [← h.jB]; exact hJ _
      · rw [← h.jA]; exact hJ _
    · rw [← h.jM]; exact hJ _
    · rw [← h.j0]; exact hJ _

/-- The largest score is a finite number, taken at some place. -/
theorem Row.top_at (h : Row r S A B M sk J) : ∃ k, J k = max ⊥ (Finset.univ.fold max ⊥ J) ∧ J k ≠ ⊤ ∧ J k ≠ ⊥ := by
  have e : max ⊥ (Finset.univ.fold max ⊥ J) = Finset.univ.sup J := max_eq_right bot_le
  obtain ⟨k, -, hk⟩ := Finset.exists_mem_eq_sup Finset.univ ⟨0, Finset.mem_univ _⟩ J
  refine ⟨k, by rw [e, hk], ?_, ?_⟩
  · refine place_cases (fun k => J k ≠ ⊤) ?_ ?_ ?_ ?_ k
    · rw [h.j0]; exact h.topS
    · intro x; rw [h.jM]; exact h.topM x
    · intro s; rw [h.jA]; exact h.topA s
    · intro s; rw [h.jB]; exact h.topB s
  · intro hb
    have : J 0 ≤ J k := by rw [← hk]; exact Finset.le_sup (f := J) (Finset.mem_univ 0)
    rw [hb, h.j0] at this
    exact h.botS (le_bot_iff.mp this)

/-- Less anything, minus infinity stays, and its exponential is zero. -/
theorem exp_bot_sub (m : EReal) : Ideal.exp (⊥ - m) = 0 := by rw [sub_eq_add_neg, EReal.bot_add, Ideal.exp_bot]

/-- The weights of a tile's row, summed: those of the two blocks. -/
theorem Row.sum_tile (h : Row r S A B M sk J) (m : EReal) :
    ∑ s, Ideal.exp (S s - m) = ∑ s, Ideal.exp (A s - m) + ∑ s, Ideal.exp (B s - m) := by
  rw [← Finset.sum_add_distrib]
  refine Finset.sum_congr rfl fun s _ => ?_
  rw [h.tile]
  split
  · rename_i c; rw [h.hidA s c, exp_bot_sub, zero_add]
  · rename_i c; rw [h.hidB s c, exp_bot_sub, add_zero]

/-- The weights' sums agree. -/
theorem Row.total_eq (h : Row r S A B M sk J) (m : EReal) :
    ∑ k, Ideal.exp (J k - m) = ∑ s, Ideal.exp (S s - m) + ∑ x, Ideal.exp (M x - m) + Ideal.exp (sk - m) := by
  rw [h.sum_tile, sum_joined]
  simp only [h.j0, h.jM, h.jA, h.jB]
  ac_rfl

/-- The equation of the two sides. -/
theorem Row.equation (h : Row r S A B M sk J) (vp vp' vc : Fin 128 → EReal) (vm : Fin 16 → EReal)
    (hv : ∀ s, A s ≠ ⊥ → vp' s = vp s) (mk mr : EReal)
    (hmk : mk = max (max (Finset.univ.fold max ⊥ S) (Finset.univ.fold max ⊥ M)) sk)
    (hmr : mr = max ⊥ (Finset.univ.fold max ⊥ J)) :
    Ideal.div (∑ s, (if s ≤ r then 0 else Ideal.exp (S s - mk) * vp s)
        + ∑ s, (if s ≤ r then Ideal.exp (S s - mk) * vc s else 0) + ∑ x, Ideal.exp (M x - mk) * vm x)
      (∑ s, Ideal.exp (S s - mk) + ∑ x, Ideal.exp (M x - mk) + Ideal.exp (sk - mk))
    = ∑ x, vm x * Ideal.div (Ideal.exp (J ⟨1 + x.val, by omega⟩ - mr)) (∑ k, Ideal.exp (J k - mr))
      + (∑ s : Fin 128, vp' s * Ideal.div (Ideal.exp (J ⟨17 + s.val, by omega⟩ - mr)) (∑ k, Ideal.exp (J k - mr))
        + ∑ s : Fin 128, vc s * Ideal.div (Ideal.exp (J ⟨145 + s.val, by omega⟩ - mr)) (∑ k, Ideal.exp (J k - mr))) := by
  have hm : mk = mr := by rw [hmk, hmr, h.top_eq]
  subst hm
  rw [← h.total_eq]
  have hone : 1 ≤ ∑ k, Ideal.exp (J k - mk) := by
    obtain ⟨k, hk, ht, hb⟩ := h.top_at
    have : Ideal.exp (J k - mk) = 1 := by
      rw [hmr, ← hk, EReal.sub_self ht hb]
      show Ideal.exp ((0 : ℝ) : EReal) = 1
      rw [Ideal.exp_coe, Real.exp_zero]; rfl
    rw [← this]
    exact Finset.single_le_sum (f := fun k => Ideal.exp (J k - mk)) (fun k _ => exp_nonneg _) (Finset.mem_univ k)
  obtain ⟨i, h0, ht, hi⟩ := div_pos hone
  simp only [hi, h.jM, h.jA, h.jB]
  rw [EReal.right_distrib_of_nonneg_of_ne_top h0 ht, EReal.right_distrib_of_nonneg_of_ne_top h0 ht, sum_mul _ h0 ht,
    sum_mul _ h0 ht, sum_mul _ h0 ht]
  rw [add_comm]
  congr 1
  · exact Finset.sum_congr rfl fun x _ => by ac_rfl
  congr 1
  · refine Finset.sum_congr rfl fun s _ => ?_
    by_cases c : s ≤ r
    · rw [if_pos c, h.hidA s c, exp_bot_sub]; simp only [zero_mul, mul_zero]
    · rw [if_neg c, h.tile, if_neg c]
      by_cases a : A s = ⊥
      · rw [a, exp_bot_sub]; simp only [zero_mul, mul_zero]
      · rw [hv s a]; ac_rfl
  · refine Finset.sum_congr rfl fun s _ => ?_
    by_cases c : s ≤ r
    · rw [if_pos c, h.tile, if_pos c]; ac_rfl
    · rw [if_neg c, h.hidB s c, exp_bot_sub]; simp only [zero_mul, mul_zero]

end Cert.Proof.AttnCore

end
-- ==== Proof.AttnHead.lean ====
/- One head of the attention kernel's body as a function of the blocks it loads, and the whole body as the sixteen heads
   side by side, gated. The last theorem says that what a grid point leaves in the result's block is that function of the
   point's input blocks. -/
module

public import proofs.«01_k».proof.Proof.Gen.KernelIdeal.Value
public import Idealize.ShloMosaic.Lib.Pointwise

@[expose] public section

noncomputable section

namespace Cert.Proof.AttnHead

open Cert.KernelIdeal Cert.KernelIdeal.Gen Cert.KernelIdeal.Value Idealize.ShloMosaic Idealize.ShloMosaic.TcCoe
open Idealize.SL.Sem

variable {F : FTy → Type} [FloatOps F]

/-- The keys of a tile: row `i`, column `j`, a key of the query's own block where `j ≤ i`. -/
def own : IVec S128x128 1 :=
  cmpi .sle (iota .tc S128x128 32 [1] iota_S128x128_d1_w32) (iota .tc S128x128 32 [0] iota_S128x128_d0_w32)

/-- How far the key of column `j` lies behind the query of row `i`. -/
def behind : FVec F S128x128 .f32 :=
  sitofp .f32 (select own
    (subi (iota .tc S128x128 32 [0] iota_S128x128_d0_w32) (iota .tc S128x128 32 [1] iota_S128x128_d1_w32))
    (addi (subi (iota .tc S128x128 32 [0] iota_S128x128_d0_w32) (iota .tc S128x128 32 [1] iota_S128x128_d1_w32))
      (broadcast S128x128 128#32)))

/-- Two blocks of 128 rows, one below the other. -/
def twoBlocks (x y : Vec F S1x128x256 .bf16) : FVec F S256x256 .bf16 :=
  concatenate S256x256 0 [⟨S128x256, shapeCast S128x256 x shapeCasts_S1x128x256_S128x256⟩,
    ⟨S128x256, shapeCast S128x256 y shapeCasts_S1x128x256_S128x256⟩] concatenates_S128x256_S128x256_S256x256_d0

/-- The head's queries from column `oq`, times 1/8. -/
def query (oq : Nat) (hq : S128x1024.Slices ![0, oq] S128x64) (x : Vec F S1x128x1024 .bf16) : FVec F S128x64 .bf16 :=
  mulf (extractStridedSlice S128x64 ![0, oq] (shapeCast S128x1024 x shapeCasts_S1x128x1024_S128x1024) hq)
    (broadcast S128x64 (Scalar.ofBits .bf16 0x3E00#16))

/-- The queries' products with the keys of the block before and of their own block. -/
def bandProd (og : Nat) (hk : S256x256.Slices ![0, og] S256x64) (q : FVec F S128x64 .bf16) (kb : FVec F S256x256 .bf16) :
    FVec F S128x256 .f32 :=
  matmul dot_S128x64_S256x64_S128x256_1_1_0_0_n_n none q (extractStridedSlice S256x64 ![0, og] kb hk)
    (constant S128x256 .f32 0x00000000#32)

/-- The queries' products with the meta keys. -/
def metaProd (og : Nat) (hm : S16x256.Slices ![0, og] S16x64) (q : FVec F S128x64 .bf16) (km : FVec F S16x256 .bf16) :
    FVec F S128x16 .f32 :=
  matmul dot_S128x64_S16x64_S128x16_1_1_0_0_n_n none q (extractStridedSlice S16x64 ![0, og] km hm)
    (constant S128x16 .f32 0x00000000#32)

/-- The tile's scores: in column `j` the one key of the two blocks that the query sees there. -/
def tile (slope : BitVec 32) (first : BitVec 1) (s : FVec F S128x256 .f32) : FVec F S128x128 .f32 :=
  subf (select own (extractStridedSlice S128x128 ![0, 128] s slices_S128x256_o0_128_S128x128)
      (Scalar.select first (extractStridedSlice S128x128 ![0, 0] s slices_S128x256_o0_0_S128x128)
        (broadcast S128x128 (Scalar.ofBits .f32 0xFF800000#32))))
    (mulf (broadcast S128x128 (Scalar.ofBits .f32 slope)) behind)

/-- The largest of a row's scores. -/
def rowTop (s : FVec F S128x128 .f32) (mt : FVec F S128x16 .f32) (sk : Elt F .f32) : FVec F S128x1 .f32 :=
  maximumf (maximumf
      (shapeCast S128x1 (multiReduction .maximumf [1] S128 s 0xFF800000#32 reduces_S128x128_S128 (.inl rfl) rfl)
        shapeCasts_S128_S128x1)
      (shapeCast S128x1 (multiReduction .maximumf [1] S128 mt 0xFF800000#32 reduces_S128x16_S128 (.inl rfl) rfl)
        shapeCasts_S128_S128x1))
    (broadcast S128x1 sk)

/-- The tile's weights. -/
def tileW (s : FVec F S128x128 .f32) (mx : FVec F S128x1 .f32) : FVec F S128x128 .f32 :=
  exp (subf s (broadcastTo S128x128 mx broadcasts_S128x1_S128x128))

/-- The meta keys' weights. -/
def metaW (s : FVec F S128x16 .f32) (mx : FVec F S128x1 .f32) : FVec F S128x16 .f32 :=
  exp (subf s (broadcastTo S128x16 mx broadcasts_S128x1_S128x16))

/-- The sum of a row's weights, the sink's among them. -/
def rowSum (p : FVec F S128x128 .f32) (pm : FVec F S128x16 .f32) (mx : FVec F S128x1 .f32) (sk : Elt F .f32) :
    FVec F S128x1 .f32 :=
  addf (addf
      (shapeCast S128x1 (multiReduction .add [1] S128 p 0x00000000#32 reduces_S128x128_S128 (.inl rfl) rfl)
        shapeCasts_S128_S128x1)
      (shapeCast S128x1 (multiReduction .add [1] S128 pm 0x00000000#32 reduces_S128x16_S128 (.inl rfl) rfl)
        shapeCasts_S128_S128x1))
    (exp (subf (broadcast S128x1 sk) mx))

/-- The weights times the values, summed, over the sum of the weights. -/
def mixture (og : Nat) (hk : S256x256.Slices ![0, og] S256x64) (hm : S16x256.Slices ![0, og] S16x64)
    (p : FVec F S128x128 .f32) (pm : FVec F S128x16 .f32) (den : FVec F S128x1 .f32) (vb : FVec F S256x256 .bf16)
    (vm : FVec F S16x256 .bf16) : FVec F S128x64 .f32 :=
  divf (addf
      (matmul dot_S128x256_S256x64_S128x64_1_0_0_1_n_n none
        (truncf .bf16 (concatenate S128x256 1
          [⟨S128x128, select own (broadcast S128x128 (Scalar.ofBits .f32 0x00000000#32)) p⟩,
            ⟨S128x128, select own p (broadcast S128x128 (Scalar.ofBits .f32 0x00000000#32))⟩]
          concatenates_S128x128_S128x128_S128x256_d1) bitsLt_bf16_f32)
        (extractStridedSlice S256x64 ![0, og] vb hk) (constant S128x64 .f32 0x00000000#32))
      (matmul dot_S128x16_S16x64_S128x64_1_0_0_1_n_n none (truncf .bf16 pm bitsLt_bf16_f32)
        (extractStridedSlice S16x64 ![0, og] vm hm) (constant S128x64 .f32 0x00000000#32)))
    (broadcastTo S128x64 den broadcasts_S128x1_S128x64)

/-- One head: queries from column `oq`, keys and values from column `og`. -/
def head (slope : BitVec 32) (oq og : Nat) (hq : S128x1024.Slices ![0, oq] S128x64)
    (hk : S256x256.Slices ![0, og] S256x64) (hm : S16x256.Slices ![0, og] S16x64) (first : BitVec 1)
    (x : Vec F S1x128x1024 .bf16) (kb vb : FVec F S256x256 .bf16) (km vm : FVec F S16x256 .bf16) (sk : Elt F .f32) :
    FVec F S128x64 .f32 :=
  have s := tile slope first (bandProd og hk (query oq hq x) kb)
  have mp := metaProd og hm (query oq hq x) km
  have mx := rowTop s mp sk
  mixture og hk hm (tileW s mx) (metaW mp mx) (rowSum (tileW s mx) (metaW mp mx) mx sk) vb vm

/-- The z block gated: z times its logistic. -/
def zGate (z : Vec F S1x128x1024 .bf16) : FVec F S128x1024 .f32 :=
  mulf (extf .f32 (shapeCast S128x1024 z shapeCasts_S1x128x1024_S128x1024) bitsLt_bf16_f32)
    (divf (broadcast S128x1024 (Scalar.ofBits .f32 0x3F800000#32))
      (addf (broadcast S128x1024 (Scalar.ofBits .f32 0x3F800000#32))
        (exp (subf (broadcast S128x1024 (Scalar.ofBits .f32 0x00000000#32))
          (extf .f32 (shapeCast S128x1024 z shapeCasts_S1x128x1024_S128x1024) bitsLt_bf16_f32)))))

/-- The sixteen heads side by side. -/
def heads (first : BitVec 1) (x : Vec F S1x128x1024 .bf16) (kb vb : FVec F S256x256 .bf16) (km vm : FVec F S16x256 .bf16)
    (sk : Fin 16 → Elt F .f32) : FVec F S128x1024 .f32 :=
  concatenate S128x1024 1 [
    ⟨S128x64, head 0x3F3504F3#32 0 0 slices_S128x1024_o0_0_S128x64 slices_S256x256_o0_0_S256x64
      slices_S16x256_o0_0_S16x64 first x kb vb km vm (sk 0)⟩,
    ⟨S128x64, head 0x3F000000#32 64 0 slices_S128x1024_o0_64_S128x64 slices_S256x256_o0_0_S256x64
      slices_S16x256_o0_0_S16x64 first x kb vb km vm (sk 1)⟩,
    ⟨S128x64, head 0x3EB504F3#32 128 0 slices_S128x1024_o0_128_S128x64 slices_S256x256_o0_0_S256x64
      slices_S16x256_o0_0_S16x64 first x kb vb km vm (sk 2)⟩,
    ⟨S128x64, head 0x3E800000#32 192 0 slices_S128x1024_o0_192_S128x64 slices_S256x256_o0_0_S256x64
      slices_S16x256_o0_0_S16x64 first x kb vb km vm (sk 3)⟩,
    ⟨S128x64, head 0x3E3504F3#32 256 64 slices_S128x1024_o0_256_S128x64 slices_S256x256_o0_64_S256x64
      slices_S16x256_o0_64_S16x64 first x kb vb km vm (sk 4)⟩,
    ⟨S128x64, head 0x3E000000#32 320 64 slices_S128x1024_o0_320_S128x64 slices_S256x256_o0_64_S256x64
      slices_S16x256_o0_64_S16x64 first x kb vb km vm (sk 5)⟩,
    ⟨S128x64, head 0x3DB504F3#32 384 64 slices_S128x1024_o0_384_S128x64 slices_S256x256_o0_64_S256x64
      slices_S16x256_o0_64_S16x64 first x kb vb km vm (sk 6)⟩,
    ⟨S128x64, head 0x3D800000#32 448 64 slices_S128x1024_o0_448_S128x64 slices_S256x256_o0_64_S256x64
      slices_S16x256_o0_64_S16x64 first x kb vb km vm (sk 7)⟩,
    ⟨S128x64, head 0x3D3504F3#32 512 128 slices_S128x1024_o0_512_S128x64 slices_S256x256_o0_128_S256x64
      slices_S16x256_o0_128_S16x64 first x kb vb km vm (sk 8)⟩,
    ⟨S128x64, head 0x3D000000#32 576 128 slices_S128x1024_o0_576_S128x64 slices_S256x256_o0_128_S256x64
      slices_S16x256_o0_128_S16x64 first x kb vb km vm (sk 9)⟩,
    ⟨S128x64, head 0x3CB504F3#32 640 128 slices_S128x1024_o0_640_S128x64 slices_S256x256_o0_128_S256x64
      slices_S16x256_o0_128_S16x64 first x kb vb km vm (sk 10)⟩,
    ⟨S128x64, head 0x3C800000#32 704 128 slices_S128x1024_o0_704_S128x64 slices_S256x256_o0_128_S256x64
      slices_S16x256_o0_128_S16x64 first x kb vb km vm (sk 11)⟩,
    ⟨S128x64, head 0x3C3504F3#32 768 192 slices_S128x1024_o0_768_S128x64 slices_S256x256_o0_192_S256x64
      slices_S16x256_o0_192_S16x64 first x kb vb km vm (sk 12)⟩,
    ⟨S128x64, head 0x3C000000#32 832 192 slices_S128x1024_o0_832_S128x64 slices_S256x256_o0_192_S256x64
      slices_S16x256_o0_192_S16x64 first x kb vb km vm (sk 13)⟩,
    ⟨S128x64, head 0x3BB504F3#32 896 192 slices_S128x1024_o0_896_S128x64 slices_S256x256_o0_192_S256x64
      slices_S16x256_o0_192_S16x64 first x kb vb km vm (sk 14)⟩,
    ⟨S128x64, head 0x3B800000#32 960 192 slices_S128x1024_o0_960_S128x64 slices_S256x256_o0_192_S256x64
      slices_S16x256_o0_192_S16x64 first x kb vb km vm (sk 15)⟩]
    concatenates_S128x64_S128x64_S128x64_S128x64_S128x64_S128x64_S128x64_S128x64_S128x64_S128x64_S128x64_S128x64_S128x64_S128x64_S128x64_S128x64_S128x1024_d1

/-- The block that a grid point stores, from its input blocks and the sixteen sinks. -/
def blockOut (first : BitVec 1) (sk : Fin 16 → Elt F .f32) (q : Vec F S1x128x1024 .bf16)
    (kc vc kp vp : Vec F S1x128x256 .bf16) (km vm : Vec F S1x16x256 .bf16) (z : Vec F S1x128x1024 .bf16) :
    Vec F S1x128x1024 .bf16 :=
  shapeCast S1x128x1024 (truncf .bf16 (mulf
    (heads first q (twoBlocks kp kc) (twoBlocks vp vc) (shapeCast S16x256 km shapeCasts_S1x16x256_S16x256)
      (shapeCast S16x256 vm shapeCasts_S1x16x256_S16x256) sk) (zGate z)) bitsLt_bf16_f32)
    shapeCasts_S128x1024_S1x128x1024

/-- Place `k` of the sixteen sinks. -/
def place (k : Fin 16) : S16.Idx := fun a => match a with | ⟨0, _⟩ => k

theorem hz : (![0, 0, 0] : Fin 3 → Nat) = fun _ => 0 := funext fun a => by fin_cases a <;> rfl

set_option maxRecDepth 65536 in
set_option maxHeartbeats 4000000 in
/-- What the body leaves in the result's block is `blockOut` of its input blocks and sinks. -/
theorem out_eq (c : Dev nD) (i : grid0.Coords)
    (arg2 : Memref sig .tc .smem S16 .f32) (h2 : arg2.IsWhole)
    (arg3 : Memref sig .tc .vmem S1x128x1024 .bf16) (h3 : arg3.IsWhole)
    (arg4 : Memref sig .tc .vmem S1x128x256 .bf16) (h4 : arg4.IsWhole)
    (arg5 : Memref sig .tc .vmem S1x128x256 .bf16) (h5 : arg5.IsWhole)
    (arg6 : Memref sig .tc .vmem S1x128x256 .bf16) (h6 : arg6.IsWhole)
    (arg7 : Memref sig .tc .vmem S1x128x256 .bf16) (h7 : arg7.IsWhole)
    (arg8 : Memref sig .tc .vmem S1x16x256 .bf16) (h8 : arg8.IsWhole)
    (arg9 : Memref sig .tc .vmem S1x16x256 .bf16) (h9 : arg9.IsWhole)
    (arg10 : Memref sig .tc .vmem S1x128x1024 .bf16) (h10 : arg10.IsWhole)
    (arg11 : Memref sig .tc .vmem S1x128x1024 .bf16) (h11 : arg11.IsWhole)
    (x0 : Vec F S16 .f32) (x1 : Vec F S1x128x1024 .bf16) (x2 x3 x4 x5 : Vec F S1x128x256 .bf16)
    (x6 x7 : Vec F S1x16x256 .bf16) (x8 : Vec F S1x128x1024 .bf16) :
    out0_A_9 c i arg2 h2 arg3 h3 arg4 h4 arg5 h5 arg6 h6 arg7 h7 arg8 h8 arg9 h9 arg10 h10 arg11 h11
        x0 x1 x2 x3 x4 x5 x6 x7 x8
      = blockOut (Scalar.cmpi .sgt (BitVec.ofNat 32 (i 1).val) 0#32) (fun k => x0 (place k)) x1 x2 x3 x4 x5 x6 x7 x8 := by
  have e0 : ∀ (k : Nat) (hi : ∀ a, (![k] : Fin 1 → Nat) a + S1.size a ≤ S16.size a) (hk : k < 16) (j : S1.Idx),
      View.readAt (Elt F) arg2.view (Rect.unit (s := S16) ![k] S1.size hi).toLoadRect (h2.unread x0) j
        = x0 (place ⟨k, hk⟩) := by
    intro k hi hk j
    rw [View.readAt_eq_ld, h2.read_unread]
    refine congrArg x0 (funext fun a => ?_)
    match a with
    | ⟨0, _⟩ =>
      apply Fin.ext
      show k + 1 * (j 0).val = k
      have : (j 0).val < 1 := (j 0).isLt
      omega
  unfold out0_A_9
  rw [View.read_writes_junk_eq_canon]
  refine Eq.trans (b := View.canon ([⟨Rect.unit ![0, 0, 0] S1x128x1024.size inb_S1x128x1024_S1x128x1024_0_0_0,
      blockOut (Scalar.cmpi .sgt (BitVec.ofNat 32 (i 1).val) 0#32)
        ![
          View.readAt (Elt F) arg2.view (Rect.unit (s := S16) ![0] S1.size inb_S16_S1_0).toLoadRect (h2.unread x0)
            (Shape.Idx.first (by decide)),
          View.readAt (Elt F) arg2.view (Rect.unit (s := S16) ![1] S1.size inb_S16_S1_1).toLoadRect (h2.unread x0)
            (Shape.Idx.first (by decide)),
          View.readAt (Elt F) arg2.view (Rect.unit (s := S16) ![2] S1.size inb_S16_S1_2).toLoadRect (h2.unread x0)
            (Shape.Idx.first (by decide)),
          View.readAt (Elt F) arg2.view (Rect.unit (s := S16) ![3] S1.size inb_S16_S1_3).toLoadRect (h2.unread x0)
            (Shape.Idx.first (by decide)),
          View.readAt (Elt F) arg2.view (Rect.unit (s := S16) ![4] S1.size inb_S16_S1_4).toLoadRect (h2.unread x0)
            (Shape.Idx.first (by decide)),
          View.readAt (Elt F) arg2.view (Rect.unit (s := S16) ![5] S1.size inb_S16_S1_5).toLoadRect (h2.unread x0)
            (Shape.Idx.first (by decide)),
          View.readAt (Elt F) arg2.view (Rect.unit (s := S16) ![6] S1.size inb_S16_S1_6).toLoadRect (h2.unread x0)
            (Shape.Idx.first (by decide)),
          View.readAt (Elt F) arg2.view (Rect.unit (s := S16) ![7] S1.size inb_S16_S1_7).toLoadRect (h2.unread x0)
            (Shape.Idx.first (by decide)),
          View.readAt (Elt F) arg2.view (Rect.unit (s := S16) ![8] S1.size inb_S16_S1_8).toLoadRect (h2.unread x0)
            (Shape.Idx.first (by decide)),
          View.readAt (Elt F) arg2.view (Rect.unit (s := S16) ![9] S1.size inb_S16_S1_9).toLoadRect (h2.unread x0)
            (Shape.Idx.first (by decide)),
          View.readAt (Elt F) arg2.view (Rect.unit (s := S16) ![10] S1.size inb_S16_S1_10).toLoadRect (h2.unread x0)
            (Shape.Idx.first (by decide)),
          View.readAt (Elt F) arg2.view (Rect.unit (s := S16) ![11] S1.size inb_S16_S1_11).toLoadRect (h2.unread x0)
            (Shape.Idx.first (by decide)),
          View.readAt (Elt F) arg2.view (Rect.unit (s := S16) ![12] S1.size inb_S16_S1_12).toLoadRect (h2.unread x0)
            (Shape.Idx.first (by decide)),
          View.readAt (Elt F) arg2.view (Rect.unit (s := S16) ![13] S1.size inb_S16_S1_13).toLoadRect (h2.unread x0)
            (Shape.Idx.first (by decide)),
          View.readAt (Elt F) arg2.view (Rect.unit (s := S16) ![14] S1.size inb_S16_S1_14).toLoadRect (h2.unread x0)
            (Shape.Idx.first (by decide)),
          View.readAt (Elt F) arg2.view (Rect.unit (s := S16) ![15] S1.size inb_S16_S1_15).toLoadRect (h2.unread x0)
            (Shape.Idx.first (by decide))]
        (View.readAt (Elt F) arg3.view (Rect.unit ![0, 0, 0] S1x128x1024.size inb_S1x128x1024_S1x128x1024_0_0_0).toLoadRect
          (h3.unread x1))
        (View.readAt (Elt F) arg4.view (Rect.unit ![0, 0, 0] S1x128x256.size inb_S1x128x256_S1x128x256_0_0_0).toLoadRect
          (h4.unread x2))
        (View.readAt (Elt F) arg5.view (Rect.unit ![0, 0, 0] S1x128x256.size inb_S1x128x256_S1x128x256_0_0_0).toLoadRect
          (h5.unread x3))
        (View.readAt (Elt F) arg6.view (Rect.unit ![0, 0, 0] S1x128x256.size inb_S1x128x256_S1x128x256_0_0_0).toLoadRect
          (h6.unread x4))
        (View.readAt (Elt F) arg7.view (Rect.unit ![0, 0, 0] S1x128x256.size inb_S1x128x256_S1x128x256_0_0_0).toLoadRect
          (h7.unread x5))
        (View.readAt (Elt F) arg8.view (Rect.unit ![0, 0, 0] S1x16x256.size inb_S1x16x256_S1x16x256_0_0_0).toLoadRect
          (h8.unread x6))
        (View.readAt (Elt F) arg9.view (Rect.unit ![0, 0, 0] S1x16x256.size inb_S1x16x256_S1x16x256_0_0_0).toLoadRect
          (h9.unread x7))
        (View.readAt (Elt F) arg10.view (Rect.unit ![0, 0, 0] S1x128x1024.size inb_S1x128x1024_S1x128x1024_0_0_0).toLoadRect
          (h10.unread x8))
      ⟩] : List (View.Piece (Elt F) S1x128x1024 .bf16))) ?_ ?_
  · rfl
  · rw [View.canon_unit_zero hz]
    simp only [View.readAt_eq_ld arg3.view, View.readAt_eq_ld arg4.view, View.readAt_eq_ld arg5.view,
      View.readAt_eq_ld arg6.view, View.readAt_eq_ld arg7.view, View.readAt_eq_ld arg8.view, View.readAt_eq_ld arg9.view,
      View.readAt_eq_ld arg10.view, h3.read_unread, h4.read_unread, h5.read_unread, h6.read_unread, h7.read_unread,
      h8.read_unread, h9.read_unread, h10.read_unread]
    congr 1
    · funext k
      fin_cases k <;> exact e0 _ _ (by decide) _
    all_goals exact View.ld_unit_zero hz _ _

end Cert.Proof.AttnHead

end
-- ==== Proof.Words.lean ====
/- The 32-bit words of the two attentions' masks and distances, as numbers. -/
module

public import Idealize.ShloMosaic.Lib.Pointwise
public import Idealize.ShloMosaic.Lib.Tactic.WordOmega

@[expose] public section

namespace Cert.Proof.Words

open Idealize.ShloMosaic

/-- A word less than 2^31 read with its sign. -/
theorem toInt_small (a : Nat) (h : a < 2 ^ 31) : (BitVec.ofNat 32 a).toInt = a := by
  rw [BitVec.toInt_eq_toNat_bmod, BitVec.toNat_ofNat, Nat.mod_eq_of_lt (by omega), Int.bmod_def]
  omega

/-- The difference of two small words read with its sign. -/
theorem toInt_diff (a b : Nat) (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, toInt_small a (by omega), toInt_small b (by omega), Int.bmod_def]
  omega

/-- Row `r` of window `n`, as a word. -/
theorem row_word (n r : Nat) (hn : n < 32) (hr : r < 256) :
    IntOp.addi (IntOp.muli (BitVec.ofNat 32 n) 128#32) (BitVec.ofNat 32 r) = BitVec.ofNat 32 (n * 128 + r) := by
  show BitVec.ofNat 32 n * 128#32 + BitVec.ofNat 32 r = _
  apply BitVec.eq_of_toNat_eq
  simp only [BitVec.toNat_add, BitVec.toNat_mul, BitVec.toNat_ofNat]
  omega

/-- Row `k` of the band of window `n`, as a word. -/
theorem key_word (n k : Nat) (hn : n < 32) (h1 : 1 ≤ n) (hk : k < 256) :
    IntOp.addi (IntOp.subi (IntOp.muli (BitVec.ofNat 32 n) 128#32) 128#32) (BitVec.ofNat 32 k)
      = BitVec.ofNat 32 (n * 128 + k - 128) := by
  show BitVec.ofNat 32 n * 128#32 - 128#32 + BitVec.ofNat 32 k = _
  apply BitVec.eq_of_toNat_eq
  simp only [BitVec.toNat_add, BitVec.toNat_sub, BitVec.toNat_mul, BitVec.toNat_ofNat]
  omega

theorem sum_word (a b : Nat) : IntOp.addi (BitVec.ofNat 32 a) (BitVec.ofNat 32 b) = BitVec.ofNat 32 (a + b) := by
  show BitVec.ofNat 32 a + BitVec.ofNat 32 b = _
  rw [BitVec.ofNat_add]

theorem cmp_sge (x y : BitVec 32) : IntOp.cmpi .sge x y = 1#1 ↔ y.toInt ≤ x.toInt := by word_omega
theorem cmp_sgt (x y : BitVec 32) : IntOp.cmpi .sgt x y = 1#1 ↔ y.toInt < x.toInt := by word_omega
theorem cmp_slt (x y : BitVec 32) : IntOp.cmpi .slt x y = 1#1 ↔ x.toInt < y.toInt := by word_omega
theorem cmp_sle (x y : BitVec 32) : IntOp.cmpi .sle x y = 1#1 ↔ x.toInt ≤ y.toInt := by word_omega
theorem and_one (x y : BitVec 1) : IntOp.andi x y = 1#1 ↔ x = 1#1 ∧ y = 1#1 := by revert x y; decide

/-- A selection by a bit. -/
theorem select_if {α : Type} (c : BitVec 1) (P : Prop) [Decidable P] (h : c = 1#1 ↔ P) (x y : α) :
    Scalar.select c x y = if P then x else y := by
  by_cases p : P
  · rw [if_pos p, h.mpr p]; rfl
  · rw [if_neg p]
    have : c = 0#1 := by
      have q : c ≠ 1#1 := fun e => p (h.mp e)
      clear h
      revert q; revert c; decide
    rw [this]; rfl

/-- The literal of minus infinity. -/
theorem neg_inf : Ideal.ofBits .f32 4286578688#32 = (⊥ : EReal) := by simp [Ideal.ofBits, Ideal.ieee]

/-- The literal of zero. -/
theorem zero_lit : Ideal.ofBits .f32 0#32 = (0 : EReal) := by simp [Ideal.ofBits, Ideal.ieee]

end Cert.Proof.Words
-- ==== Proof.AttnHeadRead.lean ====
/- One head of the attention kernel's body, read at an index. -/
module

public import proofs.«01_k».proof.Proof.AttnHead
public import proofs.«01_k».proof.Proof.Words

@[expose] public section

set_option maxRecDepth 16384

noncomputable section

namespace Cert.Proof.AttnHead

open Cert.KernelIdeal Cert.KernelIdeal.Gen Cert.KernelIdeal.Value Idealize.ShloMosaic Idealize.ShloMosaic.TcCoe
open Idealize.SL.Sem

/-- Column `j` of row `r` holds a key of the query's own block where `j ≤ r`. -/
theorem own_at (r j : Fin 128) : own (ix2 r j) = 1#1 ↔ j ≤ r := by
  pointwise [own]
  rw [Words.cmp_sle, Words.toInt_small _ (by omega), Words.toInt_small _ (by omega)]
  omega

/-- How far behind its query that key lies. -/
theorem behind_at (r j : Fin 128) : behind (F := Ideal) (ix2 r j)
    = if j ≤ r then ((((r.val : ℤ) - j.val : ℤ) : ℝ) : EReal) else (((128 + (r.val : ℤ) - j.val : ℤ) : ℝ) : EReal) := by
  have o := own_at r j
  have si : ∀ w : BitVec 32, FloatOps.sitofp (F := Ideal) .f32 w = ((w.toInt : ℝ) : EReal) := fun _ => rfl
  pointwise [behind]
  rw [Words.select_if _ _ o, si]
  by_cases c : j ≤ r
  · rw [if_pos c, if_pos c, Words.toInt_diff _ _ (by omega) (by omega)]
  · have e : IntOp.addi (IntOp.subi (BitVec.ofNat 32 r.val) (BitVec.ofNat 32 j.val)) 128#32
        = IntOp.subi (BitVec.ofNat 32 (128 + r.val)) (BitVec.ofNat 32 j.val) := by
      rw [← Words.sum_word]
      show BitVec.ofNat 32 r.val - BitVec.ofNat 32 j.val + 128#32 = 128#32 + BitVec.ofNat 32 r.val - BitVec.ofNat 32 j.val
      rw [BitVec.sub_eq_add_neg, BitVec.sub_eq_add_neg]
      ac_rfl
    rw [if_neg c, if_neg c, e, Words.toInt_diff _ _ (by omega) (by omega)]
    push_cast
    rfl

theorem twoBlocks_at (x y : Vec Ideal S1x128x256 .bf16) (k e : Fin 256) : twoBlocks x y (ix2 k e)
    = if h : k.val < 128 then x (ix3 0 ⟨k.val, h⟩ e) else y (ix3 0 ⟨k.val - 128, by omega⟩ e) := by
  pointwise [twoBlocks]

theorem query_at (oq : Nat) (hq : S128x1024.Slices ![0, oq] S128x64) (ho : oq + 64 ≤ 1024)
    (x : Vec Ideal S1x128x1024 .bf16) (r : Fin 128) (d : Fin 64) :
    query oq hq x (ix2 r d) = x (ix3 0 r ⟨oq + d.val, by omega⟩) * Ideal.ofBits .bf16 15872#16 := by
  pointwise [query]

theorem bandProd_at (og : Nat) (hk : S256x256.Slices ![0, og] S256x64) (ho : og + 64 ≤ 256) (q : FVec Ideal S128x64 .bf16)
    (kb : FVec Ideal S256x256 .bf16) (r : Fin 128) (k : Fin 256) :
    bandProd og hk q kb (ix2 r k) = ∑ x : Fin 64, q (ix2 r x) * kb (ix2 k ⟨og + x.val, by omega⟩) := by
  pointwise [bandProd]

theorem metaProd_at (og : Nat) (hm : S16x256.Slices ![0, og] S16x64) (ho : og + 64 ≤ 256) (q : FVec Ideal S128x64 .bf16)
    (km : FVec Ideal S16x256 .bf16) (r : Fin 128) (k : Fin 16) :
    metaProd og hm q km (ix2 r k) = ∑ x : Fin 64, q (ix2 r x) * km (ix2 k ⟨og + x.val, by omega⟩) := by
  pointwise [metaProd]

theorem tile_at (slope : BitVec 32) (first : BitVec 1) (P : Prop) [Decidable P] (hf : first = 1#1 ↔ P)
    (sb : FVec Ideal S128x256 .f32) (r j : Fin 128) : tile slope first sb (ix2 r j)
      = (if j ≤ r then sb (ix2 r ⟨128 + j.val, by omega⟩) else if P then sb (ix2 r ⟨j.val, by omega⟩) else ⊥)
        - Ideal.ofBits .f32 slope * behind (F := Ideal) (ix2 r j) := by
  pointwise [tile]
  rw [Words.select_if _ _ (own_at r j), Words.select_if _ _ hf, Words.neg_inf]

theorem rowTop_at (s : FVec Ideal S128x128 .f32) (sm : FVec Ideal S128x16 .f32) (sk : EReal) (r : Fin 128) :
    rowTop (F := Ideal) s sm sk (ix2 r 0) = max (max ((Finset.univ : Finset (Fin 128)).fold max ⊥ fun x => s (ix2 r x))
      ((Finset.univ : Finset (Fin 16)).fold max ⊥ fun x => sm (ix2 r x))) sk := by
  rw [← Words.neg_inf]
  pointwise [rowTop]

theorem tileW_at (s : FVec Ideal S128x128 .f32) (mx : FVec Ideal S128x1 .f32) (r j : Fin 128) :
    tileW s mx (ix2 r j) = Ideal.exp (s (ix2 r j) - mx (ix2 r 0)) := by
  pointwise [tileW]

theorem metaW_at (s : FVec Ideal S128x16 .f32) (mx : FVec Ideal S128x1 .f32) (r : Fin 128) (j : Fin 16) :
    metaW s mx (ix2 r j) = Ideal.exp (s (ix2 r j) - mx (ix2 r 0)) := by
  pointwise [metaW]

theorem rowSum_at (p : FVec Ideal S128x128 .f32) (sm : FVec Ideal S128x16 .f32) (mx : FVec Ideal S128x1 .f32) (sk : EReal)
    (r : Fin 128) : rowSum (F := Ideal) p sm mx sk (ix2 r 0)
      = ∑ j : Fin 128, p (ix2 r j) + ∑ x : Fin 16, sm (ix2 r x) + Ideal.exp (sk - mx (ix2 r 0)) := by
  pointwise [rowSum]

theorem mixture_at (og : Nat) (hk : S256x256.Slices ![0, og] S256x64) (hm : S16x256.Slices ![0, og] S16x64)
    (ho : og + 64 ≤ 256) (p : FVec Ideal S128x128 .f32) (pm : FVec Ideal S128x16 .f32) (den : FVec Ideal S128x1 .f32)
    (vb : FVec Ideal S256x256 .bf16) (vm : FVec Ideal S16x256 .bf16) (r : Fin 128) (d : Fin 64) :
    mixture og hk hm p pm den vb vm (ix2 r d)
      = Ideal.div (∑ x : Fin 128, (if x ≤ r then 0 else p (ix2 r x) * vb (ix2 ⟨x.val, by omega⟩ ⟨og + d.val, by omega⟩))
          + ∑ x : Fin 128, (if x ≤ r then p (ix2 r x) * vb (ix2 ⟨128 + x.val, by omega⟩ ⟨og + d.val, by omega⟩) else 0)
          + ∑ x : Fin 16, pm (ix2 r x) * vm (ix2 x ⟨og + d.val, by omega⟩)) (den (ix2 r 0)) := by
  pointwise [mixture, sumSplitAll]
  simp only [fun x : Fin 128 => Words.select_if (α := EReal) (own (ix2 r x)) (x ≤ r) (own_at r x)]

theorem zGate_at (x : Vec Ideal S1x128x1024 .bf16) (r : Fin 128) (e : Fin 1024) : zGate (F := Ideal) x (ix2 r e)
    = x (ix3 0 r e) * Ideal.div 1 (1 + Ideal.exp (-x (ix3 0 r e))) := by
  pointwise [zGate]
  rw [zero_sub]

end Cert.Proof.AttnHead

end
-- ==== Proof.AttnRef.lean ====
/- The reference attention, cut into the steps of its mathematics.
   Each step is a function of the previous steps' arrays, over the extended reals; the last theorem says that the
   reference's result is these steps one after another. Proof/AttnRefRead.lean reads every step at an index. -/
module

public import proofs.«01_k».proof.Proof.Gen.ReferenceIdeal.Run
public import Idealize.ShloMosaic.Lib.Pointwise

@[expose] public section

noncomputable section

namespace Cert.Proof.AttnRef

open Cert.ReferenceIdeal Cert.ReferenceIdeal.Gen Cert.ReferenceIdeal.Value
open Idealize.ShloMosaic Idealize.ShloMosaic.TcCoe Idealize.SL.Sem

/-- The meta block in front of every sequence, then the sequence: all projected columns. -/
def padded (a : FVec Ideal S8x2048x9728 .bf16) (mt : FVec Ideal S1x128x9728 .bf16) : FVec Ideal S8x2176x9728 .f32 :=
  extf .f32 (concatenate S8x2176x9728 1
    [⟨S8x128x9728, broadcastInDim S8x128x9728 ![0, 1, 2] bcast_S1x128x9728_S8x128x9728_0_1_2 mt⟩, ⟨S8x2048x9728, a⟩]
    concatenates_S8x128x9728_S8x2048x9728_S8x2176x9728_d1) bitsLt_bf16_f32

/-- The keys' (or values') columns, from column 9216. -/
def keyCols (p : FVec Ideal S8x2176x9728 .f32) : FVec Ideal S8x2176x256 .f32 :=
  extractStridedSlice S8x2176x256 ![0, 0, 9216] p slices_S8x2176x9728_S8x2176x256_0_0_9216

/-- The values' columns, from column 9472. -/
def valCols (p : FVec Ideal S8x2176x9728 .f32) : FVec Ideal S8x2176x256 .f32 :=
  extractStridedSlice S8x2176x256 ![0, 0, 9472] p slices_S8x2176x9728_S8x2176x256_0_0_9472

/-- The queries, cut into windows, groups, heads of a group and channels, times 1/8. -/
def queries (p : FVec Ideal S8x2176x9728 .f32) : FVec Ideal S8x17x128x4x4x64 .f32 :=
  mulf (shapeCast S8x17x128x4x4x64
      (extractStridedSlice S8x2176x1024 ![0, 0, 0] p slices_S8x2176x9728_S8x2176x1024_0_0_0)
      shapeCasts_S8x2176x1024_S8x17x128x4x4x64)
    (broadcastInDim S8x17x128x4x4x64 ![] bcast_S_S8x17x128x4x4x64 (constant S_ .f32 0x3E000000#32))

/-- The 16 meta rows of the keys (or values), 112 to 127. -/
def metaRows (t : FVec Ideal S8x2176x256 .f32) : FVec Ideal S8x16x4x64 .f32 :=
  shapeCast S8x16x4x64 (extractStridedSlice S8x16x256 ![0, 112, 0] t slices_S8x2176x256_S8x16x256_0_112_0)
    shapeCasts_S8x16x256_S8x16x4x64

/-- The windows of the keys (or values). -/
def windows (t : FVec Ideal S8x2176x256 .f32) : FVec Ideal S8x17x128x4x64 .f32 :=
  shapeCast S8x17x128x4x64 t shapeCasts_S8x2176x256_S8x17x128x4x64

/-- Every window behind the one before it (zeros before the first). -/
def band (t : FVec Ideal S8x17x128x4x64 .f32) : FVec Ideal S8x17x256x4x64 .f32 :=
  concatenate S8x17x256x4x64 2
    [⟨S8x17x128x4x64, concatenate S8x17x128x4x64 1
      [⟨S8x1x128x4x64, broadcastInDim S8x1x128x4x64 ![] bcast_S_S8x1x128x4x64
          (constant (F := Ideal) S_ .f32 0x00000000#32)⟩,
        ⟨S8x16x128x4x64, extractStridedSlice S8x16x128x4x64 ![0, 0, 0, 0, 0] t
          slices_S8x17x128x4x64_S8x16x128x4x64_0_0_0_0_0⟩]
      concatenates_S8x1x128x4x64_S8x16x128x4x64_S8x17x128x4x64_d1⟩, ⟨S8x17x128x4x64, t⟩]
    concatenates_S8x17x128x4x64_S8x17x128x4x64_S8x17x256x4x64_d2

/-- The positions of the queries. -/
def queryPos : IVec S17x128 32 :=
  addi (broadcastInDim S17x128 ![0, 1] bcast_S17x1_S17x128_0_1
      (muli (broadcastInDim S17x1 ![0] bcast_S17_S17x1_0 (iotaInDim S17 32 0))
        (broadcastInDim S17x1 ![] bcast_S_S17x1 (constantI S_ 32 128#32))))
    (broadcastInDim S17x128 ![0, 1] bcast_S1x128_S17x128_0_1
      (broadcastInDim S1x128 ![1] bcast_S128_S1x128_1 (iotaInDim S128 32 0)))

/-- The positions of the keys of a band. -/
def keyPos : IVec S17x256 32 :=
  addi (broadcastInDim S17x256 ![0, 1] bcast_S17x1_S17x256_0_1
      (subi (muli (broadcastInDim S17x1 ![0] bcast_S17_S17x1_0 (iotaInDim S17 32 0))
        (broadcastInDim S17x1 ![] bcast_S_S17x1 (constantI S_ 32 128#32)))
        (broadcastInDim S17x1 ![] bcast_S_S17x1 (constantI S_ 32 128#32))))
    (broadcastInDim S17x256 ![0, 1] bcast_S1x256_S17x256_0_1
      (broadcastInDim S1x256 ![1] bcast_S256_S1x256_1 (iotaInDim S256 32 0)))

/-- How far a key lies behind its query. -/
def distance : IVec S17x128x256 32 :=
  subi (broadcastInDim S17x128x256 ![0, 1, 2] bcast_S17x128x1_S17x128x256_0_1_2
      (broadcastInDim S17x128x1 ![0, 1] bcast_S17x128_S17x128x1_0_1 queryPos))
    (broadcastInDim S17x128x256 ![0, 1, 2] bcast_S17x1x256_S17x128x256_0_1_2
      (broadcastInDim S17x1x256 ![0, 2] bcast_S17x256_S17x1x256_0_2 keyPos))

/-- Which keys of a band a query sees: at most 127 behind it, none ahead, none of the meta block. -/
def bandSeen : IVec S17x128x256 1 :=
  andi (andi (cmpi .sge distance (broadcastInDim S17x128x256 ![] bcast_S_S17x128x256 (constantI S_ 32 0#32)))
      (cmpi .slt distance (broadcastInDim S17x128x256 ![] bcast_S_S17x128x256 (constantI S_ 32 128#32))))
    (broadcastInDim S17x128x256 ![0, 1, 2] bcast_S17x1x256_S17x128x256_0_1_2
      (cmpi .sge (broadcastInDim S17x1x256 ![0, 2] bcast_S17x256_S17x1x256_0_2 keyPos)
        (broadcastInDim S17x1x256 ![] bcast_S_S17x1x256 (constantI S_ 32 128#32))))

/-- Which meta rows a query sees. -/
def metaSeen : IVec S17x128x16 1 :=
  cmpi .sle (broadcastInDim S17x128x16 ![0, 1, 2] bcast_S1x1x16_S17x128x16_0_1_2
      (broadcastInDim S1x1x16 ![2] bcast_S16_S1x1x16_2
        (addi (broadcastInDim S16 ![] bcast_S_S16 (constantI S_ 32 112#32)) (iotaInDim S16 32 0))))
    (broadcastInDim S17x128x16 ![0, 1, 2] bcast_S17x128x1_S17x128x16_0_1_2
      (broadcastInDim S17x128x1 ![0, 1] bcast_S17x128_S17x128x1_0_1 queryPos))

/-- The heads' slopes, one per group and head of the group. -/
def slopes : FVec Ideal S1x1x4x4x1x1 .f32 :=
  shapeCast S1x1x4x4x1x1 (fun i => FloatOps.ofBits .f32 (lit0 (S16.rowMajor i))) shapeCasts_S16_S1x1x4x4x1x1

/-- The products of the queries with the keys of their band, less slope times distance. -/
def bandRaw (q : FVec Ideal S8x17x128x4x4x64 .f32) (kb : FVec Ideal S8x17x256x4x64 .f32) :
    FVec Ideal S8x17x4x4x128x256 .f32 :=
  subf (transpose S8x17x4x4x128x256 [0, 1, 2, 5, 4, 3]
      (Host.dotGeneral dot_S8x17x256x4x64_S8x17x128x4x4x64_S8x17x4x256x128x4_4_5_2_24_013_013 none kb q)
      transposes_S8x17x4x256x128x4_S8x17x4x4x128x256_0_1_2_5_4_3)
    (broadcastInDim S8x17x4x4x128x256 ![0, 1, 2, 3, 4, 5] bcast_S1x17x4x4x128x256_S8x17x4x4x128x256_0_1_2_3_4_5
      (mulf (broadcastInDim S1x17x4x4x128x256 ![0, 1, 2, 3, 4, 5]
          bcast_S1x1x4x4x1x1_S1x17x4x4x128x256_0_1_2_3_4_5 slopes)
        (broadcastInDim S1x17x4x4x128x256 ![0, 1, 2, 3, 4, 5]
          bcast_S1x17x1x1x128x256_S1x17x4x4x128x256_0_1_2_3_4_5
          (sitofp .f32 (broadcastInDim S1x17x1x1x128x256 ![1, 4, 5] bcast_S17x128x256_S1x17x1x1x128x256_1_4_5
            distance)))))

/-- The band's scores: minus infinity where the key is not seen. -/
def bandScore (q : FVec Ideal S8x17x128x4x4x64 .f32) (kb : FVec Ideal S8x17x256x4x64 .f32) :
    FVec Ideal S8x17x4x4x128x256 .f32 :=
  select (broadcastInDim S8x17x4x4x128x256 ![0, 1, 2, 3, 4, 5] bcast_S1x17x1x1x128x256_S8x17x4x4x128x256_0_1_2_3_4_5
      (broadcastInDim S1x17x1x1x128x256 ![1, 4, 5] bcast_S17x128x256_S1x17x1x1x128x256_1_4_5 bandSeen))
    (bandRaw q kb)
    (broadcastInDim S8x17x4x4x128x256 ![] bcast_S_S8x17x4x4x128x256 (id (constant S_ .f32 0xFF800000#32)))

/-- The meta rows' scores. -/
def metaScore (q : FVec Ideal S8x17x128x4x4x64 .f32) (km : FVec Ideal S8x16x4x64 .f32) :
    FVec Ideal S8x17x4x4x128x16 .f32 :=
  select (broadcastInDim S8x17x4x4x128x16 ![0, 1, 2, 3, 4, 5] bcast_S1x17x1x1x128x16_S8x17x4x4x128x16_0_1_2_3_4_5
      (broadcastInDim S1x17x1x1x128x16 ![1, 4, 5] bcast_S17x128x16_S1x17x1x1x128x16_1_4_5 metaSeen))
    (transpose S8x17x4x4x128x16 [0, 3, 1, 5, 4, 2]
      (Host.dotGeneral dot_S8x16x4x64_S8x17x128x4x4x64_S8x4x16x17x128x4_3_5_1_124_02_03 none km q)
      transposes_S8x4x16x17x128x4_S8x17x4x4x128x16_0_3_1_5_4_2)
    (broadcastInDim S8x17x4x4x128x16 ![] bcast_S_S8x17x4x4x128x16 (id (constant S_ .f32 0xFF800000#32)))

/-- The sinks' scores, one per head. -/
def sinkScore (s : FVec Ideal S1x16 .f32) : FVec Ideal S8x17x4x4x128x1 .f32 :=
  broadcastInDim S8x17x4x4x128x1 ![0, 1, 2, 3, 4, 5] bcast_S1x1x4x4x1x1_S8x17x4x4x128x1_0_1_2_3_4_5
    (shapeCast S1x1x4x4x1x1 (shapeCast S16 s shapeCasts_S1x16_S16) shapeCasts_S16_S1x1x4x4x1x1)

/-- Sink, meta rows and band along one axis. -/
def joined (sk : FVec Ideal S8x17x4x4x128x1 .f32) (sm : FVec Ideal S8x17x4x4x128x16 .f32)
    (sb : FVec Ideal S8x17x4x4x128x256 .f32) : FVec Ideal S8x17x4x4x128x273 .f32 :=
  concatenate S8x17x4x4x128x273 5 [⟨S8x17x4x4x128x1, sk⟩, ⟨S8x17x4x4x128x16, sm⟩, ⟨S8x17x4x4x128x256, sb⟩]
    concatenates_S8x17x4x4x128x1_S8x17x4x4x128x16_S8x17x4x4x128x256_S8x17x4x4x128x273_d5

/-- The largest score along the last axis. -/
def top (x : FVec Ideal S8x17x4x4x128x273 .f32) : FVec Ideal S8x17x4x4x128 .f32 :=
  Host.reduce FloatOps.maximumf x (constant S_ .f32 0xFF800000#32)
    reducesTo_S8x17x4x4x128x273_S8x17x4x4x128_d5 h_S_

/-- The exponentials of the scores less the largest. -/
def weights (x : FVec Ideal S8x17x4x4x128x273 .f32) : FVec Ideal S8x17x4x4x128x273 .f32 :=
  Host.exp (subf x (broadcastInDim S8x17x4x4x128x273 ![0, 1, 2, 3, 4, 5]
    bcast_S8x17x4x4x128x1_S8x17x4x4x128x273_0_1_2_3_4_5
    (broadcastInDim S8x17x4x4x128x1 ![0, 1, 2, 3, 4] bcast_S8x17x4x4x128_S8x17x4x4x128x1_0_1_2_3_4
      (maximumf (broadcastInDim S8x17x4x4x128 ![] bcast_S_S8x17x4x4x128 (constant S_ .f32 0xFF800000#32)) (top x)))))

/-- The sum of the weights along the last axis. -/
def total (e : FVec Ideal S8x17x4x4x128x273 .f32) : FVec Ideal S8x17x4x4x128 .f32 :=
  Host.reduceAdd e (constant S_ .f32 0x00000000#32) reducesTo_S8x17x4x4x128x273_S8x17x4x4x128_d5 h_S_

/-- The weights over their sum. -/
def probs (e : FVec Ideal S8x17x4x4x128x273 .f32) : FVec Ideal S8x17x4x4x128x273 .f32 :=
  Host.divf e (broadcastInDim S8x17x4x4x128x273 ![0, 1, 2, 3, 4, 5]
    bcast_S8x17x4x4x128x1_S8x17x4x4x128x273_0_1_2_3_4_5
    (broadcastInDim S8x17x4x4x128x1 ![0, 1, 2, 3, 4] bcast_S8x17x4x4x128_S8x17x4x4x128x1_0_1_2_3_4 (total e)))

/-- The mean of the meta values and the band's values under the weights. -/
def mixed (pr : FVec Ideal S8x17x4x4x128x273 .f32) (vm : FVec Ideal S8x16x4x64 .f32)
    (vb : FVec Ideal S8x17x256x4x64 .f32) : FVec Ideal S8x17x128x4x4x64 .f32 :=
  addf (transpose S8x17x128x4x4x64 [0, 3, 5, 1, 4, 2]
      (Host.dotGeneral dot_S8x16x4x64_S8x17x4x4x128x16_S8x4x64x17x4x128_1_5_3_134_02_02 none vm
        (extractStridedSlice S8x17x4x4x128x16 ![0, 0, 0, 0, 0, 1] pr
          slices_S8x17x4x4x128x273_S8x17x4x4x128x16_0_0_0_0_0_1))
      transposes_S8x4x64x17x4x128_S8x17x128x4x4x64_0_3_5_1_4_2)
    (transpose S8x17x128x4x4x64 [0, 1, 5, 2, 4, 3]
      (Host.dotGeneral dot_S8x17x256x4x64_S8x17x4x4x128x256_S8x17x4x64x4x128_2_5_4_34_013_012 none vb
        (extractStridedSlice S8x17x4x4x128x256 ![0, 0, 0, 0, 0, 17] pr
          slices_S8x17x4x4x128x273_S8x17x4x4x128x256_0_0_0_0_0_17))
      transposes_S8x17x4x64x4x128_S8x17x128x4x4x64_0_1_5_2_4_3)

/-- The gate: the z columns times their logistic. -/
def gate (p : FVec Ideal S8x2176x9728 .f32) : FVec Ideal S8x2176x1024 .f32 :=
  mulf (extractStridedSlice S8x2176x1024 ![0, 0, 1024] p slices_S8x2176x9728_S8x2176x1024_0_0_1024)
    (Host.divf (broadcastInDim S8x2176x1024 ![] bcast_S_S8x2176x1024 (constant S_ .f32 0x3F800000#32))
      (addf (broadcastInDim S8x2176x1024 ![] bcast_S_S8x2176x1024 (constant S_ .f32 0x3F800000#32))
        (Host.exp (Host.negf
          (extractStridedSlice S8x2176x1024 ![0, 0, 1024] p slices_S8x2176x9728_S8x2176x1024_0_0_1024)))))

/-- The gated result without the meta block. -/
def gated (o : FVec Ideal S8x17x128x4x4x64 .f32) (g : FVec Ideal S8x2176x1024 .f32) :
    FVec Ideal S8x2048x1024 .bf16 :=
  truncf .bf16 (extractStridedSlice S8x2048x1024 ![0, 128, 0]
    (mulf (shapeCast S8x2176x1024 o shapeCasts_S8x17x128x4x4x64_S8x2176x1024) g)
    slices_S8x2176x1024_S8x2048x1024_0_128_0) bitsLt_bf16_f32

/-- All scores of the reference from its padded columns and the sinks. -/
def scores (p : FVec Ideal S8x2176x9728 .f32) (s : FVec Ideal S1x16 .f32) : FVec Ideal S8x17x4x4x128x273 .f32 :=
  joined (sinkScore s) (metaScore (queries p) (metaRows (keyCols p)))
    (bandScore (queries p) (band (windows (keyCols p))))

/-- The reference's result from its padded columns and the sinks. -/
def whole (p : FVec Ideal S8x2176x9728 .f32) (s : FVec Ideal S1x16 .f32) : FVec Ideal S8x2048x1024 .bf16 :=
  gated (mixed (probs (weights (scores p s))) (metaRows (valCols p)) (band (windows (valCols p)))) (gate p)

set_option maxRecDepth 16384 in
set_option maxHeartbeats 400000 in
/-- The reference's result is the steps above, one after another. -/
theorem res_eq (m : (ℓ : Loc nD τ sig) → Buf (Elt Ideal) ℓ) (c : Dev nD) :
    res_main_v111 m c = whole (padded (m ((c.tc : Thread nD τ).loc main_arg0)) (m ((c.tc : Thread nD τ).loc main_arg1)))
      (m ((c.tc : Thread nD τ).loc main_arg2)) := by
  unfold res_main_v111 whole gated gate mixed probs total weights top scores joined sinkScore metaScore bandScore
    bandRaw slopes metaSeen bandSeen distance keyPos queryPos band windows metaRows queries valCols keyCols padded
  rfl

end Cert.Proof.AttnRef

end
-- ==== Proof.AttnRefRead.lean ====
/- The reference attention's steps, each read at an index. -/
module

public import proofs.«01_k».proof.Proof.AttnRef
public import proofs.«01_k».proof.Proof.Words

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.SL.Sem

/-- The source indices over one result index of the joined axis' reductions: one for every place of that axis. -/
theorem fiber (b : Fin 8) (n : Fin 17) (g u : Fin 4) (r : Fin 128) (i : S8x17x4x4x128x273.Idx) :
    (reducesTo_S8x17x4x4x128x273_S8x17x4x4x128_d5).drop i = ix5 b n g u r ↔ ∃ k : Fin 273, ix6 b n g u r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem inj (b : Fin 8) (n : Fin 17) (g u : Fin 4) (r : Fin 128) :
    Function.Injective (fun k : Fin 273 => (ix6 b n g u r k : S8x17x4x4x128x273.Idx)) := fun _ _ e => congrFun e 5

/-- The largest score, as a fold along the joined axis. -/
theorem top_at (x : FVec Ideal S8x17x4x4x128x273 .f32) (b : Fin 8) (n : Fin 17) (g u : Fin 4) (r : Fin 128) :
    top x (ix5 b n g u r)
      = (Finset.univ : Finset (Fin 273)).fold max (Ideal.ofBits .f32 4286578688#32) (fun k => x (ix6 b n g u r k)) := by
  unfold top
  rw [Host.reduce_eq_fold]
  exact Finset.fold_filter_eq_fold_of_fiber _ _ _ (inj b n g u r) (fiber b n g u r) _ x

/-- The weights' sum along the joined axis. -/
theorem total_at (x : FVec Ideal S8x17x4x4x128x273 .f32) (b : Fin 8) (n : Fin 17) (g u : Fin 4) (r : Fin 128) :
    total x (ix5 b n g u r) = Ideal.ofBits .f32 0#32 + ∑ k : Fin 273, x (ix6 b n g u r k) :=
  congrArg (Ideal.ofBits .f32 0#32 + ·)
    (Finset.sum_filter_eq_sum_of_fiber _ _ (inj b n g u r) (fiber b n g u r) x)

theorem padded_at (a : FVec Ideal S8x2048x9728 .bf16) (mt : FVec Ideal S1x128x9728 .bf16) (b : Fin 8) (i : Fin 2176)
    (e : Fin 9728) : padded a mt (ix3 b i e)
      = if h : i.val < 128 then mt (ix3 0 ⟨i.val, h⟩ e) else a (ix3 b ⟨i.val - 128, by omega⟩ e) := by
  pointwise [padded]

theorem queries_at (p : FVec Ideal S8x2176x9728 .f32) (b : Fin 8) (n : Fin 17) (r : Fin 128) (g u : Fin 4) (d : Fin 64) :
    queries p (ix6 b n r g u d)
      = p (ix3 b ⟨n.val * 128 + r.val, by omega⟩ ⟨g.val * 256 + u.val * 64 + d.val, by omega⟩)
        * Ideal.ofBits .f32 1040187392#32 := by
  pointwise [queries]

theorem keyMeta_at (p : FVec Ideal S8x2176x9728 .f32) (b : Fin 8) (x : Fin 16) (g : Fin 4) (d : Fin 64) :
    metaRows (keyCols p) (ix4 b x g d)
      = p (ix3 b ⟨112 + x.val, by omega⟩ ⟨9216 + (g.val * 64 + d.val), by omega⟩) := by
  pointwise [metaRows, keyCols]

theorem valMeta_at (p : FVec Ideal S8x2176x9728 .f32) (b : Fin 8) (x : Fin 16) (g : Fin 4) (d : Fin 64) :
    metaRows (valCols p) (ix4 b x g d)
      = p (ix3 b ⟨112 + x.val, by omega⟩ ⟨9472 + (g.val * 64 + d.val), by omega⟩) := by
  pointwise [metaRows, valCols]

/-- An element of the padded sequence, its row spelt in two ways. -/
theorem row_congr (p : FVec Ideal S8x2176x9728 .f32) (b : Fin 8) (i j : Fin 2176) (e : Fin 9728) (h : i.val = j.val) :
    p (ix3 b i e) = p (ix3 b j e) := by rw [Fin.ext h]

/-- From the second window on, a band of keys is 256 rows of the padded sequence in order. -/
theorem keyBand_at (p : FVec Ideal S8x2176x9728 .f32) (b : Fin 8) (n : Fin 17) (hn : 1 ≤ n.val) (k : Fin 256) (g : Fin 4)
    (d : Fin 64) : band (windows (keyCols p)) (ix5 b n k g d)
      = p (ix3 b ⟨n.val * 128 + k.val - 128, by omega⟩ ⟨9216 + (g.val * 64 + d.val), by omega⟩) := by
  by_cases c : k.val < 128
  · have c1 : ¬ n.val < 1 := by omega
    pointwise [band, windows, keyCols, c, c1]
    exact row_congr p _ _ _ _ (by simp only; omega)
  · pointwise [band, windows, keyCols, c]
    exact row_congr p _ _ _ _ (by simp only; omega)

/-- The same for the values. -/
theorem valBand_at (p : FVec Ideal S8x2176x9728 .f32) (b : Fin 8) (n : Fin 17) (hn : 1 ≤ n.val) (k : Fin 256) (g : Fin 4)
    (d : Fin 64) : band (windows (valCols p)) (ix5 b n k g d)
      = p (ix3 b ⟨n.val * 128 + k.val - 128, by omega⟩ ⟨9472 + (g.val * 64 + d.val), by omega⟩) := by
  by_cases c : k.val < 128
  · have c1 : ¬ n.val < 1 := by omega
    pointwise [band, windows, valCols, c, c1]
    exact row_congr p _ _ _ _ (by simp only; omega)
  · pointwise [band, windows, valCols, c]
    exact row_congr p _ _ _ _ (by simp only; omega)

end Cert.Proof.AttnRef

end
-- ==== Proof.AttnRefMask.lean ====
/- The reference attention's masks and distances, read at an index. -/
module

public import proofs.«01_k».proof.Proof.AttnRef
public import proofs.«01_k».proof.Proof.Words

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.SL.Sem

/-- How far behind its query a key of a band lies, as words. -/
theorem distance_word (n : Fin 17) (hn : 1 ≤ n.val) (r : Fin 128) (k : Fin 256) : distance (ix3 n r k)
    = IntOp.subi (BitVec.ofNat 32 (n.val * 128 + r.val)) (BitVec.ofNat 32 (n.val * 128 + k.val - 128)) := by
  pointwise [distance, queryPos, keyPos]
  rw [Words.row_word _ _ (by omega) (by omega), Words.key_word _ _ (by omega) hn (by omega)]

/-- A key of the band lies `128 + r - k` behind its query. -/
theorem distance_at (n : Fin 17) (hn : 1 ≤ n.val) (r : Fin 128) (k : Fin 256) :
    (distance (ix3 n r k)).toInt = 128 + (r.val : ℤ) - k.val := by
  rw [distance_word n hn, Words.toInt_diff _ _ (by omega) (by omega)]
  omega

/-- The band's keys a query sees. -/
theorem bandSeen_at (n : Fin 17) (hn : 1 ≤ n.val) (r : Fin 128) (k : Fin 256) :
    bandSeen (ix3 n r k) = 1#1 ↔ k.val ≤ 128 + r.val ∧ r.val < k.val ∧ 256 ≤ n.val * 128 + k.val := by
  have e := distance_at n hn r k
  pointwise [bandSeen, keyPos]
  rw [Words.key_word _ _ (by omega) hn (by omega), Words.and_one, Words.and_one, Words.cmp_sge, Words.cmp_sge,
    Words.cmp_slt, e, Words.toInt_small 0 (by omega), Words.toInt_small 128 (by omega),
    Words.toInt_small (n.val * 128 + k.val - 128) (by omega)]
  omega

/-- Past the meta block every query sees every meta row. -/
theorem metaSeen_at (n : Fin 17) (hn : 1 ≤ n.val) (r : Fin 128) (k : Fin 16) : metaSeen (ix3 n r k) = 1#1 := by
  pointwise [metaSeen, queryPos]
  rw [Words.row_word _ _ (by omega) (by omega), Words.sum_word, Words.cmp_sle, Words.toInt_small _ (by omega),
    Words.toInt_small _ (by omega)]
  omega

end Cert.Proof.AttnRef

end
-- ==== Proof.AttnRefScores.lean ====
/- The reference attention's scores, read at an index. -/
module

public import proofs.«01_k».proof.Proof.AttnRefRead
public import proofs.«01_k».proof.Proof.AttnRefMask
public import proofs.«01_k».proof.Proof.Words

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.SL.Sem

theorem scores_sink (p : FVec Ideal S8x2176x9728 .f32) (s : FVec Ideal S1x16 .f32) (b : Fin 8) (n : Fin 17) (r : Fin 128)
    (g u : Fin 4) : scores p s (ix6 b n g u r 0) = s (ix2 0 ⟨g.val * 4 + u.val, by omega⟩) := by
  pointwise [scores, joined, sinkScore]

theorem scores_meta (p : FVec Ideal S8x2176x9728 .f32) (s : FVec Ideal S1x16 .f32) (b : Fin 8) (n : Fin 17) (r : Fin 128)
    (g u : Fin 4) (x : Fin 16) : scores p s (ix6 b n g u r ⟨1 + x.val, by omega⟩)
      = metaScore (queries p) (metaRows (keyCols p)) (ix6 b n g u r x) := by
  pointwise [scores, joined]

theorem scores_band (p : FVec Ideal S8x2176x9728 .f32) (s : FVec Ideal S1x16 .f32) (b : Fin 8) (n : Fin 17) (r : Fin 128)
    (g u : Fin 4) (k : Fin 256) : scores p s (ix6 b n g u r ⟨17 + k.val, by omega⟩)
      = bandScore (queries p) (band (windows (keyCols p))) (ix6 b n g u r k) := by
  pointwise [scores, joined]
  rw [dif_neg (by omega), dif_neg (by omega)]
  congr 2
  apply Fin.ext; simp only; omega

theorem metaScore_at (p : FVec Ideal S8x2176x9728 .f32) (b : Fin 8) (n : Fin 17) (hn : 1 ≤ n.val) (r : Fin 128)
    (g u : Fin 4) (x : Fin 16) : metaScore (queries p) (metaRows (keyCols p)) (ix6 b n g u r x)
      = ∑ d : Fin 64, p (ix3 b ⟨112 + x.val, by omega⟩ ⟨9216 + (g.val * 64 + d.val), by omega⟩)
        * (p (ix3 b ⟨n.val * 128 + r.val, by omega⟩ ⟨g.val * 256 + u.val * 64 + d.val, by omega⟩)
          * Ideal.ofBits .f32 1040187392#32) := by
  pointwise [metaScore]
  rw [metaSeen_at n hn r x]
  show ∑ d : Fin 64, metaRows (keyCols p) (ix4 b x g d) * queries p (ix6 b n r g u d) = _
  exact Finset.sum_congr rfl fun d _ => by rw [keyMeta_at, queries_at]

theorem slopes_at (g u : Fin 4) : slopes (ix6 0 0 g u 0 0)
    = Ideal.ofBits .f32 (lit0 (S16.rowMajor (ix1 ⟨g.val * 4 + u.val, by omega⟩))) := by
  pointwise [slopes]

/-- The 32-bit integer of an ideal conversion. -/
theorem sitofp_at (w : BitVec 32) : FloatOps.sitofp (F := Ideal) .f32 w = ((w.toInt : ℝ) : EReal) := rfl

theorem bandScore_at (p : FVec Ideal S8x2176x9728 .f32) (b : Fin 8) (n : Fin 17) (hn : 1 ≤ n.val) (r : Fin 128)
    (g u : Fin 4) (k : Fin 256) : bandScore (queries p) (band (windows (keyCols p))) (ix6 b n g u r k)
      = if k.val ≤ 128 + r.val ∧ r.val < k.val ∧ 256 ≤ n.val * 128 + k.val then
        ∑ d : Fin 64, p (ix3 b ⟨n.val * 128 + k.val - 128, by omega⟩ ⟨9216 + (g.val * 64 + d.val), by omega⟩)
          * (p (ix3 b ⟨n.val * 128 + r.val, by omega⟩ ⟨g.val * 256 + u.val * 64 + d.val, by omega⟩)
            * Ideal.ofBits .f32 1040187392#32)
          - Ideal.ofBits .f32 (lit0 (S16.rowMajor (ix1 ⟨g.val * 4 + u.val, by omega⟩)))
            * (((128 + (r.val : ℤ) - k.val : ℤ) : ℝ) : EReal)
        else ⊥ := by
  pointwise [bandScore, bandRaw]
  rw [Words.select_if _ _ (bandSeen_at n hn r k), slopes_at, sitofp_at, distance_at n hn r k]
  have e : id (constant (F := Ideal) S_ .f32 4286578688#32) ix0 = (⊥ : EReal) := Words.neg_inf
  rw [e]
  have e2 : ∀ d, band (windows (keyCols p)) (ix5 b n k g d) * queries p (ix6 b n r g u d)
    = p (ix3 b ⟨n.val * 128 + k.val - 128, by omega⟩ ⟨9216 + (g.val * 64 + d.val), by omega⟩)
          * (p (ix3 b ⟨n.val * 128 + r.val, by omega⟩ ⟨g.val * 256 + u.val * 64 + d.val, by omega⟩)
            * Ideal.ofBits .f32 1040187392#32) := fun d => by rw [keyBand_at _ _ _ hn, queries_at]
  rw [Finset.sum_congr rfl fun d _ => e2 d]

end Cert.Proof.AttnRef

end
-- ==== Proof.AttnRefWhole.lean ====
/- The reference attention's weights, means and result, read at an index. -/
module

public import proofs.«01_k».proof.Proof.AttnRefScores
public import proofs.«01_k».proof.Proof.Words

@[expose] public section

set_option maxRecDepth 16384

noncomputable section

namespace Cert.Proof.AttnRef

open Cert.ReferenceIdeal Cert.ReferenceIdeal.Gen Cert.ReferenceIdeal.Value
open Idealize.ShloMosaic Idealize.ShloMosaic.TcCoe Idealize.SL.Sem

/-- The exponentials of scores less a number per row. -/
theorem less_at (x : FVec Ideal S8x17x4x4x128x273 .f32) (t : FVec Ideal S8x17x4x4x128 .f32) (b : Fin 8) (n : Fin 17)
    (g u : Fin 4) (r : Fin 128) (k : Fin 273) :
    Host.exp (subf x (broadcastInDim S8x17x4x4x128x273 ![0, 1, 2, 3, 4, 5]
      bcast_S8x17x4x4x128x1_S8x17x4x4x128x273_0_1_2_3_4_5
      (broadcastInDim S8x17x4x4x128x1 ![0, 1, 2, 3, 4] bcast_S8x17x4x4x128_S8x17x4x4x128x1_0_1_2_3_4 t)))
      (ix6 b n g u r k) = Ideal.exp (x (ix6 b n g u r k) - t (ix5 b n g u r)) := by
  pointwise []

/-- The larger of minus infinity and a number. -/
theorem floor_at (t : FVec Ideal S8x17x4x4x128 .f32) (i : S8x17x4x4x128.Idx) :
    maximumf (broadcastInDim S8x17x4x4x128 ![] bcast_S_S8x17x4x4x128 (constant S_ .f32 0xFF800000#32)) t i
      = max (Ideal.ofBits .f32 4286578688#32) (t i) := by
  exact congrFun (congrFun Ideal.maximumf_eq_max _) _

/-- A weight: the exponential of the score less the row's largest. -/
theorem weights_at (x : FVec Ideal S8x17x4x4x128x273 .f32) (b : Fin 8) (n : Fin 17) (g u : Fin 4) (r : Fin 128)
    (k : Fin 273) : weights x (ix6 b n g u r k) = Ideal.exp (x (ix6 b n g u r k)
      - max (Ideal.ofBits .f32 4286578688#32) (top x (ix5 b n g u r))) := by
  unfold weights
  rw [less_at, floor_at]

/-- A weight over the sum of the row's weights. -/
theorem quot_at (e : FVec Ideal S8x17x4x4x128x273 .f32) (b : Fin 8) (n : Fin 17) (g u : Fin 4) (r : Fin 128)
    (k : Fin 273) : probs e (ix6 b n g u r k) = Ideal.div (e (ix6 b n g u r k)) (total e (ix5 b n g u r)) := by
  pointwise [probs]

/-- A weight over the sum of the row's weights, from the row's scores. -/
theorem probs_at (x : FVec Ideal S8x17x4x4x128x273 .f32) (b : Fin 8) (n : Fin 17) (g u : Fin 4) (r : Fin 128)
    (k : Fin 273) (mr : EReal) (hm : mr = max ⊥ ((Finset.univ : Finset (Fin 273)).fold max ⊥ fun k => x (ix6 b n g u r k))) :
    probs (weights x) (ix6 b n g u r k)
      = Ideal.div (Ideal.exp (x (ix6 b n g u r k) - mr)) (∑ k : Fin 273, Ideal.exp (x (ix6 b n g u r k) - mr)) := by
  have w : ∀ k, weights x (ix6 b n g u r k) = Ideal.exp (x (ix6 b n g u r k) - mr) := fun k => by
    rw [weights_at, top_at, Words.neg_inf, ← hm]
  rw [quot_at, total_at, w, Words.zero_lit, zero_add]
  exact congrArg (Ideal.div _) (Finset.sum_congr rfl fun k _ => w k)

/-- The mean under the weights: over the meta values and the two blocks of the band. -/
theorem mixed_at (p : FVec Ideal S8x2176x9728 .f32) (pr : FVec Ideal S8x17x4x4x128x273 .f32) (b : Fin 8) (n : Fin 17)
    (hn : 1 ≤ n.val) (r : Fin 128) (g u : Fin 4) (d : Fin 64) :
    mixed pr (metaRows (valCols p)) (band (windows (valCols p))) (ix6 b n r g u d)
      = ∑ x : Fin 16, p (ix3 b ⟨112 + x.val, by omega⟩ ⟨9472 + (g.val * 64 + d.val), by omega⟩)
          * pr (ix6 b n g u r ⟨1 + x.val, by omega⟩)
        + (∑ k : Fin 128, p (ix3 b ⟨n.val * 128 + k.val - 128, by omega⟩ ⟨9472 + (g.val * 64 + d.val), by omega⟩)
            * pr (ix6 b n g u r ⟨17 + k.val, by omega⟩)
          + ∑ k : Fin 128, p (ix3 b ⟨n.val * 128 + k.val, by omega⟩ ⟨9472 + (g.val * 64 + d.val), by omega⟩)
            * pr (ix6 b n g u r ⟨145 + k.val, by omega⟩)) := by
  pointwise [mixed]
  refine congrArg₂ (· + ·) ?_ ?_
  · exact Finset.sum_congr rfl fun x _ => by rw [valMeta_at]
  · rw [Fin.sum_univ_two_halves 128 128 rfl]
    refine congrArg₂ (· + ·) ?_ ?_
    · exact Finset.sum_congr rfl fun x _ => by rw [valBand_at _ _ _ hn]
    · refine Finset.sum_congr rfl fun x _ => ?_
      rw [valBand_at _ _ _ hn]
      have e1 : n.val * 128 + (128 + x.val) - 128 = n.val * 128 + x.val := by omega
      have e2 : 17 + (128 + x.val) = 145 + x.val := by omega
      simp only [e1, e2]

/-- The gated result, at the row's window and the column's head. -/
theorem whole_at (p : FVec Ideal S8x2176x9728 .f32) (s : FVec Ideal S1x16 .f32) (b : Fin 8) (j : Fin 16) (r : Fin 128)
    (g u : Fin 4) (d : Fin 64) :
    whole p s (ix3 b ⟨j.val * 128 + r.val, by omega⟩ ⟨g.val * 256 + u.val * 64 + d.val, by omega⟩)
      = mixed (probs (weights (scores p s))) (metaRows (valCols p)) (band (windows (valCols p)))
          (ix6 b ⟨j.val + 1, by omega⟩ r g u d)
        * (p (ix3 b ⟨(j.val + 1) * 128 + r.val, by omega⟩ ⟨1024 + (g.val * 256 + u.val * 64 + d.val), by omega⟩)
          * Ideal.div 1 (1 + Ideal.exp (-p (ix3 b ⟨(j.val + 1) * 128 + r.val, by omega⟩
            ⟨1024 + (g.val * 256 + u.val * 64 + d.val), by omega⟩)))) := by
  pointwise [whole, gated, gate]
  have e : ((j.val + 1) * 128 + r.val) / 128 = j.val + 1 := by omega
  have e2 : 128 + (j.val * 128 + r.val) = (j.val + 1) * 128 + r.val := by omega
  simp only [e2, e]

end Cert.Proof.AttnRef

end
-- ==== Proof.AttnEq.lean ====
/- One head of the kernel at one row and channel is the reference's mean there. -/
module

public import proofs.«01_k».proof.Proof.AttnCore
public import proofs.«01_k».proof.Proof.AttnHeadRead
public import proofs.«01_k».proof.Proof.AttnRefWhole

@[expose] public section

set_option maxRecDepth 16384

noncomputable section

namespace Cert.Proof.AttnEq

open Idealize.ShloMosaic Cert.Proof.AttnCore

/-- A sum of finite products is finite. -/
theorem real_sum {n : Nat} (f : Fin n → EReal) (h : ∀ k, ∃ v : ℝ, f k = v) : ∃ v : ℝ, ∑ k, f k = v := by
  have : ∀ s : Finset (Fin n), ∃ v : ℝ, ∑ k ∈ s, f k = v := by
    intro s
    induction s using Finset.induction_on with
    | empty => exact ⟨0, by simp⟩
    | insert a s ha ih =>
      obtain ⟨v, hv⟩ := ih
      obtain ⟨w, hw⟩ := h a
      exact ⟨w + v, by rw [Finset.sum_insert ha, hv, hw, EReal.coe_add]⟩
  exact this _

theorem real_mul {x y : EReal} (hx : ∃ v : ℝ, x = v) (hy : ∃ v : ℝ, y = v) : ∃ v : ℝ, x * y = v := by
  obtain ⟨v, rfl⟩ := hx
  obtain ⟨w, rfl⟩ := hy
  exact ⟨v * w, by rw [EReal.coe_mul]⟩

theorem real_sub {x y : EReal} (hx : ∃ v : ℝ, x = v) (hy : ∃ v : ℝ, y = v) : ∃ v : ℝ, x - y = v := by
  obtain ⟨v, rfl⟩ := hx
  obtain ⟨w, rfl⟩ := hy
  exact ⟨v - w, by rw [EReal.coe_sub]⟩

theorem real_top {x : EReal} (hx : ∃ v : ℝ, x = v) : x ≠ ⊤ := by
  obtain ⟨v, rfl⟩ := hx; exact EReal.coe_ne_top v

/-- The factor 1/8 in the two programs' types. -/
theorem eighth : Ideal.ofBits .bf16 15872#16 = Ideal.ofBits .f32 1040187392#32 := by
  simp [Ideal.ofBits, Ideal.ieee, -EReal.coe_mul]
  norm_num

theorem eighth_real : ∃ v : ℝ, Ideal.ofBits .f32 1040187392#32 = v :=
  ⟨1 / 8, by simp [Ideal.ofBits, Ideal.ieee, -EReal.coe_mul]; norm_num⟩

/-- The padded columns as the reference has them. -/
abbrev Padded := FVec Ideal Cert.ReferenceIdeal.S8x2176x9728 .f32

/-- What of the padded columns and the sinks is finite: the queries past the meta block, all keys, the sinks. -/
structure Finite (p : Padded) (s : FVec Ideal Cert.ReferenceIdeal.S1x16 .f32) : Prop where
  q : ∀ (b : Fin 8) (i : Fin 2176) (e : Fin 9728), 128 ≤ i.val → e.val < 1024 → ∃ v : ℝ, p (ix3 b i e) = v
  k : ∀ (b : Fin 8) (i : Fin 2176) (e : Fin 9728), 9216 ≤ e.val → e.val < 9472 → ∃ v : ℝ, p (ix3 b i e) = v
  s : ∀ h : Fin 16, ∃ v : ℝ, s (ix2 0 h) = v

/-- What a grid point's blocks hold of the padded columns: sequence `b`, window `j + 1`. The block before is read only
    where there is one past the meta block. -/
structure Blocks (p : Padded) (b : Fin 8) (j : Fin 16) (x : Vec Ideal Cert.KernelIdeal.S1x128x1024 .bf16)
    (kb vb : FVec Ideal Cert.KernelIdeal.S256x256 .bf16) (km vm : FVec Ideal Cert.KernelIdeal.S16x256 .bf16) : Prop where
  q : ∀ (r : Fin 128) (e : Fin 1024), x (ix3 0 r e) = p (ix3 b ⟨(j.val + 1) * 128 + r.val, by omega⟩ ⟨e.val, by omega⟩)
  kb : ∀ (k : Fin 256) (e : Fin 256), (1 ≤ j.val ∨ 128 ≤ k.val) →
    kb (ix2 k e) = p (ix3 b ⟨(j.val + 1) * 128 + k.val - 128, by omega⟩ ⟨9216 + e.val, by omega⟩)
  vb : ∀ (k : Fin 256) (e : Fin 256), (1 ≤ j.val ∨ 128 ≤ k.val) →
    vb (ix2 k e) = p (ix3 b ⟨(j.val + 1) * 128 + k.val - 128, by omega⟩ ⟨9472 + e.val, by omega⟩)
  km : ∀ (k : Fin 16) (e : Fin 256), km (ix2 k e) = p (ix3 b ⟨112 + k.val, by omega⟩ ⟨9216 + e.val, by omega⟩)
  vm : ∀ (k : Fin 16) (e : Fin 256), vm (ix2 k e) = p (ix3 b ⟨112 + k.val, by omega⟩ ⟨9472 + e.val, by omega⟩)

variable {p : Padded} {s : FVec Ideal Cert.ReferenceIdeal.S1x16 .f32} {b : Fin 8} {j : Fin 16}
  {x : Vec Ideal Cert.KernelIdeal.S1x128x1024 .bf16} {kb vb : FVec Ideal Cert.KernelIdeal.S256x256 .bf16}
  {km vm : FVec Ideal Cert.KernelIdeal.S16x256 .bf16}

/-- The product of a query with row `i` of the padded keys, as the reference writes it. -/
def prod (p : Padded) (b : Fin 8) (j : Fin 16) (g u : Fin 4) (r : Fin 128) (i : Fin 2176) : EReal :=
  ∑ d : Fin 64, p (ix3 b i ⟨9216 + (g.val * 64 + d.val), by omega⟩)
    * (p (ix3 b ⟨(j.val + 1) * 128 + r.val, by omega⟩ ⟨g.val * 256 + u.val * 64 + d.val, by omega⟩)
      * Ideal.ofBits .f32 1040187392#32)

theorem prod_real (hp : Finite p s) (g u : Fin 4) (r : Fin 128) (i : Fin 2176) : ∃ v : ℝ, prod p b j g u r i = v :=
  real_sum _ fun d => real_mul (hp.k _ _ _ (by simp only; omega) (by simp only; omega))
    (real_mul (hp.q _ _ _ (by simp only; omega) (by simp only; omega)) eighth_real)

/-- The kernel's product of a query with a key of the two blocks. -/
theorem band_prod (hb : Blocks p b j x kb vb km vm) (g u : Fin 4)
    (hq : Cert.KernelIdeal.S128x1024.Slices ![0, g.val * 256 + u.val * 64] Cert.KernelIdeal.S128x64)
    (hk : Cert.KernelIdeal.S256x256.Slices ![0, g.val * 64] Cert.KernelIdeal.S256x64) (r : Fin 128) (k : Fin 256)
    (h : 1 ≤ j.val ∨ 128 ≤ k.val) :
    AttnHead.bandProd (g.val * 64) hk (AttnHead.query (g.val * 256 + u.val * 64) hq x) kb (ix2 r k)
      = prod p b j g u r ⟨(j.val + 1) * 128 + k.val - 128, by omega⟩ := by
  rw [AttnHead.bandProd_at _ _ (by omega)]
  refine Finset.sum_congr rfl fun d _ => ?_
  rw [AttnHead.query_at _ _ (by omega), hb.q, hb.kb _ _ h, eighth, mul_comm]

/-- The kernel's product of a query with a meta key. -/
theorem meta_prod (hb : Blocks p b j x kb vb km vm) (g u : Fin 4)
    (hq : Cert.KernelIdeal.S128x1024.Slices ![0, g.val * 256 + u.val * 64] Cert.KernelIdeal.S128x64)
    (hm : Cert.KernelIdeal.S16x256.Slices ![0, g.val * 64] Cert.KernelIdeal.S16x64) (r : Fin 128) (k : Fin 16) :
    AttnHead.metaProd (g.val * 64) hm (AttnHead.query (g.val * 256 + u.val * 64) hq x) km (ix2 r k)
      = prod p b j g u r ⟨112 + k.val, by omega⟩ := by
  rw [AttnHead.metaProd_at _ _ (by omega)]
  refine Finset.sum_congr rfl fun d _ => ?_
  rw [AttnHead.query_at _ _ (by omega), hb.q, hb.km, eighth, mul_comm]

/-- A head's slope in the reference. -/
def slope (g u : Fin 4) : EReal :=
  Ideal.ofBits .f32 (Cert.ReferenceIdeal.lit0 (Cert.ReferenceIdeal.S16.rowMajor (ix1 ⟨g.val * 4 + u.val, by omega⟩)))

/-- The reference's score of a key of the block before. -/
theorem score_before (p : Padded) (s : FVec Ideal Cert.ReferenceIdeal.S1x16 .f32) (b : Fin 8) (j : Fin 16) (g u : Fin 4)
    (r k : Fin 128) : AttnRef.scores p s (ix6 b ⟨j.val + 1, by omega⟩ g u r ⟨17 + k.val, by omega⟩)
      = if r.val < k.val ∧ 1 ≤ j.val then
          prod p b j g u r ⟨(j.val + 1) * 128 + k.val - 128, by omega⟩
            - slope g u * (((128 + (r.val : ℤ) - k.val : ℤ) : ℝ) : EReal)
        else ⊥ := by
  rw [AttnRef.scores_band p s b _ r g u ⟨k.val, by omega⟩, AttnRef.bandScore_at p b _ (by simp only; omega)]
  refine if_congr (by simp only; omega) rfl rfl

/-- The reference's score of a key of the query's own block. -/
theorem score_own (p : Padded) (s : FVec Ideal Cert.ReferenceIdeal.S1x16 .f32) (b : Fin 8) (j : Fin 16) (g u : Fin 4)
    (r k : Fin 128) : AttnRef.scores p s (ix6 b ⟨j.val + 1, by omega⟩ g u r ⟨145 + k.val, by omega⟩)
      = if k ≤ r then
          prod p b j g u r ⟨(j.val + 1) * 128 + (128 + k.val) - 128, by omega⟩
            - slope g u * ((((r.val : ℤ) - k.val : ℤ) : ℝ) : EReal)
        else ⊥ := by
  have e : (⟨145 + k.val, by omega⟩ : Fin 273) = ⟨17 + (⟨128 + k.val, by omega⟩ : Fin 256).val, by simp only; omega⟩ :=
    Fin.ext (by simp only; omega)
  rw [e, AttnRef.scores_band p s b _ r g u ⟨128 + k.val, by omega⟩, AttnRef.bandScore_at p b _ (by simp only; omega)]
  have e2 : (128 + (r.val : ℤ) - ((128 + k.val : ℕ) : ℤ)) = (r.val : ℤ) - k.val := by omega
  simp only [e2]
  refine if_congr (by simp only [Fin.le_def]; omega) rfl rfl

/-- The reference's score of a meta key. -/
theorem score_meta (p : Padded) (s : FVec Ideal Cert.ReferenceIdeal.S1x16 .f32) (b : Fin 8) (j : Fin 16) (g u : Fin 4)
    (r : Fin 128) (k : Fin 16) : AttnRef.scores p s (ix6 b ⟨j.val + 1, by omega⟩ g u r ⟨1 + k.val, by omega⟩)
      = prod p b j g u r ⟨112 + k.val, by omega⟩ := by
  rw [AttnRef.scores_meta, AttnRef.metaScore_at p b _ (by simp only; omega)]
  rfl

/-- Less anything, minus infinity stays. -/
theorem bot_sub (y : EReal) : (⊥ : EReal) - y = ⊥ := by rw [sub_eq_add_neg, EReal.bot_add]

/-- The scores of one row of a head in the two programs. -/
theorem row (hp : Finite p s) (hb : Blocks p b j x kb vb km vm) (g u : Fin 4) (w : BitVec 32)
    (hw : Ideal.ofBits .f32 w = slope g u) (hr : ∃ v : ℝ, slope g u = v)
    (hq : Cert.KernelIdeal.S128x1024.Slices ![0, g.val * 256 + u.val * 64] Cert.KernelIdeal.S128x64)
    (hk : Cert.KernelIdeal.S256x256.Slices ![0, g.val * 64] Cert.KernelIdeal.S256x64)
    (hm : Cert.KernelIdeal.S16x256.Slices ![0, g.val * 64] Cert.KernelIdeal.S16x64) (first : BitVec 1)
    (hf : first = 1#1 ↔ 1 ≤ j.val) (r : Fin 128) :
    Row r (fun k => AttnHead.tile w first
          (AttnHead.bandProd (g.val * 64) hk (AttnHead.query (g.val * 256 + u.val * 64) hq x) kb) (ix2 r k))
      (fun k => AttnRef.scores p s (ix6 b ⟨j.val + 1, by omega⟩ g u r ⟨17 + k.val, by omega⟩))
      (fun k => AttnRef.scores p s (ix6 b ⟨j.val + 1, by omega⟩ g u r ⟨145 + k.val, by omega⟩))
      (fun k => AttnHead.metaProd (g.val * 64) hm (AttnHead.query (g.val * 256 + u.val * 64) hq x) km (ix2 r k))
      (s (ix2 0 ⟨g.val * 4 + u.val, by omega⟩))
      (fun k => AttnRef.scores p s (ix6 b ⟨j.val + 1, by omega⟩ g u r k)) where
  tile k := by
    rw [AttnHead.tile_at w first _ hf, AttnHead.behind_at, score_before, score_own, hw]
    by_cases c : k ≤ r
    · rw [if_pos c, if_pos c, if_pos c, if_pos c, band_prod hb g u hq hk r _ (Or.inr (by simp only; omega))]
    · rw [if_neg c, if_neg c, if_neg c]
      by_cases d : 1 ≤ j.val
      · rw [if_pos d, if_pos ⟨by omega, d⟩, band_prod hb g u hq hk r _ (Or.inl d)]
      · rw [if_neg d, if_neg (fun h => d h.2), bot_sub]
  hidA k c := by rw [score_before, if_neg (fun h => absurd h.1 (by omega))]
  hidB k c := by rw [score_own, if_neg c]
  topA k := by
    rw [score_before]
    split
    · exact real_top (real_sub (prod_real hp g u r _) (real_mul hr ⟨_, rfl⟩))
    · exact bot_ne_top
  topB k := by
    rw [score_own]
    split
    · exact real_top (real_sub (prod_real hp g u r _) (real_mul hr ⟨_, rfl⟩))
    · exact bot_ne_top
  topM k := by rw [meta_prod hb]; exact real_top (prod_real hp g u r _)
  topS := real_top (hp.s _)
  botS := by obtain ⟨v, hv⟩ := hp.s ⟨g.val * 4 + u.val, by omega⟩; rw [hv]; exact EReal.coe_ne_bot v
  j0 := AttnRef.scores_sink p s b _ r g u
  jM k := by rw [score_meta, meta_prod hb]
  jA _ := rfl
  jB _ := rfl

/-- A head of the kernel is the reference's mean. -/
theorem head_eq (hp : Finite p s) (hb : Blocks p b j x kb vb km vm) (g u : Fin 4) (w : BitVec 32)
    (hw : Ideal.ofBits .f32 w = slope g u) (hr : ∃ v : ℝ, slope g u = v)
    (hq : Cert.KernelIdeal.S128x1024.Slices ![0, g.val * 256 + u.val * 64] Cert.KernelIdeal.S128x64)
    (hk : Cert.KernelIdeal.S256x256.Slices ![0, g.val * 64] Cert.KernelIdeal.S256x64)
    (hm : Cert.KernelIdeal.S16x256.Slices ![0, g.val * 64] Cert.KernelIdeal.S16x64) (first : BitVec 1)
    (hf : first = 1#1 ↔ 1 ≤ j.val) (r : Fin 128) (d : Fin 64) :
    AttnHead.head w (g.val * 256 + u.val * 64) (g.val * 64) hq hk hm first x kb vb km vm
        (s (ix2 0 ⟨g.val * 4 + u.val, by omega⟩)) (ix2 r d)
      = AttnRef.mixed (AttnRef.probs (AttnRef.weights (AttnRef.scores p s))) (AttnRef.metaRows (AttnRef.valCols p))
          (AttnRef.band (AttnRef.windows (AttnRef.valCols p))) (ix6 b ⟨j.val + 1, by omega⟩ r g u d) := by
  have R := row hp hb g u w hw hr hq hk hm first hf r
  unfold AttnHead.head
  rw [AttnHead.mixture_at _ _ _ (by omega), AttnHead.rowSum_at]
  simp only [AttnHead.tileW_at, AttnHead.metaW_at, hb.vm]
  rw [AttnRef.mixed_at p _ b _ (by simp only; omega)]
  simp only [fun k => AttnRef.probs_at (AttnRef.scores p s) b ⟨j.val + 1, by omega⟩ g u r k _ rfl]
  have hvc : ∀ k : Fin 128, vb (ix2 ⟨128 + k.val, by omega⟩ ⟨g.val * 64 + d.val, by omega⟩)
      = p (ix3 b ⟨(j.val + 1) * 128 + k.val, by omega⟩ ⟨9472 + (g.val * 64 + d.val), by omega⟩) := fun k => by
    have e : (j.val + 1) * 128 + (128 + k.val) - 128 = (j.val + 1) * 128 + k.val := by omega
    rw [hb.vb _ _ (Or.inr (by simp only; omega))]
    simp only [e]
  simp only [hvc]
  refine R.equation _ _ _ _ (fun k h => ?_) _ _ (AttnHead.rowTop_at _ _ _ r) rfl
  rw [score_before] at h
  by_cases c : r.val < k.val ∧ 1 ≤ j.val
  · exact (hb.vb ⟨k.val, by omega⟩ ⟨g.val * 64 + d.val, by omega⟩ (Or.inl c.2)).symm
  · exact absurd (if_neg c) h

end Cert.Proof.AttnEq

end
-- ==== Proof.AttnCols.lean ====
/- The sixteen heads of the kernel's block, side by side, at a column. -/
module

public import proofs.«01_k».proof.Proof.AttnHead
public import Idealize.ShloMosaic.Lib.Pipeline.Value

@[expose] public section

set_option maxRecDepth 16384

noncomputable section

namespace Cert.Proof.AttnHead

open Cert.KernelIdeal Cert.KernelIdeal.Gen Idealize.ShloMosaic

/-- Sixteen pieces of 64 columns. -/
def cols (a : Fin 16 → FVec Ideal S128x64 .f32) : List ((s : Shape) × (s.Idx → EReal)) :=
  [⟨S128x64, a 0⟩, ⟨S128x64, a 1⟩, ⟨S128x64, a 2⟩, ⟨S128x64, a 3⟩, ⟨S128x64, a 4⟩, ⟨S128x64, a 5⟩, ⟨S128x64, a 6⟩, ⟨S128x64, a 7⟩,
    ⟨S128x64, a 8⟩, ⟨S128x64, a 9⟩, ⟨S128x64, a 10⟩, ⟨S128x64, a 11⟩, ⟨S128x64, a 12⟩, ⟨S128x64, a 13⟩, ⟨S128x64, a 14⟩, ⟨S128x64, a 15⟩]

theorem cols_get (a : Fin 16 → FVec Ideal S128x64 .f32) (h : Fin 16) :
    (cols a)[h.val]'h.isLt = ⟨S128x64, a h⟩ := by
  fin_cases h <;> rfl

/-- The pieces' shapes. -/
abbrev shapes : List Shape :=
  [S128x64, S128x64, S128x64, S128x64, S128x64, S128x64, S128x64, S128x64, S128x64, S128x64, S128x64, S128x64, S128x64, S128x64, S128x64, S128x64]

/-- The columns before piece `h`. -/
theorem before : ∀ h : Fin 16, ((shapes.take h.val).map fun s : Shape =>
    if e : s.rank = S128x1024.rank then s.size ((1 : Fin S128x1024.rank).cast e.symm) else 0).sum = 64 * h.val := by
  decide +kernel

theorem cols_take (a : Fin 16 → FVec Ideal S128x64 .f32) (h : Fin 16) :
    ((cols a).take h.val).map (·.1) = shapes.take h.val := by
  rw [List.map_take]
  rfl

/-- Sixteen pieces of 64 columns side by side, at column `64 h + d`. -/
theorem cols_at (a : Fin 16 → FVec Ideal S128x64 .f32) (r : Fin 128) (h : Fin 16) (d : Fin 64) :
    concatenate S128x1024 1 (cols a)
      concatenates_S128x64_S128x64_S128x64_S128x64_S128x64_S128x64_S128x64_S128x64_S128x64_S128x64_S128x64_S128x64_S128x64_S128x64_S128x64_S128x64_S128x1024_d1
      (ix2 r ⟨64 * h.val + d.val, by omega⟩) = a h (ix2 r d) := by
  refine concatenate_apply_piece (t := S128x1024) 1 (cols a) _ _ h.val h.isLt S128x64 (a h) (cols_get a h) rfl (64 * h.val)
    (by rw [cols_take]; exact before h) (ix2 r d) ?_ rfl
  intro b' hb
  match b' with
  | ⟨0, _⟩ => rfl
  | ⟨1, _⟩ => exact absurd rfl hb

/-- The heads at column `64 h + d`. -/
theorem heads_col (first : BitVec 1) (x : Vec Ideal S1x128x1024 .bf16) (kb vb : FVec Ideal S256x256 .bf16)
    (km vm : FVec Ideal S16x256 .bf16) (sk : Fin 16 → EReal) (r : Fin 128) (h : Fin 16) (d : Fin 64) :
    heads (F := Ideal) first x kb vb km vm sk (ix2 r ⟨64 * h.val + d.val, by omega⟩)
      = (![head 0x3F3504F3#32 0 0 slices_S128x1024_o0_0_S128x64 slices_S256x256_o0_0_S256x64 slices_S16x256_o0_0_S16x64 first x kb vb km vm (sk 0),
        head 0x3F000000#32 64 0 slices_S128x1024_o0_64_S128x64 slices_S256x256_o0_0_S256x64 slices_S16x256_o0_0_S16x64 first x kb vb km vm (sk 1),
        head 0x3EB504F3#32 128 0 slices_S128x1024_o0_128_S128x64 slices_S256x256_o0_0_S256x64 slices_S16x256_o0_0_S16x64 first x kb vb km vm (sk 2),
        head 0x3E800000#32 192 0 slices_S128x1024_o0_192_S128x64 slices_S256x256_o0_0_S256x64 slices_S16x256_o0_0_S16x64 first x kb vb km vm (sk 3),
        head 0x3E3504F3#32 256 64 slices_S128x1024_o0_256_S128x64 slices_S256x256_o0_64_S256x64 slices_S16x256_o0_64_S16x64 first x kb vb km vm (sk 4),
        head 0x3E000000#32 320 64 slices_S128x1024_o0_320_S128x64 slices_S256x256_o0_64_S256x64 slices_S16x256_o0_64_S16x64 first x kb vb km vm (sk 5),
        head 0x3DB504F3#32 384 64 slices_S128x1024_o0_384_S128x64 slices_S256x256_o0_64_S256x64 slices_S16x256_o0_64_S16x64 first x kb vb km vm (sk 6),
        head 0x3D800000#32 448 64 slices_S128x1024_o0_448_S128x64 slices_S256x256_o0_64_S256x64 slices_S16x256_o0_64_S16x64 first x kb vb km vm (sk 7),
        head 0x3D3504F3#32 512 128 slices_S128x1024_o0_512_S128x64 slices_S256x256_o0_128_S256x64 slices_S16x256_o0_128_S16x64 first x kb vb km vm (sk 8),
        head 0x3D000000#32 576 128 slices_S128x1024_o0_576_S128x64 slices_S256x256_o0_128_S256x64 slices_S16x256_o0_128_S16x64 first x kb vb km vm (sk 9),
        head 0x3CB504F3#32 640 128 slices_S128x1024_o0_640_S128x64 slices_S256x256_o0_128_S256x64 slices_S16x256_o0_128_S16x64 first x kb vb km vm (sk 10),
        head 0x3C800000#32 704 128 slices_S128x1024_o0_704_S128x64 slices_S256x256_o0_128_S256x64 slices_S16x256_o0_128_S16x64 first x kb vb km vm (sk 11),
        head 0x3C3504F3#32 768 192 slices_S128x1024_o0_768_S128x64 slices_S256x256_o0_192_S256x64 slices_S16x256_o0_192_S16x64 first x kb vb km vm (sk 12),
        head 0x3C000000#32 832 192 slices_S128x1024_o0_832_S128x64 slices_S256x256_o0_192_S256x64 slices_S16x256_o0_192_S16x64 first x kb vb km vm (sk 13),
        head 0x3BB504F3#32 896 192 slices_S128x1024_o0_896_S128x64 slices_S256x256_o0_192_S256x64 slices_S16x256_o0_192_S16x64 first x kb vb km vm (sk 14),
        head 0x3B800000#32 960 192 slices_S128x1024_o0_960_S128x64 slices_S256x256_o0_192_S256x64 slices_S16x256_o0_192_S16x64 first x kb vb km vm (sk 15)] :
        Fin 16 → FVec Ideal S128x64 .f32) h (ix2 r d) :=
  cols_at (![head 0x3F3504F3#32 0 0 slices_S128x1024_o0_0_S128x64 slices_S256x256_o0_0_S256x64 slices_S16x256_o0_0_S16x64 first x kb vb km vm (sk 0),
        head 0x3F000000#32 64 0 slices_S128x1024_o0_64_S128x64 slices_S256x256_o0_0_S256x64 slices_S16x256_o0_0_S16x64 first x kb vb km vm (sk 1),
        head 0x3EB504F3#32 128 0 slices_S128x1024_o0_128_S128x64 slices_S256x256_o0_0_S256x64 slices_S16x256_o0_0_S16x64 first x kb vb km vm (sk 2),
        head 0x3E800000#32 192 0 slices_S128x1024_o0_192_S128x64 slices_S256x256_o0_0_S256x64 slices_S16x256_o0_0_S16x64 first x kb vb km vm (sk 3),
        head 0x3E3504F3#32 256 64 slices_S128x1024_o0_256_S128x64 slices_S256x256_o0_64_S256x64 slices_S16x256_o0_64_S16x64 first x kb vb km vm (sk 4),
        head 0x3E000000#32 320 64 slices_S128x1024_o0_320_S128x64 slices_S256x256_o0_64_S256x64 slices_S16x256_o0_64_S16x64 first x kb vb km vm (sk 5),
        head 0x3DB504F3#32 384 64 slices_S128x1024_o0_384_S128x64 slices_S256x256_o0_64_S256x64 slices_S16x256_o0_64_S16x64 first x kb vb km vm (sk 6),
        head 0x3D800000#32 448 64 slices_S128x1024_o0_448_S128x64 slices_S256x256_o0_64_S256x64 slices_S16x256_o0_64_S16x64 first x kb vb km vm (sk 7),
        head 0x3D3504F3#32 512 128 slices_S128x1024_o0_512_S128x64 slices_S256x256_o0_128_S256x64 slices_S16x256_o0_128_S16x64 first x kb vb km vm (sk 8),
        head 0x3D000000#32 576 128 slices_S128x1024_o0_576_S128x64 slices_S256x256_o0_128_S256x64 slices_S16x256_o0_128_S16x64 first x kb vb km vm (sk 9),
        head 0x3CB504F3#32 640 128 slices_S128x1024_o0_640_S128x64 slices_S256x256_o0_128_S256x64 slices_S16x256_o0_128_S16x64 first x kb vb km vm (sk 10),
        head 0x3C800000#32 704 128 slices_S128x1024_o0_704_S128x64 slices_S256x256_o0_128_S256x64 slices_S16x256_o0_128_S16x64 first x kb vb km vm (sk 11),
        head 0x3C3504F3#32 768 192 slices_S128x1024_o0_768_S128x64 slices_S256x256_o0_192_S256x64 slices_S16x256_o0_192_S16x64 first x kb vb km vm (sk 12),
        head 0x3C000000#32 832 192 slices_S128x1024_o0_832_S128x64 slices_S256x256_o0_192_S256x64 slices_S16x256_o0_192_S16x64 first x kb vb km vm (sk 13),
        head 0x3BB504F3#32 896 192 slices_S128x1024_o0_896_S128x64 slices_S256x256_o0_192_S256x64 slices_S16x256_o0_192_S16x64 first x kb vb km vm (sk 14),
        head 0x3B800000#32 960 192 slices_S128x1024_o0_960_S128x64 slices_S256x256_o0_192_S256x64 slices_S16x256_o0_192_S16x64 first x kb vb km vm (sk 15)]) r h d

end Cert.Proof.AttnHead

end
-- ==== Proof.AttnBlock.lean ====
/- What a grid point of the attention kernel stores is the reference's result there: the sixteen heads side by side, gated. -/
module

public import proofs.«01_k».proof.Proof.AttnEq
public import proofs.«01_k».proof.Proof.AttnCols

@[expose] public section

set_option maxRecDepth 16384

noncomputable section

namespace Cert.Proof.AttnEq

open Idealize.ShloMosaic Cert.Proof.AttnCore
open Cert.KernelIdeal Cert.KernelIdeal.Gen

variable {p : Padded} {s : FVec Ideal Cert.ReferenceIdeal.S1x16 .f32} {b : Fin 8} {j : Fin 16}
  {x : Vec Ideal Cert.KernelIdeal.S1x128x1024 .bf16} {kb vb : FVec Ideal Cert.KernelIdeal.S256x256 .bf16}
  {km vm : FVec Ideal Cert.KernelIdeal.S16x256 .bf16}

/-- A literal whose exponent bits are not all ones is finite. -/
theorem literal_real (w : BitVec 32) (h : (w.extractLsb' 23 8).toNat ≠ 2 ^ 8 - 1) : ∃ v : ℝ, Ideal.ofBits .f32 w = v := by
  show ∃ v : ℝ, Ideal.ieee 8 23 w = v
  unfold Ideal.ieee
  simp only [if_neg h]
  split
  · exact ⟨_, rfl⟩
  · exact ⟨_, rfl⟩

/-- The slopes are finite. -/
theorem slope_real (g u : Fin 4) : ∃ v : ℝ, slope g u = v :=
  literal_real _ ((by decide +kernel : ∀ g u : Fin 4, ((Cert.ReferenceIdeal.lit0 (Cert.ReferenceIdeal.S16.rowMajor
    (ix1 ⟨g.val * 4 + u.val, by omega⟩))).extractLsb' 23 8).toNat ≠ 2 ^ 8 - 1) g u)

/-- The kernel's heads at a row and column are the reference's mean there. -/
theorem heads_eq (hp : Finite p s) (hb : Blocks p b j x kb vb km vm) (first : BitVec 1)
    (hf : first = 1#1 ↔ 1 ≤ j.val) (r : Fin 128) (g u : Fin 4) (d : Fin 64) :
    AttnHead.heads (F := Ideal) first x kb vb km vm (fun h => s (ix2 0 h))
        (ix2 r ⟨g.val * 256 + u.val * 64 + d.val, by omega⟩)
      = AttnRef.mixed (AttnRef.probs (AttnRef.weights (AttnRef.scores p s))) (AttnRef.metaRows (AttnRef.valCols p))
          (AttnRef.band (AttnRef.windows (AttnRef.valCols p))) (ix6 b ⟨j.val + 1, by omega⟩ r g u d) := by
  have e : (⟨g.val * 256 + u.val * 64 + d.val, by omega⟩ : Fin 1024)
      = ⟨64 * (⟨g.val * 4 + u.val, by omega⟩ : Fin 16).val + d.val, by simp only; omega⟩ := Fin.ext (by simp only; omega)
  rw [e, AttnHead.heads_col]
  fin_cases g <;> fin_cases u
  · exact head_eq hp hb 0 0 0x3F3504F3#32 (congrArg (Ideal.ofBits .f32) (by decide +kernel)) (slope_real 0 0)
      slices_S128x1024_o0_0_S128x64 slices_S256x256_o0_0_S256x64
      slices_S16x256_o0_0_S16x64 first hf r d
  · exact head_eq hp hb 0 1 0x3F000000#32 (congrArg (Ideal.ofBits .f32) (by decide +kernel)) (slope_real 0 1)
      slices_S128x1024_o0_64_S128x64 slices_S256x256_o0_0_S256x64
      slices_S16x256_o0_0_S16x64 first hf r d
  · exact head_eq hp hb 0 2 0x3EB504F3#32 (congrArg (Ideal.ofBits .f32) (by decide +kernel)) (slope_real 0 2)
      slices_S128x1024_o0_128_S128x64 slices_S256x256_o0_0_S256x64
      slices_S16x256_o0_0_S16x64 first hf r d
  · exact head_eq hp hb 0 3 0x3E800000#32 (congrArg (Ideal.ofBits .f32) (by decide +kernel)) (slope_real 0 3)
      slices_S128x1024_o0_192_S128x64 slices_S256x256_o0_0_S256x64
      slices_S16x256_o0_0_S16x64 first hf r d
  · exact head_eq hp hb 1 0 0x3E3504F3#32 (congrArg (Ideal.ofBits .f32) (by decide +kernel)) (slope_real 1 0)
      slices_S128x1024_o0_256_S128x64 slices_S256x256_o0_64_S256x64
      slices_S16x256_o0_64_S16x64 first hf r d
  · exact head_eq hp hb 1 1 0x3E000000#32 (congrArg (Ideal.ofBits .f32) (by decide +kernel)) (slope_real 1 1)
      slices_S128x1024_o0_320_S128x64 slices_S256x256_o0_64_S256x64
      slices_S16x256_o0_64_S16x64 first hf r d
  · exact head_eq hp hb 1 2 0x3DB504F3#32 (congrArg (Ideal.ofBits .f32) (by decide +kernel)) (slope_real 1 2)
      slices_S128x1024_o0_384_S128x64 slices_S256x256_o0_64_S256x64
      slices_S16x256_o0_64_S16x64 first hf r d
  · exact head_eq hp hb 1 3 0x3D800000#32 (congrArg (Ideal.ofBits .f32) (by decide +kernel)) (slope_real 1 3)
      slices_S128x1024_o0_448_S128x64 slices_S256x256_o0_64_S256x64
      slices_S16x256_o0_64_S16x64 first hf r d
  · exact head_eq hp hb 2 0 0x3D3504F3#32 (congrArg (Ideal.ofBits .f32) (by decide +kernel)) (slope_real 2 0)
      slices_S128x1024_o0_512_S128x64 slices_S256x256_o0_128_S256x64
      slices_S16x256_o0_128_S16x64 first hf r d
  · exact head_eq hp hb 2 1 0x3D000000#32 (congrArg (Ideal.ofBits .f32) (by decide +kernel)) (slope_real 2 1)
      slices_S128x1024_o0_576_S128x64 slices_S256x256_o0_128_S256x64
      slices_S16x256_o0_128_S16x64 first hf r d
  · exact head_eq hp hb 2 2 0x3CB504F3#32 (congrArg (Ideal.ofBits .f32) (by decide +kernel)) (slope_real 2 2)
      slices_S128x1024_o0_640_S128x64 slices_S256x256_o0_128_S256x64
      slices_S16x256_o0_128_S16x64 first hf r d
  · exact head_eq hp hb 2 3 0x3C800000#32 (congrArg (Ideal.ofBits .f32) (by decide +kernel)) (slope_real 2 3)
      slices_S128x1024_o0_704_S128x64 slices_S256x256_o0_128_S256x64
      slices_S16x256_o0_128_S16x64 first hf r d
  · exact head_eq hp hb 3 0 0x3C3504F3#32 (congrArg (Ideal.ofBits .f32) (by decide +kernel)) (slope_real 3 0)
      slices_S128x1024_o0_768_S128x64 slices_S256x256_o0_192_S256x64
      slices_S16x256_o0_192_S16x64 first hf r d
  · exact head_eq hp hb 3 1 0x3C000000#32 (congrArg (Ideal.ofBits .f32) (by decide +kernel)) (slope_real 3 1)
      slices_S128x1024_o0_832_S128x64 slices_S256x256_o0_192_S256x64
      slices_S16x256_o0_192_S16x64 first hf r d
  · exact head_eq hp hb 3 2 0x3BB504F3#32 (congrArg (Ideal.ofBits .f32) (by decide +kernel)) (slope_real 3 2)
      slices_S128x1024_o0_896_S128x64 slices_S256x256_o0_192_S256x64
      slices_S16x256_o0_192_S16x64 first hf r d
  · exact head_eq hp hb 3 3 0x3B800000#32 (congrArg (Ideal.ofBits .f32) (by decide +kernel)) (slope_real 3 3)
      slices_S128x1024_o0_960_S128x64 slices_S256x256_o0_192_S256x64
      slices_S16x256_o0_192_S16x64 first hf r d

/-- What the windows of a grid point hold of the padded columns: sequence `b`, window `j + 1`. -/
structure Windows (p : Padded) (b : Fin 8) (j : Fin 16) (q : Vec Ideal S1x128x1024 .bf16)
    (kc vc kp vp : Vec Ideal S1x128x256 .bf16) (km vm : Vec Ideal S1x16x256 .bf16) (z : Vec Ideal S1x128x1024 .bf16) :
    Prop where
  q : ∀ (r : Fin 128) (e : Fin 1024), q (ix3 0 r e) = p (ix3 b ⟨(j.val + 1) * 128 + r.val, by omega⟩ ⟨e.val, by omega⟩)
  kc : ∀ (r : Fin 128) (e : Fin 256),
    kc (ix3 0 r e) = p (ix3 b ⟨(j.val + 1) * 128 + r.val, by omega⟩ ⟨9216 + e.val, by omega⟩)
  vc : ∀ (r : Fin 128) (e : Fin 256),
    vc (ix3 0 r e) = p (ix3 b ⟨(j.val + 1) * 128 + r.val, by omega⟩ ⟨9472 + e.val, by omega⟩)
  kp : 1 ≤ j.val → ∀ (r : Fin 128) (e : Fin 256),
    kp (ix3 0 r e) = p (ix3 b ⟨j.val * 128 + r.val, by omega⟩ ⟨9216 + e.val, by omega⟩)
  vp : 1 ≤ j.val → ∀ (r : Fin 128) (e : Fin 256),
    vp (ix3 0 r e) = p (ix3 b ⟨j.val * 128 + r.val, by omega⟩ ⟨9472 + e.val, by omega⟩)
  km : ∀ (x : Fin 16) (e : Fin 256), km (ix3 0 x e) = p (ix3 b ⟨112 + x.val, by omega⟩ ⟨9216 + e.val, by omega⟩)
  vm : ∀ (x : Fin 16) (e : Fin 256), vm (ix3 0 x e) = p (ix3 b ⟨112 + x.val, by omega⟩ ⟨9472 + e.val, by omega⟩)
  z : ∀ (r : Fin 128) (e : Fin 1024),
    z (ix3 0 r e) = p (ix3 b ⟨(j.val + 1) * 128 + r.val, by omega⟩ ⟨1024 + e.val, by omega⟩)

/-- Two blocks of 128 rows are 256 rows of the padded sequence. -/
theorem two_eq (p : Padded) (b : Fin 8) (j : Fin 16) (o : Nat) (ho : o + 256 ≤ 9728) (x y : Vec Ideal S1x128x256 .bf16)
    (hx : 1 ≤ j.val → ∀ (r : Fin 128) (e : Fin 256),
      x (ix3 0 r e) = p (ix3 b ⟨j.val * 128 + r.val, by omega⟩ ⟨o + e.val, by omega⟩))
    (hy : ∀ (r : Fin 128) (e : Fin 256),
      y (ix3 0 r e) = p (ix3 b ⟨(j.val + 1) * 128 + r.val, by omega⟩ ⟨o + e.val, by omega⟩))
    (k : Fin 256) (e : Fin 256) (h : 1 ≤ j.val ∨ 128 ≤ k.val) : AttnHead.twoBlocks (F := Ideal) x y (ix2 k e)
      = p (ix3 b ⟨(j.val + 1) * 128 + k.val - 128, by omega⟩ ⟨o + e.val, by omega⟩) := by
  rw [AttnHead.twoBlocks_at]
  by_cases c : k.val < 128
  · rw [dif_pos c, hx (by omega)]
    exact AttnRef.row_congr p _ _ _ _ (by simp only; omega)
  · rw [dif_neg c, hy]
    exact AttnRef.row_congr p _ _ _ _ (by simp only; omega)

theorem meta_at (x : Vec Ideal S1x16x256 .bf16) (k : Fin 16) (e : Fin 256) :
    (shapeCast S16x256 x shapeCasts_S1x16x256_S16x256 : FVec Ideal S16x256 .bf16) (ix2 k e) = x (ix3 0 k e) := by
  pointwise []

variable {q z : Vec Ideal S1x128x1024 .bf16} {kc vc kp vp : Vec Ideal S1x128x256 .bf16} {mk mv : Vec Ideal S1x16x256 .bf16}

/-- The blocks a head reads. -/
theorem blocks_of (hw : Windows p b j q kc vc kp vp mk mv z) : Blocks p b j q (AttnHead.twoBlocks kp kc)
    (AttnHead.twoBlocks vp vc) (shapeCast S16x256 mk shapeCasts_S1x16x256_S16x256)
    (shapeCast S16x256 mv shapeCasts_S1x16x256_S16x256) where
  q := hw.q
  kb := two_eq p b j 9216 (by omega) kp kc hw.kp hw.kc
  vb := two_eq p b j 9472 (by omega) vp vc hw.vp hw.vc
  km k e := (meta_at mk k e).trans (hw.km k e)
  vm k e := (meta_at mv k e).trans (hw.vm k e)

/-- A block laid flat and gated. -/
theorem gated_at (o g : FVec Ideal S128x1024 .f32) (r : Fin 128) (e : Fin 1024) :
    (shapeCast S1x128x1024 (truncf .bf16 (mulf o g) bitsLt_bf16_f32) shapeCasts_S128x1024_S1x128x1024 :
      FVec Ideal S1x128x1024 .bf16) (ix3 0 r e) = o (ix2 r e) * g (ix2 r e) := by
  pointwise []

/-- What the grid point stores is the reference's result at its rows. -/
theorem block_eq (hp : Finite p s) (hw : Windows p b j q kc vc kp vp mk mv z) (first : BitVec 1)
    (hf : first = 1#1 ↔ 1 ≤ j.val) (r : Fin 128) (e : Fin 1024) :
    AttnHead.blockOut (F := Ideal) first (fun h => s (ix2 0 h)) q kc vc kp vp mk mv z (ix3 0 r e)
      = AttnRef.whole p s (ix3 b ⟨j.val * 128 + r.val, by omega⟩ e) := by
  obtain ⟨g, u, d, rfl⟩ : ∃ (g u : Fin 4) (d : Fin 64), e = ⟨g.val * 256 + u.val * 64 + d.val, by omega⟩ :=
    ⟨⟨e.val / 256, by omega⟩, ⟨e.val / 64 % 4, by omega⟩, ⟨e.val % 64, by omega⟩, Fin.ext (by simp only; omega)⟩
  unfold AttnHead.blockOut
  rw [gated_at, heads_eq hp (blocks_of hw) first hf r g u d, AttnHead.zGate_at, hw.z, AttnRef.whole_at]

end Cert.Proof.AttnEq

end
-- ==== Proof.AttnRun.lean ====
/- The attention kernel's result array after the run is the reference's result of the same arguments. -/
module

public import proofs.«01_k».proof.Proof.AttnBlock
public import proofs.«01_k».proof.Proof.Gen.KernelIdeal.Value
public import Idealize.ShloMosaic.Lib.StableHlo.ReadAt

@[expose] public section

set_option maxRecDepth 16384

noncomputable section

namespace Cert.Proof.AttnRun

open Cert.KernelIdeal Cert.KernelIdeal.Gen Cert.KernelIdeal.Value Idealize.ShloMosaic Idealize.ShloMosaic.TcCoe
open Idealize.SL.Sem Cert.Proof.AttnEq

/-! ## The windows' blocks: grid point `t` is block `t % 16` of sequence `t / 16` -/

theorem coord_j : ∀ t : Fin cfg0.N, (grid0.coords t 1).val = t.val % 16 := (by decide +kernel : ∀ t : Fin grid0.N, _)
theorem idx1 : ∀ t : Fin cfg0.N, win0_1.index t (0 : Fin 3) = t.val / 16 ∧ win0_1.index t (1 : Fin 3) = t.val % 16
    ∧ win0_1.index t (2 : Fin 3) = 0 := (by decide +kernel : ∀ t : Fin grid0.N, _)
theorem idx2 : ∀ t : Fin cfg0.N, win0_2.index t (0 : Fin 3) = t.val / 16 ∧ win0_2.index t (1 : Fin 3) = t.val % 16
    ∧ win0_2.index t (2 : Fin 3) = 36 := (by decide +kernel : ∀ t : Fin grid0.N, _)
theorem idx3 : ∀ t : Fin cfg0.N, win0_3.index t (0 : Fin 3) = t.val / 16 ∧ win0_3.index t (1 : Fin 3) = t.val % 16
    ∧ win0_3.index t (2 : Fin 3) = 37 := (by decide +kernel : ∀ t : Fin grid0.N, _)
theorem idx4 : ∀ t : Fin cfg0.N, win0_4.index t (0 : Fin 3) = t.val / 16 ∧ win0_4.index t (1 : Fin 3) = t.val % 16 - 1
    ∧ win0_4.index t (2 : Fin 3) = 36 := (by decide +kernel : ∀ t : Fin grid0.N, _)
theorem idx5 : ∀ t : Fin cfg0.N, win0_5.index t (0 : Fin 3) = t.val / 16 ∧ win0_5.index t (1 : Fin 3) = t.val % 16 - 1
    ∧ win0_5.index t (2 : Fin 3) = 37 := (by decide +kernel : ∀ t : Fin grid0.N, _)
theorem idx6 : ∀ t : Fin cfg0.N, win0_6.index t (0 : Fin 3) = 0 ∧ win0_6.index t (1 : Fin 3) = 7
    ∧ win0_6.index t (2 : Fin 3) = 36 := (by decide +kernel : ∀ t : Fin grid0.N, _)
theorem idx7 : ∀ t : Fin cfg0.N, win0_7.index t (0 : Fin 3) = 0 ∧ win0_7.index t (1 : Fin 3) = 7
    ∧ win0_7.index t (2 : Fin 3) = 37 := (by decide +kernel : ∀ t : Fin grid0.N, _)
theorem idx8 : ∀ t : Fin cfg0.N, win0_8.index t (0 : Fin 3) = t.val / 16 ∧ win0_8.index t (1 : Fin 3) = t.val % 16
    ∧ win0_8.index t (2 : Fin 3) = 1 := (by decide +kernel : ∀ t : Fin grid0.N, _)
theorem idx9 : ∀ t : Fin cfg0.N, win0_9.index t (0 : Fin 3) = t.val / 16 ∧ win0_9.index t (1 : Fin 3) = t.val % 16
    ∧ win0_9.index t (2 : Fin 3) = 0 := (by decide +kernel : ∀ t : Fin grid0.N, _)
theorem idx0 : ∀ t : Fin cfg0.N, win0_0.index t (0 : Fin 1) = 0 := (by decide +kernel : ∀ t : Fin grid0.N, _)

theorem lt_N (t : Fin cfg0.N) : t.val < 128 := N_0 ▸ t.isLt

/-- The sequence of a grid point, and its block. -/
def seqOf (t : Fin cfg0.N) : Fin 8 := ⟨t.val / 16, by have := lt_N t; omega⟩
def blkOf (t : Fin cfg0.N) : Fin 16 := ⟨t.val % 16, by omega⟩

theorem emb1 (t : Fin cfg0.N) (r : Fin 128) (e : Fin 1024) (y : ((cfg0.win 1).xblock (grid0.coords t)).Idx)
    (y0 : (y (0 : Fin 3)).val = 0) (y1 : (y (1 : Fin 3)).val = r.val) (y2 : (y (2 : Fin 3)).val = e.val) :
    ((cfg0.win 1).blk t).view.emb y = (ix3 (seqOf t) ⟨(blkOf t).val * 128 + r.val, by omega⟩ ⟨e.val, by omega⟩ : S8x2048x9728.Idx) := by
  obtain ⟨e0, e1, e2⟩ := idx1 t
  funext a; apply Fin.ext
  match a with
  | ⟨0, _⟩ => show win0_1.index t (0 : Fin 3) * 1 + 1 * (y (0 : Fin 3)).val = t.val / 16; omega
  | ⟨1, _⟩ => show win0_1.index t (1 : Fin 3) * 128 + 1 * (y (1 : Fin 3)).val = t.val % 16 * 128 + r.val; omega
  | ⟨2, _⟩ => show win0_1.index t (2 : Fin 3) * 1024 + 1 * (y (2 : Fin 3)).val = e.val; omega

theorem emb8 (t : Fin cfg0.N) (r : Fin 128) (e : Fin 1024) (y : ((cfg0.win 8).xblock (grid0.coords t)).Idx)
    (y0 : (y (0 : Fin 3)).val = 0) (y1 : (y (1 : Fin 3)).val = r.val) (y2 : (y (2 : Fin 3)).val = e.val) :
    ((cfg0.win 8).blk t).view.emb y = (ix3 (seqOf t) ⟨(blkOf t).val * 128 + r.val, by omega⟩ ⟨1024 + e.val, by omega⟩ : S8x2048x9728.Idx) := by
  obtain ⟨e0, e1, e2⟩ := idx8 t
  funext a; apply Fin.ext
  match a with
  | ⟨0, _⟩ => show win0_8.index t (0 : Fin 3) * 1 + 1 * (y (0 : Fin 3)).val = t.val / 16; omega
  | ⟨1, _⟩ => show win0_8.index t (1 : Fin 3) * 128 + 1 * (y (1 : Fin 3)).val = t.val % 16 * 128 + r.val; omega
  | ⟨2, _⟩ => show win0_8.index t (2 : Fin 3) * 1024 + 1 * (y (2 : Fin 3)).val = 1024 + e.val; omega

theorem emb9 (t : Fin cfg0.N) (r : Fin 128) (e : Fin 1024) : ((cfg0.win 9).blk t).view.emb (ix3 0 r e)
    = (ix3 (seqOf t) ⟨(blkOf t).val * 128 + r.val, by omega⟩ e : S8x2048x1024.Idx) := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 128 + 1 * r.val = t.val % 16 * 128 + r.val; omega
  | ⟨2, _⟩ => show win0_9.index t (2 : Fin 3) * 1024 + 1 * e.val = e.val; omega

theorem emb2 (t : Fin cfg0.N) (r : Fin 128) (e : Fin 256) : ((cfg0.win 2).blk t).view.emb (ix3 0 r e)
    = (ix3 (seqOf t) ⟨(blkOf t).val * 128 + r.val, by omega⟩ ⟨9216 + e.val, by omega⟩ : S8x2048x9728.Idx) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 128 + 1 * r.val = t.val % 16 * 128 + r.val; omega
  | ⟨2, _⟩ => show win0_2.index t (2 : Fin 3) * 256 + 1 * e.val = 9216 + e.val; omega

theorem emb3 (t : Fin cfg0.N) (r : Fin 128) (e : Fin 256) : ((cfg0.win 3).blk t).view.emb (ix3 0 r e)
    = (ix3 (seqOf t) ⟨(blkOf t).val * 128 + r.val, by omega⟩ ⟨9472 + e.val, by omega⟩ : S8x2048x9728.Idx) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 128 + 1 * r.val = t.val % 16 * 128 + r.val; omega
  | ⟨2, _⟩ => show win0_3.index t (2 : Fin 3) * 256 + 1 * e.val = 9472 + e.val; omega

theorem emb4 (t : Fin cfg0.N) (r : Fin 128) (e : Fin 256) : ((cfg0.win 4).blk t).view.emb (ix3 0 r e)
    = (ix3 (seqOf t) ⟨((blkOf t).val - 1) * 128 + r.val, by omega⟩ ⟨9216 + e.val, by omega⟩ : S8x2048x9728.Idx) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 128 + 1 * r.val = (t.val % 16 - 1) * 128 + r.val; omega
  | ⟨2, _⟩ => show win0_4.index t (2 : Fin 3) * 256 + 1 * e.val = 9216 + e.val; omega

theorem emb5 (t : Fin cfg0.N) (r : Fin 128) (e : Fin 256) : ((cfg0.win 5).blk t).view.emb (ix3 0 r e)
    = (ix3 (seqOf t) ⟨((blkOf t).val - 1) * 128 + r.val, by omega⟩ ⟨9472 + e.val, by omega⟩ : S8x2048x9728.Idx) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 128 + 1 * r.val = (t.val % 16 - 1) * 128 + r.val; omega
  | ⟨2, _⟩ => show win0_5.index t (2 : Fin 3) * 256 + 1 * e.val = 9472 + e.val; omega

theorem emb6 (t : Fin cfg0.N) (x : Fin 16) (e : Fin 256) : ((cfg0.win 6).blk t).view.emb (ix3 0 x e)
    = (ix3 0 ⟨112 + x.val, by omega⟩ ⟨9216 + e.val, by omega⟩ : S1x128x9728.Idx) := by
  obtain ⟨e0, e1, e2⟩ := idx6 t
  funext a; apply Fin.ext
  match a with
  | ⟨0, _⟩ => show win0_6.index t (0 : Fin 3) * 1 + 1 * 0 = 0; omega
  | ⟨1, _⟩ => show win0_6.index t (1 : Fin 3) * 16 + 1 * x.val = 112 + x.val; omega
  | ⟨2, _⟩ => show win0_6.index t (2 : Fin 3) * 256 + 1 * e.val = 9216 + e.val; omega

theorem emb7 (t : Fin cfg0.N) (x : Fin 16) (e : Fin 256) : ((cfg0.win 7).blk t).view.emb (ix3 0 x e)
    = (ix3 0 ⟨112 + x.val, by omega⟩ ⟨9472 + e.val, by omega⟩ : S1x128x9728.Idx) := by
  obtain ⟨e0, e1, e2⟩ := idx7 t
  funext a; apply Fin.ext
  match a with
  | ⟨0, _⟩ => show win0_7.index t (0 : Fin 3) * 1 + 1 * 0 = 0; omega
  | ⟨1, _⟩ => show win0_7.index t (1 : Fin 3) * 16 + 1 * x.val = 112 + x.val; omega
  | ⟨2, _⟩ => show win0_7.index t (2 : Fin 3) * 256 + 1 * e.val = 9472 + e.val; omega

theorem emb0 (t : Fin cfg0.N) (k : S16.Idx) : ((cfg0.win 0).blk t).view.emb k = k := by
  have e0 := idx0 t
  funext a; apply Fin.ext
  match a with
  | ⟨0, _⟩ => show win0_0.index t (0 : Fin 1) * 16 + 1 * (k 0).val = (k 0).val; omega

/-! ## What the blocks hold of the arguments -/

variable (m : (ℓ : Loc nD τ sig) → Buf (Elt Ideal) ℓ) (ρ : Dev nD → PrngReg)

/-- The padded columns of the kernel's arguments. -/
abbrev pad (c : Dev nD) : Padded :=
  AttnRef.padded (m ((c : Thread nD τ).loc main_arg0)) (m ((c : Thread nD τ).loc main_arg1))

/-- The kernel's sinks. -/
abbrev sinks (c : Dev nD) : FVec Ideal Cert.ReferenceIdeal.S1x16 .f32 := m ((c : Thread nD τ).loc main_arg2)

/-- A row of a sequence, past the meta block. -/
theorem pad_row (a : FVec Ideal Cert.ReferenceIdeal.S8x2048x9728 .bf16) (mt : FVec Ideal Cert.ReferenceIdeal.S1x128x9728 .bf16)
    (b : Fin 8) (i : Fin 2048) (i' : Fin 2176) (e : Fin 9728) (h : i'.val = i.val + 128) :
    a (ix3 b i e) = AttnRef.padded a mt (ix3 b i' e) := by
  rw [AttnRef.padded_at, dif_neg (by omega)]
  congr 2
  exact Fin.ext (by simp only; omega)

/-- A meta row. -/
theorem pad_meta (a : FVec Ideal Cert.ReferenceIdeal.S8x2048x9728 .bf16) (mt : FVec Ideal Cert.ReferenceIdeal.S1x128x9728 .bf16)
    (b : Fin 8) (i : Fin 128) (e : Fin 9728) (i' : Fin 2176) (h : i'.val = i.val) :
    mt (ix3 0 i e) = AttnRef.padded a mt (ix3 b i' e) := by
  rw [AttnRef.padded_at, dif_pos (by omega)]
  congr 2
  exact Fin.ext h.symm

theorem windows (c : Dev nD) (t : Fin cfg0.N) : Windows (pad m c) (seqOf t) (blkOf t) (X0_1 m c t) (iblk m c 2 t)
    (iblk m c 3 t) (iblk m c 4 t) (iblk m c 5 t) (iblk m c 6 t) (iblk m c 7 t) (X0_8 m c t) where
  q r e := by
    unfold X0_1 Pipeline.Window.fill
    rw [dif_pos (moved0_1 t _)]
    show V m c main_arg0 (((cfg0.win 1).blk t).view.emb _) = _
    rw [emb1 t r e _ rfl rfl rfl, V_main_arg0]
    exact pad_row _ _ _ _ _ _ (by simp only; omega)
  z r e := by
    unfold X0_8 Pipeline.Window.fill
    rw [dif_pos (moved0_8 t _)]
    show V m c main_arg0 (((cfg0.win 8).blk t).view.emb _) = _
    rw [emb8 t r e _ rfl rfl rfl, V_main_arg0]
    exact pad_row _ _ _ _ _ _ (by simp only; omega)
  kc r e := by
    show V m c main_arg0 (((cfg0.win 2).blk t).view.emb (ix3 0 r e)) = _
    rw [emb2, V_main_arg0]
    exact pad_row _ _ _ _ _ _ (by simp only; omega)
  vc r e := by
    show V m c main_arg0 (((cfg0.win 3).blk t).view.emb (ix3 0 r e)) = _
    rw [emb3, V_main_arg0]
    exact pad_row _ _ _ _ _ _ (by simp only; omega)
  kp h r e := by
    show V m c main_arg0 (((cfg0.win 4).blk t).view.emb (ix3 0 r e)) = _
    rw [emb4, V_main_arg0]
    exact pad_row _ _ _ _ _ _ (by simp only; omega)
  vp h r e := by
    show V m c main_arg0 (((cfg0.win 5).blk t).view.emb (ix3 0 r e)) = _
    rw [emb5, V_main_arg0]
    exact pad_row _ _ _ _ _ _ (by simp only; omega)
  km x e := by
    show V m c main_arg1 (((cfg0.win 6).blk t).view.emb (ix3 0 x e)) = _
    rw [emb6, V_main_arg1]
    exact pad_meta _ _ _ _ _ _ rfl
  vm x e := by
    show V m c main_arg1 (((cfg0.win 7).blk t).view.emb (ix3 0 x e)) = _
    rw [emb7, V_main_arg1]
    exact pad_meta _ _ _ _ _ _ rfl

/-- The sinks' window. -/
theorem sink_at (c : Dev nD) (t : Fin cfg0.N) (h : Fin 16) :
    iblk m c 0 t (AttnHead.place h) = sinks m c (ix2 0 h) := by
  show V m c main_v0 (((cfg0.win 0).blk t).view.emb (AttnHead.place h)) = _
  rw [emb0]
  have e : AttnHead.place h = ix1 h := funext fun a => by match a with | ⟨0, _⟩ => rfl
  rw [e]
  unfold V
  after_reads_at

/-- The result of the reference of the kernel's arguments. -/
abbrev G (c : Dev nD) : S8x2048x1024.Idx → Elt Ideal .bf16 := AttnRef.whole (pad m c) (sinks m c)

/-- The previous block is read past the first one only. -/
theorem first_iff (t : Fin cfg0.N) :
    Scalar.cmpi .sgt (BitVec.ofNat 32 (grid0.coords t 1).val) 0#32 = 1#1 ↔ 1 ≤ (blkOf t).val := by
  rw [coord_j]
  show IntOp.cmpi .sgt (BitVec.ofNat 32 (t.val % 16)) (BitVec.ofNat 32 0) = 1#1 ↔ 1 ≤ t.val % 16
  rw [Words.cmp_sgt, Words.toInt_small 0 (by omega), Words.toInt_small _ (by omega)]
  omega

/-- The block a grid point computes, as the reference's result at its rows. -/
theorem out_block (c : Dev nD) (hp : Finite (pad m c) (sinks m c)) (t : Fin cfg0.N) (r : Fin 128) (e : Fin 1024) :
    AttnHead.blockOut (F := Ideal) (Scalar.cmpi .sgt (BitVec.ofNat 32 (grid0.coords t 1).val) 0#32)
        (fun k => iblk m c 0 t (AttnHead.place k)) (X0_1 m c t) (iblk m c 2 t) (iblk m c 3 t) (iblk m c 4 t)
        (iblk m c 5 t) (iblk m c 6 t) (iblk m c 7 t) (X0_8 m c t) (ix3 0 r e)
      = G m c (ix3 (seqOf t) ⟨(blkOf t).val * 128 + r.val, by omega⟩ e) := by
  rw [show (fun k => iblk m c 0 t (AttnHead.place k)) = fun h => sinks m c (ix2 0 h) from
    funext fun h => sink_at m c t h]
  exact block_eq hp (windows m c t) _ (first_iff t) r e

/-- A block equal to the array's rows is the array's block. -/
theorem cut_eq (t : Fin cfg0.N) (X : S1x128x1024.Idx → Elt Ideal .bf16) (H : S8x2048x1024.Idx → Elt Ideal .bf16)
    (h : ∀ (r : Fin 128) (e : Fin 1024),
      X (ix3 0 r e) = H (ix3 (seqOf t) ⟨(blkOf t).val * 128 + r.val, by omega⟩ e)) :
    (cfg0.win 9).cut (grid0.coords t) X = ((cfg0.win 9).blk t).view.read (Elt Ideal) H := by
  funext i
  obtain ⟨r, e, rfl⟩ : ∃ (r : Fin 128) (e : Fin 1024), i = (ix3 0 r e : S1x128x1024.Idx) :=
    ⟨i (1 : Fin 3), i (2 : Fin 3), funext fun a => by
      match a with
      | ⟨0, _⟩ => exact Subsingleton.elim (α := Fin 1) _ _
      | ⟨1, _⟩ => rfl
      | ⟨2, _⟩ => rfl⟩
  show X (ix3 0 r e) = H (((cfg0.win 9).blk t).view.emb (ix3 0 r e))
  rw [h, emb9]

/-- What a grid point writes back is its block of the reference's result. -/
theorem flushed_eq (c : Dev nD) (hp : Finite (pad m c) (sinks m c)) (t : Fin cfg0.N) :
    (dats m 0 c).flushed 9 t = ((cfg0.win 9).blk t).view.read (Elt Ideal) (G m c) := by
  rw [flushed9_A, AttnHead.out_eq]
  exact cut_eq t _ _ (out_block m c hp t)

/-- Every index of the result is in some point's block. -/
theorem covered (i : S8x2048x1024.Idx) :
    ∃ t : Fin cfg0.N, (cfg0.win 9).flush t = true ∧ i ∈ ((cfg0.win 9).blk t).view.set := by
  have h0 : (i 0).val < 8 := (i 0).isLt
  have h1 : (i 1).val < 2048 := (i 1).isLt
  refine ⟨⟨(i 0).val * 16 + (i 1).val / 128, by rw [show cfg0.N = 128 from N_0]; omega⟩, flush0_9 _, ?_⟩
  generalize ht : (⟨(i 0).val * 16 + (i 1).val / 128, _⟩ : Fin cfg0.N) = t
  have hv : t.val = (i 0).val * 16 + (i 1).val / 128 := by rw [← ht]
  have h := ((cfg0.win 9).blk t).view.emb_mem_set (ix3 0 ⟨(i 1).val % 128, by omega⟩ (i 2))
  refine (?_ : i = _) ▸ h
  refine Eq.trans ?_ (emb9 t ⟨(i 1).val % 128, by omega⟩ (i 2)).symm
  funext a; apply Fin.ext
  match a with
  | ⟨0, _⟩ => show (i 0).val = t.val / 16; omega
  | ⟨1, _⟩ => show (i 1).val = t.val % 16 * 128 + (i 1).val % 128; omega
  | ⟨2, _⟩ => rfl

/-- The result array after the run. -/
theorem final (c : Dev nD) (hp : Finite (pad m c) (sinks m c)) : (dats m 0 c).arrAt 9 cfg0.N = G m c :=
  (dats m 0 c).arrAt_eq_of_cover 9 (G m c) (fun t _ => flushed_eq m c hp t) covered

end Cert.Proof.AttnRun

end
-- ==== Proof.AttnPre.lean ====
/- What the precondition says of the arguments: queries, keys and sinks are real numbers. -/
module

public import proofs.«01_k».proof.Proof.AttnRun
public import proofs.«01_k».proof.Proof.Gen.Pre_finite_scores
public import proofs.«01_k».proof.Defs

@[expose] public section

set_option maxRecDepth 16384

noncomputable section

namespace Cert.Proof.AttnPre

open Idealize.ShloMosaic Cert.Proof.AttnEq

/-- The literal of infinity. -/
theorem inf_lit : Ideal.ofBits .f32 0x7F800000#32 = (⊤ : EReal) := by simp [Ideal.ofBits, Ideal.ieee]

/-- Whether an absolute value is below infinity. -/
def below (x : Ideal .f32) : BitVec 1 := BitVec.ofBool (decide (FloatOps.absf x < Ideal.ofBits .f32 0x7F800000#32))

/-- A number whose absolute value is below infinity is real. -/
theorem real_of_below (x : Ideal .f32) (h : below x = 1#1) : ∃ v : ℝ, x = (v : EReal) := by
  have e : FloatOps.absf x = (max x (-x) : EReal) := rfl
  unfold below at h
  rw [inf_lit, e] at h
  have h' : (max x (-x) : EReal) < ⊤ := by
    by_contra c
    simp [c] at h
  clear h e
  change EReal at x
  induction x with
  | bot => simp at h'
  | coe v => exact ⟨v, rfl⟩
  | top => simp at h'

variable (a : FVec Ideal Cert.ReferenceIdeal.S8x2048x9728 .bf16) (mt : FVec Ideal Cert.ReferenceIdeal.S1x128x9728 .bf16)
  (s : FVec Ideal Cert.ReferenceIdeal.S1x16 .f32)

theorem q_at (b : Fin 8) (i : Fin 2048) (e : Fin 1024) : (Cert.Pre_finite_scores.fn a mt s).1 (ix3 b i e)
    = below (a (ix3 b i ⟨e.val, by omega⟩)) := by
  unfold Cert.Pre_finite_scores.fn
  pointwise [below]

theorem k_at (b : Fin 8) (i : Fin 2048) (e : Fin 256) : (Cert.Pre_finite_scores.fn a mt s).2.1 (ix3 b i e)
    = below (a (ix3 b i ⟨9216 + e.val, by omega⟩)) := by
  unfold Cert.Pre_finite_scores.fn
  pointwise [below]

theorem m_at (i : Fin 128) (e : Fin 256) : (Cert.Pre_finite_scores.fn a mt s).2.2.1 (ix3 0 i e)
    = below (mt (ix3 0 i ⟨9216 + e.val, by omega⟩)) := by
  unfold Cert.Pre_finite_scores.fn
  pointwise [below]

theorem s_at (h : Fin 16) : (Cert.Pre_finite_scores.fn a mt s).2.2.2 (ix2 0 h)
    = below (s (ix2 0 h)) := by
  unfold Cert.Pre_finite_scores.fn
  pointwise [below]

/-- Under the precondition the padded columns and the sinks are real where the scores read them. -/
theorem finite (hq : (Cert.Pre_finite_scores.fn a mt s).1 = fun _ => 1#1)
    (hk : (Cert.Pre_finite_scores.fn a mt s).2.1 = fun _ => 1#1)
    (hm : (Cert.Pre_finite_scores.fn a mt s).2.2.1 = fun _ => 1#1)
    (hs : (Cert.Pre_finite_scores.fn a mt s).2.2.2 = fun _ => 1#1) : Finite (AttnRef.padded a mt) s where
  q b i e h he := by
    rw [AttnRef.padded_at, dif_neg (by omega)]
    exact real_of_below _ ((q_at a mt s b ⟨i.val - 128, by omega⟩ ⟨e.val, he⟩).symm.trans (congrFun hq _))
  k b i e h h' := by
    obtain ⟨e, he⟩ := e
    obtain ⟨e', rfl⟩ : ∃ e' : Fin 256, e = 9216 + e'.val := ⟨⟨e - 9216, by simp only at h h'; omega⟩, by simp only at h ⊢; omega⟩
    rw [AttnRef.padded_at]
    split
    · exact real_of_below _ ((m_at a mt s _ e').symm.trans (congrFun hm _))
    · exact real_of_below _ ((k_at a mt s b _ e').symm.trans (congrFun hk _))
  s h := real_of_below _ ((s_at a mt s h).symm.trans (congrFun hs _))

end Cert.Proof.AttnPre

end
-- ==== Proof.Attn.lean ====
/- The attention call: its claims. The frames of the two prints of the kernel are the generated ones; the reference is a
   host program without semaphores; the value claim joins the kernel's run (AttnRun.lean) and the reference's result
   (AttnRef.lean). -/
module

public import proofs.«01_k».proof.Proof.AttnPre
public import proofs.«01_k».proof.Proof.Gen.Kernel.Frame
public import proofs.«01_k».proof.Proof.Gen.KernelIdeal.Frame

@[expose] public section

noncomputable section

namespace Cert.Proof.Attn

open Idealize.ShloMosaic Idealize.SL.Sem

theorem frame : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_scores := fun m ρ _ => Cert.KernelIdeal.Gen.frame m ρ

/-- The reference's frame: its run read at the arguments; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ref_pre : Cert.quiescent_ReferenceIdeal_pre_finite_scores := fun m ρ _ => frame_ref m ρ trivial

/-- The kernel's result is the reference's. -/
theorem algebraic : Cert.algebraic_KernelIdeal_ReferenceIdeal_pre_finite_scores := by
  intro m ρ m' ρ' hpre hagree
  have hp (c : Dev Cert.KernelIdeal.nD) : AttnEq.Finite (AttnRun.pad m c) (AttnRun.sinks m c) :=
    AttnPre.finite _ _ _ (hpre c).1 (hpre c).2.1 (hpre c).2.2.1 (hpre c).2.2.2
  have e (c : Dev Cert.KernelIdeal.nD) : Cert.ReferenceIdeal.Value.res_main_v111 m' c = AttnRun.G m c := by
    rw [AttnRef.res_eq]
    unfold AttnRun.G AttnRun.pad AttnRun.sinks
    rw [(hagree c).1, (hagree c).2.1, (hagree c).2.2]
  refine ⟨fun c => AttnRun.G m c, ?_, ?_⟩
  · exact (θ_run Cert.KernelIdeal.defs _ _).mono (fun r h c => ⟨(h c).1.trans (AttnRun.final m c (hp c)), (h c).2⟩)
      (Cert.KernelIdeal.Value.run_blocks (F := Ideal) m ρ)
  · exact (θ_run Cert.ReferenceIdeal.defs _ _).mono (fun r h c => ⟨(h c).1.trans (e c), (h c).2⟩)
      (Cert.ReferenceIdeal.Value.run (F := Ideal) m' ρ')

end Cert.Proof.Attn

end
-- ==== Proof.InProjBlock.lean ====
/- The input projection, row by row: a row is normalised and multiplied by a weight matrix, and the columns of the result are
   put in another order; 32 columns of it, the step sizes, are put aside with zeros after them. What a block of the kernel
   computes is that, of each of its rows. -/
module

public import proofs.«01_k».proof.Proof.Gen.InProjIdeal.Skeleton
public import Idealize.ShloMosaic.Lib.Pointwise

@[expose] public section

set_option maxRecDepth 16384

noncomputable section

namespace Cert.Proof.InProj

open Idealize.ShloMosaic

/-! ## The mathematics of a row -/

/-- Channel `e` of the normalised row `x` times `g`. -/
def normed (x g : Fin 1024 → EReal) (e : Fin 1024) : EReal :=
  x e * Ideal.rsqrt (Ideal.div (∑ k, x k * x k) (Ideal.ofBits .f32 0x44800000#32) + Ideal.ofBits .f32 0x358637BD#32) * g e

/-- The order of the columns of the result: eight runs of columns of the product, one after another. -/
def packed {α : Type} (f : Fin 9760 → α) (e : Fin 9728) : α :=
  if h : e.val < 1024 then f ⟨e.val, by omega⟩
  else if h : e.val - 1024 < 1024 then f ⟨1536 + (e.val - 1024), by omega⟩
  else if h : e.val - 1024 - 1024 < 2048 then f ⟨2560 + (e.val - 1024 - 1024), by omega⟩
  else if h : e.val - 1024 - 1024 - 2048 < 1024 then f ⟨7712 + (e.val - 1024 - 1024 - 2048), by omega⟩
  else if h : e.val - 1024 - 1024 - 2048 - 1024 < 1024 then
    f ⟨8736 + (e.val - 1024 - 1024 - 2048 - 1024), by omega⟩
  else if h : e.val - 1024 - 1024 - 2048 - 1024 - 1024 < 3072 then
    f ⟨4608 + (e.val - 1024 - 1024 - 2048 - 1024 - 1024), by omega⟩
  else if h : e.val - 1024 - 1024 - 2048 - 1024 - 1024 - 3072 < 256 then
    f ⟨1024 + (e.val - 1024 - 1024 - 2048 - 1024 - 1024 - 3072), by omega⟩
  else f ⟨1280 + (e.val - 1024 - 1024 - 2048 - 1024 - 1024 - 3072 - 256), by omega⟩

/-- The step sizes' columns, with zeros after them. -/
def padded (f : Fin 9760 → EReal) (e : Fin 128) : EReal := if h : e.val < 32 then f ⟨7680 + e.val, by omega⟩ else 0

/-- Column `j` of the product of a row with the weights. -/
def product (y : Fin 1024 → EReal) (w : Fin 1024 → Fin 9760 → EReal) (j : Fin 9760) : EReal := ∑ k, y k * w k j

/-- Multiplying by the reordered weights is reordering the product. -/
theorem packed_product (y : Fin 1024 → EReal) (w : Fin 1024 → Fin 9760 → EReal) (e : Fin 9728) :
    ∑ k, y k * packed (w k) e = packed (product y w) e := by
  unfold packed product
  repeat' split
  all_goals rfl

/-- Multiplying by weights with zeros after them gives zeros after the product. -/
theorem padded_product (y : Fin 1024 → EReal) (w : Fin 1024 → Fin 9760 → EReal) (e : Fin 128) :
    ∑ k, y k * padded (w k) e = padded (product y w) e := by
  unfold padded product
  split
  · rfl
  · simp only [mul_zero, Finset.sum_const_zero]

end Cert.Proof.InProj

namespace Cert.Proof.InProjBlock

open Cert.InProjIdeal Cert.InProjIdeal.Gen Idealize.ShloMosaic Idealize.ShloMosaic.TcCoe Idealize.SL.Sem
open Cert.Proof.InProj

/-! ## The kernel's block, read at an index -/

theorem normed_at (x0 : Vec Ideal S512x1024 .f32) (x1 : Vec Ideal S1x1024 .f32) (r : Fin 512) (e : Fin 1024) :
    k0_pay1 (F := Ideal) x0 x1 (ix2 r e) = normed (fun k => x0 (ix2 r k)) (fun k => x1 (ix2 0 k)) e := by
  unfold normed
  pointwise [k0_pay1]

/-- The scratch buffer holds the normalised rows. -/
theorem rows_at (x0 : Vec Ideal S512x1024 .f32) (x1 : Vec Ideal S1x1024 .f32) (r : Fin 512) (e : Fin 1024) :
    k0_pay2 (F := Ideal) x0 x1 (ix2 r e) = normed (fun k => x0 (ix2 r k)) (fun k => x1 (ix2 0 k)) e := by
  rw [← normed_at]
  unfold k0_pay2
  generalize k0_pay1 x0 x1 = y
  pointwise []

/-- The step sizes are the normalised rows times their weights. -/
theorem steps_at (x0 : Vec Ideal S512x1024 .f32) (x1 : Vec Ideal S1x1024 .f32) (x3 : Vec Ideal S1024x128 .bf16)
    (r : Fin 512) (e : Fin 128) : k0_pay3 (F := Ideal) x0 x1 x3 (ix2 r e)
      = ∑ k, normed (fun k => x0 (ix2 r k)) (fun k => x1 (ix2 0 k)) k * x3 (ix2 k e) := by
  simp only [← normed_at]
  unfold k0_pay3
  generalize k0_pay1 x0 x1 = y
  pointwise []

/-- The projection is the scratch buffer's rows times the weights. -/
theorem proj_at (y : Vec Ideal S512x1024 .bf16) (x2 : Vec Ideal S1024x2432 .bf16) (r : Fin 512) (e : Fin 2432) :
    k0_pay4 (F := Ideal) y x2 (ix2 r e) = (∑ k : Fin 1024, y (ix2 r k) * x2 (ix2 k e) : EReal) := by
  pointwise [k0_pay4]

end Cert.Proof.InProjBlock

end
-- ==== Proof.InProjRef.lean ====
/- The reference of the input projection, cut into its steps and read at an index. -/
module

public import proofs.«01_k».proof.Proof.Gen.InProjReferenceIdeal.Run
public import proofs.«01_k».proof.Proof.InProjBlock

@[expose] public section

set_option maxRecDepth 16384

noncomputable section

namespace Cert.Proof.InProjRef

open Cert.InProjReferenceIdeal Cert.InProjReferenceIdeal.Gen Cert.InProjReferenceIdeal.Value
open Idealize.ShloMosaic Idealize.ShloMosaic.TcCoe Idealize.SL.Sem Cert.Proof.InProj

/-- The normalised rows. -/
def rows (a0 : FVec Ideal S8x2048x1024 .f32) (a1 : FVec Ideal S1x1024 .f32) : FVec Ideal S8x2048x1024 .f32 :=
  mulf (mulf a0 (broadcastInDim S8x2048x1024 ![0, 1, 2] bcast_S8x2048x1_S8x2048x1024_0_1_2
      (Host.rsqrt (addf (Host.divf (broadcastInDim S8x2048x1 ![0, 1] bcast_S8x2048_S8x2048x1_0_1
        (Host.reduceAdd (mulf a0 a0) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast S1024 a1 shapeCasts_S1x1024_S1024)))

/-- The rows times the weights. -/
def proj (u : FVec Ideal S8x2048x1024 .f32) (a2 : FVec Ideal S1x1024x9760 .f32) : FVec Ideal S8x2048x9760 .f32 :=
  Host.dotGeneral dot_S8x2048x1024_S1024x9760_S8x2048x9760_2_0_01_1_n_n none u
    (shapeCast S1024x9760 a2 shapeCasts_S1x1024x9760_S1024x9760)

/-- The eight runs of columns, one after another. -/
def whole (p : FVec Ideal S8x2048x9760 .f32) : FVec Ideal S16384x9728 .bf16 :=
  shapeCast S16384x9728 (truncf .bf16 (concatenate S8x2048x9728 2
    [⟨S8x2048x1024, extractStridedSlice S8x2048x1024 ![0, 0, 0] p slices_S8x2048x9760_S8x2048x1024_0_0_0⟩,
     ⟨S8x2048x1024, extractStridedSlice S8x2048x1024 ![0, 0, 1536] p slices_S8x2048x9760_S8x2048x1024_0_0_1536⟩,
     ⟨S8x2048x2048, extractStridedSlice S8x2048x2048 ![0, 0, 2560] p slices_S8x2048x9760_S8x2048x2048_0_0_2560⟩,
     ⟨S8x2048x1024, extractStridedSlice S8x2048x1024 ![0, 0, 7712] p slices_S8x2048x9760_S8x2048x1024_0_0_7712⟩,
     ⟨S8x2048x1024, extractStridedSlice S8x2048x1024 ![0, 0, 8736] p slices_S8x2048x9760_S8x2048x1024_0_0_8736⟩,
     ⟨S8x2048x3072, extractStridedSlice S8x2048x3072 ![0, 0, 4608] p slices_S8x2048x9760_S8x2048x3072_0_0_4608⟩,
     ⟨S8x2048x256, extractStridedSlice S8x2048x256 ![0, 0, 1024] p slices_S8x2048x9760_S8x2048x256_0_0_1024⟩,
     ⟨S8x2048x256, extractStridedSlice S8x2048x256 ![0, 0, 1280] p slices_S8x2048x9760_S8x2048x256_0_0_1280⟩]
    concatenates_S8x2048x1024_S8x2048x1024_S8x2048x2048_S8x2048x1024_S8x2048x1024_S8x2048x3072_S8x2048x256_S8x2048x256_S8x2048x9728_d2
    : FVec Ideal S8x2048x9728 .f32) bitsLt_bf16_f32) shapeCasts_S8x2048x9728_S16384x9728

/-- The step sizes' columns with zeros after them. -/
def steps (p : FVec Ideal S8x2048x9760 .f32) : FVec Ideal S16384x128 .f32 :=
  shapeCast S16384x128 (pad S8x2048x128 ![0, 0, 0] ![0, 0, 96] ![0, 0, 0]
    (extractStridedSlice S8x2048x32 ![0, 0, 7680] p slices_S8x2048x9760_S8x2048x32_0_0_7680)
    (sitofp .f32 (constantI S_ 32 0#32)) pads_S8x2048x32_S8x2048x128_000_000_0960 h_S_) shapeCasts_S8x2048x128_S16384x128

variable (m : (ℓ : Loc nD τ sig) → Buf (Elt Ideal) ℓ) (c : Dev nD)

/-- The reference's first result is these steps one after another. -/
theorem res_eq : res_main_v28 m c = whole (proj (rows (m ((c.tc : Thread nD τ).loc main_arg0))
    (m ((c.tc : Thread nD τ).loc main_arg1))) (m ((c.tc : Thread nD τ).loc main_arg2))) := rfl

/-! ## The steps read at an index: row `i` is row `i % 2048` of sequence `i / 2048` -/

theorem rows_at (a0 : FVec Ideal S8x2048x1024 .f32) (a1 : FVec Ideal S1x1024 .f32) (b : Fin 8) (s : Fin 2048)
    (e : Fin 1024) : rows a0 a1 (ix3 b s e) = normed (fun k => a0 (ix3 b s k)) (fun k => a1 (ix2 0 k)) e := by
  unfold normed
  pointwise [rows]

theorem proj_at (u : FVec Ideal S8x2048x1024 .f32) (a2 : FVec Ideal S1x1024x9760 .f32) (b : Fin 8) (s : Fin 2048)
    (j : Fin 9760) : proj u a2 (ix3 b s j) = product (fun k => u (ix3 b s k)) (fun k j => a2 (ix3 0 k j)) j := by
  unfold product
  pointwise [proj]

theorem whole_at (p : FVec Ideal S8x2048x9760 .f32) (i : Fin 16384) (e : Fin 9728) :
    whole p (ix2 i e) = packed (fun j => p (ix3 ⟨i.val / 2048, by omega⟩ ⟨i.val % 2048, by omega⟩ j)) e := by
  unfold packed
  pointwise [whole]

theorem steps_at (p : FVec Ideal S8x2048x9760 .f32) (i : Fin 16384) (e : Fin 128) :
    steps p (ix2 i e) = padded (fun j => p (ix3 ⟨i.val / 2048, by omega⟩ ⟨i.val % 2048, by omega⟩ j)) e := by
  unfold padded
  pointwise [steps]
  refine dite_congr (propext ⟨fun h => h.2.2, fun h => ⟨by omega, by omega, h⟩⟩) (fun _ => rfl) (fun _ => ?_)
  simp [FloatOps.sitofp]

/-- The first result at an index. -/
theorem proj_res (a0 : FVec Ideal S8x2048x1024 .f32) (a1 : FVec Ideal S1x1024 .f32) (a2 : FVec Ideal S1x1024x9760 .f32)
    (i : Fin 16384) (e : Fin 9728) : whole (proj (rows a0 a1) a2) (ix2 i e)
      = packed (product (normed (fun k => a0 (ix3 ⟨i.val / 2048, by omega⟩ ⟨i.val % 2048, by omega⟩ k))
          (fun k => a1 (ix2 0 k))) (fun k j => a2 (ix3 0 k j))) e := by
  rw [whole_at]
  simp only [proj_at, rows_at]

/-- The second result at an index. -/
theorem steps_res (a0 : FVec Ideal S8x2048x1024 .f32) (a1 : FVec Ideal S1x1024 .f32) (a2 : FVec Ideal S1x1024x9760 .f32)
    (i : Fin 16384) (e : Fin 128) : steps (proj (rows a0 a1) a2) (ix2 i e)
      = padded (product (normed (fun k => a0 (ix3 ⟨i.val / 2048, by omega⟩ ⟨i.val % 2048, by omega⟩ k))
          (fun k => a1 (ix2 0 k))) (fun k j => a2 (ix3 0 k j))) e := by
  rw [steps_at]
  simp only [proj_at, rows_at]

end Cert.Proof.InProjRef

end
-- ==== Proof.InProjIdealRun.lean ====
/- The input projection's run (InProjIdeal): what the body leaves in its buffers at every grid point, the invariant that carries the
   normalised rows from one point to the next, and the run of the whole program. Four points share a block of 512 rows; the
   first of them normalises the rows into the scratch buffer and writes the step sizes, the other three read the scratch
   buffer and leave the step sizes as they are. -/
module

public import proofs.«01_k».proof.Proof.Gen.InProjIdeal.Skeleton
public import proofs.«01_k».proof.Proof.Gen.InProjIdeal.Frame
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.Proof.InProjIdealRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- Assertions about the machine's state. -/
abbrev Assertion (F : FTy → Type) [FloatOps F] : Type := sProp (MT nD τ sig Unit (Elt F) ℕ (UR sig nD τ) ℕ)

/-! ## The body on any buffers -/

section Body

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x2432 .bf16) (harg4 : arg4.IsWhole)
  (arg5 : Memref sig .tc .vmem S1024x128 .bf16) (harg5 : arg5.IsWhole)
  (arg6 : Memref sig .tc .vmem S512x2432 .bf16) (harg6 : arg6.IsWhole)
  (arg7 : Memref sig .tc .vmem S512x128 .f32) (harg7 : arg7.IsWhole)
  (arg8 : Memref sig .tc .vmem S512x1024 .bf16) (harg8 : arg8.IsWhole)
  (x0 : Vec F S512x1024 .f32) (x1 : Vec F S1x1024 .f32) (x2 : Vec F S1024x2432 .bf16) (x3 : Vec F S1024x128 .bf16)

set_option maxHeartbeats 1000000 in
/-- The first point of a block of rows: everything is written. -/
theorem body_first (hc : k0_cond1 i = 1#1) (E : Set ℕ) (K : PUnit → Assertion F) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 (k0_pay2 x0 x1) x2)
            ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    refine congrArg₂ k0_pay4 ((View.readCov_full _ _ _ _ _).trans ?_) ?_
    · rw [View.readAt_full, View.readAt_full, harg2.read_unread, harg3.read_unread]
    · rw [View.readAt_full, harg4.read_unread]
  isplitl [H5]
  · iexists _; isplitr; swap; · iexact H5
    ipureintro
    refine (View.read_writes_full _ _ _ _ _).trans ?_
    rw [View.readAt_full, View.readAt_full, View.readAt_full, harg2.read_unread, harg3.read_unread, harg5.read_unread]
  iexists _; isplitr; swap; · iexact HS
  ipureintro
  refine (View.read_writes_full _ _ _ _ _).trans ?_
  rw [View.readAt_full, View.readAt_full, harg2.read_unread, harg3.read_unread]

set_option maxHeartbeats 1000000 in
/-- A later point of a block of rows: the projection is written, the step sizes and the scratch buffer are kept. -/
theorem body_later (hc : ¬k0_cond1 i = 1#1) (x5 : Vec F S512x128 .f32) (xs : Vec F S512x1024 .bf16) (E : Set ℕ)
    (K : PUnit → Assertion F) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare x5 ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 xs x2)
            ∗ owns (c : Thread nD τ) arg7 fullShare x5 ∗ owns (c : Thread nD τ) arg8 fullShare xs) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hf5; obtain rfl := harg8.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    rw [View.readAt_full, View.readAt_full, harg8.read_unread, harg4.read_unread]
  isplitl [H5]
  · iexists _; isplitr; · ipureintro; exact harg7.read_unread _
    iexact H5
  iexists _; isplitr; · ipureintro; exact harg8.read_unread _
  iexact HS

end Body

/-! ## The grid's points -/

theorem lt_N (t : Fin cfg0.N) : t.val < 128 := N_0 ▸ t.isLt

/-- The body's condition holds at the first of each four points. -/
theorem cond_iff : ∀ t : Fin cfg0.N, k0_cond1 (grid0.coords t) = 1#1 ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

theorem live_first : ∀ t : Fin cfg0.N, k0_cond1 (grid0.coords t) = 1#1 → cfg0.idle 5 (grid0.coords t) = false := by decide +kernel
theorem idle_later : ∀ t : Fin cfg0.N, ¬k0_cond1 (grid0.coords t) = 1#1 → cfg0.idle 5 (grid0.coords t) = true := by decide +kernel

/-- The positions before which the step sizes' buffer holds nothing of its block. -/
def freshAt : ℕ → Bool
  | 0 => true
  | n + 1 => (0x88888888888888888888888888888888 : ℕ).testBit n
theorem freshAt_step : ∀ t : Fin cfg0.N,
    freshAt (t.val + 1) = ((cfg0.win 5).flush t || (cfg0.idle 5 (cfg0.grid.coords t) && freshAt t.val)) := by decide +kernel
theorem fresh_eq (t : Fin cfg0.N) : cfg0.fresh 5 t.val = freshAt t.val :=
  Pipeline.Cfg.fresh_tab cfg0 5 freshAt rfl freshAt_step t.val (Nat.le_of_lt t.isLt)
theorem kept_later : ∀ t : Fin cfg0.N, ¬k0_cond1 (grid0.coords t) = 1#1 → cfg0.fresh 5 t.val = false := by
  intro t; rw [fresh_eq t]; revert t; decide +kernel

/-- The point that normalises the rows point `t` works on. -/
def base (t : Fin cfg0.N) : Fin cfg0.N := ⟨t.val - t.val % 4, Nat.lt_of_le_of_lt (Nat.sub_le _ _) t.isLt⟩

theorem base_first (t : Fin cfg0.N) (h : t.val % 4 = 0) : base t = t := Fin.ext (by show t.val - t.val % 4 = t.val; omega)
theorem base_later (t : Fin cfg0.N) (h : ¬t.val % 4 = 0) :
    base ⟨t.val - 1, Nat.lt_of_le_of_lt (Nat.sub_le _ _) t.isLt⟩ = base t :=
  Fin.ext (by show t.val - 1 - (t.val - 1) % 4 = t.val - t.val % 4; omega)

/-! ## What the buffers hold after each point -/

variable (m : (ℓ : Loc nD τ sig) → Buf (Elt F) ℓ) (ρ : Dev nD → PrngReg)

/-- The normalised rows. -/
def rowsAt (c : Dev nD) (t : Fin cfg0.N) : Vec F S512x1024 .bf16 := k0_pay2 (iblk m c 0 (base t)) (iblk m c 1 (base t))
/-- The step sizes. -/
def stepsAt (c : Dev nD) (t : Fin cfg0.N) : Vec F S512x128 .f32 :=
  k0_pay3 (iblk m c 0 (base t)) (iblk m c 1 (base t)) (iblk m c 3 (base t))
/-- The projection. -/
def projAt (c : Dev nD) (t : Fin cfg0.N) : Vec F S512x2432 .bf16 := k0_pay4 (rowsAt m c t) (iblk m c 2 t)

/-- The scratch buffer. -/
abbrev scratch : Memref sig .tc .vmem S512x1024 .bf16 := Memref.whole cc0_scratch0

/-- The invariant before position `n`: after the first point the scratch buffer holds the last point's rows. -/
def inv (c : Dev nD) : (n : ℕ) → n ≤ cfg0.N → Assertion F
  | 0, _ => Pipeline.ΦA spec0 c
  | n + 1, hn => iprop(owns (c : Thread nD τ) scratch fullShare (rowsAt m c ⟨n, hn⟩) ∗ (∃ r, prngReg c r))

theorem start_eq (c : Dev nD) :
    (Pipeline.ΦA spec0 c : Assertion F) = iprop((∃ d, owns (c : Thread nD τ) scratch fullShare d) ∗ (∃ r, prngReg c r)) := by
  unfold Pipeline.ΦA; rw [scopedRest0_eq]; simp only [scratch, owns_whole]; try rfl

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scratch fullShare (rowsAt m c ⟨n - 1, by omega⟩) ∗ (∃ r, prngReg c r)) := by
  cases n with
  | zero => exact absurd rfl hz
  | succ n => rfl

/-- The arrays as the region finds them, the buffers after each point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projAt m c t
    | ⟨5, _⟩ => stepsAt m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_at (c : Dev nD) (t : Fin cfg0.N) :
    (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = projAt m c t := by dsimp only [dats]
theorem after5 (c : Dev nD) (t : Fin cfg0.N) : (dats m 0 c).after 5 t = stepsAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem rows_later (c : Dev nD) (t : Fin cfg0.N) (h : ¬t.val % 4 = 0) :
    rowsAt m c ⟨t.val - 1, Nat.lt_of_le_of_lt (Nat.sub_le _ _) t.isLt⟩ = rowsAt m c t := by
  unfold rowsAt; rw [base_later t h]
theorem steps_later (c : Dev nD) (t : Fin cfg0.N) (h : ¬t.val % 4 = 0) :
    stepsAt m c ⟨t.val - 1, Nat.lt_of_le_of_lt (Nat.sub_le _ _) t.isLt⟩ = stepsAt m c t := by
  unfold stepsAt; rw [base_later t h]

/-- A point that leaves the step sizes alone leaves those of its block. -/
theorem carry (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after5, after5]
  by_cases h0 : t.val % 4 = 0
  · rw [live_first t ((cond_iff t).mpr h0)] at hi
    exact absurd hi Bool.false_ne_true
  · exact (steps_later m c t h0).symm

/-- Such a point finds them too. -/
theorem before5 (c : Dev nD) (t : Fin cfg0.N) (h0 : ¬t.val % 4 = 0) (d) : (dats m 0 c).before 5 t d = stepsAt m c t := by
  rw [Dat.before_out_traj _ 5 rfl (fun _ _ => rfl) (carry m c) t.val t rfl d,
    if_neg (by rw [kept_later t (fun h => h0 ((cond_iff t).mp h))]; exact Bool.false_ne_true), after5]
  exact steps_later m c t h0

/-! ## The body at a point -/

/-- What the body is called with. -/
def bodyPre (c : Dev nD) (t : Fin cfg0.N) : Assertion F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : Assertion F :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- At a later point the step sizes of the block are what is to be left, whether or not they are written back there. -/
theorem leaves5 (c : Dev nD) (t : Fin cfg0.N) (h0 : ¬t.val % 4 = 0) :
    owns (c : Thread nD τ) (st0_5 t) fullShare (stepsAt m c t) ⊢ ((dats m 0 c).leavesExact 5 t : Assertion F) := by
  have hi := idle_later t (fun h => h0 ((cond_iff t).mp h))
  cases hf : (cfg0.win 5).flush t with
  | false =>
    rw [Dat.leavesExact_idle _ 5 t hi hf]
    simp only [before5 m c t h0]
    iintro H
    iexists fun _ => default
    iexact H
  | true =>
    rw [show (dats m 0 c).leavesExact 5 t = owns (c : Thread nD τ) (st0_5 t) fullShare ((dats m 0 c).after 5 t) from by
      unfold Dat.leavesExact; rw [hi, hf], after5]
    try exact Idealize.SL.BI.Entails.refl _

set_option maxHeartbeats 3200000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = inv m c (t.val + 1) t.isLt from rfl]
  rw [show inv m c (t.val + 1) t.isLt
    = iprop(owns (c : Thread nD τ) scratch fullShare (rowsAt m c t) ∗ (∃ r, prngReg c r)) from rfl]
  rw [show (dats m 0 c).leavesExact 0 t = owns (c : Thread nD τ) (st0_0 t) fullShare ((dats m 0 c).after 0 t) from rfl, after0,
    show (dats m 0 c).leavesExact 1 t = owns (c : Thread nD τ) (st0_1 t) fullShare ((dats m 0 c).after 1 t) from rfl, after1,
    show (dats m 0 c).leavesExact 2 t = owns (c : Thread nD τ) (st0_2 t) fullShare ((dats m 0 c).after 2 t) from rfl, after2,
    show (dats m 0 c).leavesExact 3 t = owns (c : Thread nD τ) (st0_3 t) fullShare ((dats m 0 c).after 3 t) from rfl, after3,
    show (dats m 0 c).leavesExact 4 t = owns (c : Thread nD τ) (st0_4 t) fullShare ((dats m 0 c).after 4 t) from rfl, after4]
  by_cases h0 : t.val % 4 = 0
  · rw [show (dats m 0 c).leavesExact 5 t = owns (c : Thread nD τ) (st0_5 t) fullShare ((dats m 0 c).after 5 t) from by
      unfold Dat.leavesExact; rw [live_first t ((cond_iff t).mpr h0)], after5]
    unfold projAt stepsAt rowsAt
    rw [base_first t h0]
    have start : ((dats m 0 c).Φ t.castSucc : Assertion F)
        ⊢ iprop((∃ d, owns (c : Thread nD τ) scratch fullShare d) ∗ (∃ r, prngReg c r)) := by
      rw [inv_at]
      by_cases hz : t.val = 0
      · rw [inv_zero m c _ _ hz, start_eq]; try exact Idealize.SL.BI.Entails.refl _
      · rw [inv_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩, ⟨%d5, H5⟩⟩
    ihave HΦ := start $$ HΦ
    icases HΦ with ⟨HS, Hg⟩
    iapply (body_first c (grid0.coords t) _ _ _ _ _ _ _ _ _ _ _ _ _ _ (iblk m c 0 t) (iblk m c 1 t) (iblk m c 2 t)
      (iblk m c 3 t) ((cond_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    have leaves := leaves5 m c t h0
    rw [inv_at, inv_pos m c _ _ hz, rows_later m c t h0]
    simp only [before5 m c t h0]
    unfold projAt
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (iblk m c 0 t) (iblk m c 1 t) (iblk m c 2 t)
      (iblk m c 3 t) (fun h => h0 ((cond_iff t).mp h)) (stepsAt m c t) (rowsAt m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply leaves
    iexact H5

theorem table_row (t : Fin cfg0.N) :
    defs₀ (F := F) .tc cfg0.body (cfg0.bodyArgs t (cfg0.slots t)) = bodyAt0 t := by
  unfold defs₀; rw [Defs.onTc_tc]

theorem body (c : Dev nD) : BodyObligation (dats (F := F) m 0 c) (defs₀ (F := F)) Variants.none () Set.univ := fun t => by
  rw [bigSep_W0, bigSep_W0, table_row]
  exact triple_restated (body_at m c t) rfl .rfl fun _ => .rfl

/-! ## The run -/

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 128 := N_0; omega), start_eq]
  iintro ⟨HS, Hg⟩
  isplitl [HS]
  · iexists _; iexact HS
  iexact Hg

set_option backward.isDefEq.respectTransparency.types false in
/-- The program terminates with the arrays at what the points wrote back and every semaphore at zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := A_eq m) (hin := enter m) (hout := leave m)

/-- The program terminates with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.InProjIdealRun

end
-- ==== Proof.InProjClaims.lean ====
/- The input projection: its two result arrays after the run are the reference's results of the same arguments; its claims. -/
module

public import proofs.«01_k».proof.Proof.InProjRef
public import proofs.«01_k».proof.Proof.InProjRun
public import proofs.«01_k».proof.Proof.InProjIdealRun
public import proofs.«01_k».proof.Defs
public import Idealize.ShloMosaic.Lib.StableHlo.ReadAt

@[expose] public section

set_option maxRecDepth 16384

noncomputable section

namespace Cert.Proof.InProjClaims

open Cert.InProjIdeal Cert.InProjIdeal.Gen Idealize.ShloMosaic Idealize.ShloMosaic.TcCoe
open Idealize.SL.Sem Cert.Proof.InProj Cert.Proof.InProjIdealRun

/-! ## The windows' blocks: grid point `t` has block `t / 4` of the rows and block `t % 4` of the columns -/

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 4 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = t.val % 4 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)

/-- Row `r` of grid point `t`. -/
def rowOf (t : Fin cfg0.N) (r : Fin 512) : Fin 16384 := ⟨t.val / 4 * 512 + r.val, by have := lt_N t; omega⟩

/-- Column `e` of grid point `t`. -/
def colOf (t : Fin cfg0.N) (e : Fin 2432) : Fin 9728 := ⟨t.val % 4 * 2432 + e.val, by omega⟩

/-- The point that normalised the rows has the same rows. -/
theorem rowOf_base (t : Fin cfg0.N) (r : Fin 512) : rowOf (base t) r = rowOf t r :=
  Fin.ext (by show (t.val - t.val % 4) / 4 * 512 + r.val = t.val / 4 * 512 + r.val; omega)

theorem emb0 (t : Fin cfg0.N) (r : Fin 512) (e : Fin 1024) :
    ((cfg0.win 0).blk t).view.emb (ix2 r e) = (ix2 (rowOf t r) e : S16384x1024.Idx) := by
  obtain ⟨e0, e1⟩ := idx0 t
  funext a; apply Fin.ext
  match a with
  | ⟨0, _⟩ => show win0_0.index t (0 : Fin 2) * 512 + 1 * r.val = t.val / 4 * 512 + r.val; omega
  | ⟨1, _⟩ => show win0_0.index t (1 : Fin 2) * 1024 + 1 * e.val = e.val; omega

theorem emb1 (t : Fin cfg0.N) (e : Fin 1024) :
    ((cfg0.win 1).blk t).view.emb (ix2 0 e) = (ix2 0 e : S1x1024.Idx) := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * e.val = e.val; omega

theorem emb2 (t : Fin cfg0.N) (k : Fin 1024) (e : Fin 2432) :
    ((cfg0.win 2).blk t).view.emb (ix2 k e) = (ix2 k (colOf t e) : S1024x9728.Idx) := by
  obtain ⟨e0, e1⟩ := idx2 t
  funext a; apply Fin.ext
  match a with
  | ⟨0, _⟩ => show win0_2.index t (0 : Fin 2) * 1024 + 1 * k.val = k.val; omega
  | ⟨1, _⟩ => show win0_2.index t (1 : Fin 2) * 2432 + 1 * e.val = t.val % 4 * 2432 + e.val; omega

theorem emb3 (t : Fin cfg0.N) (k : Fin 1024) (e : Fin 128) :
    ((cfg0.win 3).blk t).view.emb (ix2 k e) = (ix2 k e : S1024x128.Idx) := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 128 + 1 * e.val = e.val; omega

theorem emb4 (t : Fin cfg0.N) (r : Fin 512) (e : Fin 2432) :
    ((cfg0.win 4).blk t).view.emb (ix2 r e) = (ix2 (rowOf t r) (colOf t e) : S16384x9728.Idx) := by
  obtain ⟨e0, e1⟩ := idx4 t
  funext a; apply Fin.ext
  match a with
  | ⟨0, _⟩ => show win0_4.index t (0 : Fin 2) * 512 + 1 * r.val = t.val / 4 * 512 + r.val; omega
  | ⟨1, _⟩ => show win0_4.index t (1 : Fin 2) * 2432 + 1 * e.val = t.val % 4 * 2432 + e.val; omega

theorem emb5 (t : Fin cfg0.N) (r : Fin 512) (e : Fin 128) :
    ((cfg0.win 5).blk t).view.emb (ix2 r e) = (ix2 (rowOf t r) e : S16384x128.Idx) := by
  obtain ⟨e0, e1⟩ := idx5 t
  funext a; apply Fin.ext
  match a with
  | ⟨0, _⟩ => show win0_5.index t (0 : Fin 2) * 512 + 1 * r.val = t.val / 4 * 512 + r.val; omega
  | ⟨1, _⟩ => show win0_5.index t (1 : Fin 2) * 128 + 1 * e.val = e.val; omega

/-! ## What the blocks hold of the arguments -/

variable (m : (ℓ : Loc nD τ sig) → Buf (Elt Ideal) ℓ) (ρ : Dev nD → PrngReg)

/-- Row `i` of the first argument: row `i % 2048` of sequence `i / 2048`. -/
def argRow (c : Dev nD) (i : Fin 16384) (k : Fin 1024) : EReal :=
  m ((c : Thread nD τ).loc main_arg0) (ix3 ⟨i.val / 2048, by omega⟩ ⟨i.val % 2048, by omega⟩ k : S8x2048x1024.Idx)

/-- The second argument, the normalisation's scale. -/
def argScale (c : Dev nD) (k : Fin 1024) : EReal := m ((c : Thread nD τ).loc main_arg1) (ix2 0 k : S1x1024.Idx)

/-- The third argument, the weights. -/
def argWeight (c : Dev nD) (k : Fin 1024) (j : Fin 9760) : EReal :=
  m ((c : Thread nD τ).loc main_arg2) (ix3 0 k j : S1x1024x9760.Idx)

theorem rows_host (c : Dev nD) (i : Fin 16384) (k : Fin 1024) : V m c main_v14 (ix2 i k) = argRow m c i k := by
  unfold V argRow
  after_reads_at

theorem scale_host (c : Dev nD) (k : Fin 1024) : V m c main_v16 (ix2 0 k) = argScale m c k := by
  unfold V argScale
  after_reads_at

/-- The host puts the weights' columns in the order of the result's columns. -/
theorem weights_host (c : Dev nD) (k : Fin 1024) (e : Fin 9728) :
    V m c main_v11 (ix2 k e) = packed (argWeight m c k) e := by
  unfold V packed argWeight
  after_reads_at
  iterate 7 refine dite_congr rfl (fun _ => ?_) (fun _ => ?_); after_reads_at
  after_reads_at

/-- The host puts zeros after the step sizes' weights. -/
theorem stepWeights_host (c : Dev nD) (k : Fin 1024) (e : Fin 128) :
    V m c main_v13 (ix2 k e) = padded (argWeight m c k) e := by
  unfold V padded argWeight
  after_reads_at
  split
  · rfl
  · simp [FloatOps.sitofp]

theorem rows_block (c : Dev nD) (t : Fin cfg0.N) (r : Fin 512) (k : Fin 1024) :
    iblk m c 0 t (ix2 r k) = argRow m c (rowOf t r) k := by
  show V m c main_v14 (((cfg0.win 0).blk t).view.emb (ix2 r k)) = _
  rw [emb0]
  exact rows_host m c _ k

theorem scale_block (c : Dev nD) (t : Fin cfg0.N) (k : Fin 1024) : iblk m c 1 t (ix2 0 k) = argScale m c k := by
  show V m c main_v16 (((cfg0.win 1).blk t).view.emb (ix2 0 k)) = _
  rw [emb1]
  exact scale_host m c k

theorem weights_block (c : Dev nD) (t : Fin cfg0.N) (k : Fin 1024) (e : Fin 2432) :
    iblk m c 2 t (ix2 k e) = packed (argWeight m c k) (colOf t e) := by
  show V m c main_v11 (((cfg0.win 2).blk t).view.emb (ix2 k e)) = _
  rw [emb2]
  exact weights_host m c k _

theorem stepWeights_block (c : Dev nD) (t : Fin cfg0.N) (k : Fin 1024) (e : Fin 128) :
    iblk m c 3 t (ix2 k e) = padded (argWeight m c k) e := by
  show V m c main_v13 (((cfg0.win 3).blk t).view.emb (ix2 k e)) = _
  rw [emb3]
  exact stepWeights_host m c k e

/-! ## The results -/

/-- The reference's product of the kernel's arguments. -/
def refProj (c : Dev nD) : FVec Ideal Cert.InProjReferenceIdeal.S8x2048x9760 .f32 :=
  InProjRef.proj (InProjRef.rows (m ((c : Thread nD τ).loc main_arg0)) (m ((c : Thread nD τ).loc main_arg1)))
    (m ((c : Thread nD τ).loc main_arg2))

/-- The reference's results of the kernel's arguments. -/
def G (c : Dev nD) : S16384x9728.Idx → Elt Ideal .bf16 := InProjRef.whole (refProj m c)
def H (c : Dev nD) : S16384x128.Idx → Elt Ideal .f32 := InProjRef.steps (refProj m c)

theorem G_at (c : Dev nD) (i : Fin 16384) (e : Fin 9728) : G m c (ix2 i e)
    = packed (product (normed (argRow m c i) (argScale m c)) (argWeight m c)) e :=
  InProjRef.proj_res _ _ _ i e

theorem H_at (c : Dev nD) (i : Fin 16384) (e : Fin 128) : H m c (ix2 i e)
    = padded (product (normed (argRow m c i) (argScale m c)) (argWeight m c)) e :=
  InProjRef.steps_res _ _ _ i e

/-- The block of the projection a grid point computes, as the reference's result at its rows and columns. -/
theorem proj_block (c : Dev nD) (t : Fin cfg0.N) (r : Fin 512) (e : Fin 2432) :
    projAt (F := Ideal) m c t (ix2 r e) = G m c (ix2 (rowOf t r) (colOf t e)) := by
  unfold projAt rowsAt
  rw [InProjBlock.proj_at, G_at, ← packed_product]
  simp only [InProjBlock.rows_at, rows_block, scale_block, weights_block, rowOf_base]

/-- The block of step sizes at a grid point, as the reference's result at its rows. -/
theorem steps_block (c : Dev nD) (t : Fin cfg0.N) (r : Fin 512) (e : Fin 128) :
    stepsAt (F := Ideal) m c t (ix2 r e) = H m c (ix2 (rowOf t r) e) := by
  unfold stepsAt
  rw [InProjBlock.steps_at, H_at, ← padded_product]
  simp only [rows_block, scale_block, stepWeights_block, rowOf_base]

/-- A block equal to the array's rows and columns is the array's block. -/
theorem cut4_eq (t : Fin cfg0.N) (X : S512x2432.Idx → Elt Ideal .bf16) (A : S16384x9728.Idx → Elt Ideal .bf16)
    (h : ∀ (r : Fin 512) (e : Fin 2432), X (ix2 r e) = A (ix2 (rowOf t r) (colOf t e))) :
    (cfg0.win 4).cut (grid0.coords t) X = ((cfg0.win 4).blk t).view.read (Elt Ideal) A := by
  funext i
  obtain ⟨r, e, rfl⟩ : ∃ (r : Fin 512) (e : Fin 2432), i = (ix2 r e : S512x2432.Idx) :=
    ⟨i (0 : Fin 2), i (1 : Fin 2), funext fun a => by
      match a with
      | ⟨0, _⟩ => rfl
      | ⟨1, _⟩ => rfl⟩
  show X (ix2 r e) = A (((cfg0.win 4).blk t).view.emb (ix2 r e))
  rw [h, emb4]

theorem cut5_eq (t : Fin cfg0.N) (X : S512x128.Idx → Elt Ideal .f32) (A : S16384x128.Idx → Elt Ideal .f32)
    (h : ∀ (r : Fin 512) (e : Fin 128), X (ix2 r e) = A (ix2 (rowOf t r) e)) :
    (cfg0.win 5).cut (grid0.coords t) X = ((cfg0.win 5).blk t).view.read (Elt Ideal) A := by
  funext i
  obtain ⟨r, e, rfl⟩ : ∃ (r : Fin 512) (e : Fin 128), i = (ix2 r e : S512x128.Idx) :=
    ⟨i (0 : Fin 2), i (1 : Fin 2), funext fun a => by
      match a with
      | ⟨0, _⟩ => rfl
      | ⟨1, _⟩ => rfl⟩
  show X (ix2 r e) = A (((cfg0.win 5).blk t).view.emb (ix2 r e))
  rw [h, emb5]

theorem flushed4_eq (c : Dev nD) (t : Fin cfg0.N) :
    (dats (F := Ideal) m 0 c).flushed 4 t = ((cfg0.win 4).blk t).view.read (Elt Ideal) (G m c) :=
  (congrArg ((cfg0.win 4).cut (grid0.coords t)) (after4 m c t)).trans (cut4_eq t _ _ (proj_block m c t))

theorem flushed5_eq (c : Dev nD) (t : Fin cfg0.N) :
    (dats (F := Ideal) m 0 c).flushed 5 t = ((cfg0.win 5).blk t).view.read (Elt Ideal) (H m c) :=
  (congrArg ((cfg0.win 5).cut (grid0.coords t)) (after5 m c t)).trans (cut5_eq t _ _ (steps_block m c t))

/-- Every index of the projection is in some point's block. -/
theorem covered4 (i : S16384x9728.Idx) :
    ∃ t : Fin cfg0.N, (cfg0.win 4).flush t = true ∧ i ∈ ((cfg0.win 4).blk t).view.set := by
  have h0 : (i 0).val < 16384 := (i 0).isLt
  have h1 : (i 1).val < 9728 := (i 1).isLt
  refine ⟨⟨(i 0).val / 512 * 4 + (i 1).val / 2432, by rw [show cfg0.N = 128 from N_0]; omega⟩, flush0_4 _, ?_⟩
  generalize ht : (⟨(i 0).val / 512 * 4 + (i 1).val / 2432, _⟩ : Fin cfg0.N) = t
  have hv : t.val = (i 0).val / 512 * 4 + (i 1).val / 2432 := by rw [← ht]
  have h := ((cfg0.win 4).blk t).view.emb_mem_set (ix2 ⟨(i 0).val % 512, by omega⟩ ⟨(i 1).val % 2432, by omega⟩)
  refine (?_ : i = _) ▸ h
  refine Eq.trans ?_ (emb4 t ⟨(i 0).val % 512, by omega⟩ ⟨(i 1).val % 2432, by omega⟩).symm
  funext a; apply Fin.ext
  match a with
  | ⟨0, _⟩ => show (i 0).val = t.val / 4 * 512 + (i 0).val % 512; omega
  | ⟨1, _⟩ => show (i 1).val = t.val % 4 * 2432 + (i 1).val % 2432; omega

/-- Every index of the step sizes is in the block of the last of the four points that share its rows. -/
theorem covered5 (i : S16384x128.Idx) :
    ∃ t : Fin cfg0.N, (cfg0.win 5).flush t = true ∧ i ∈ ((cfg0.win 5).blk t).view.set := by
  have h0 : (i 0).val < 16384 := (i 0).isLt
  refine ⟨⟨(i 0).val / 512 * 4 + 3, by rw [show cfg0.N = 128 from N_0]; omega⟩,
    (flush0_5 _).mpr (by show ((i 0).val / 512 * 4 + 3) % 4 = 3; omega), ?_⟩
  generalize ht : (⟨(i 0).val / 512 * 4 + 3, _⟩ : Fin cfg0.N) = t
  have hv : t.val = (i 0).val / 512 * 4 + 3 := by rw [← ht]
  have h := ((cfg0.win 5).blk t).view.emb_mem_set (ix2 ⟨(i 0).val % 512, by omega⟩ (i 1))
  refine (?_ : i = _) ▸ h
  refine Eq.trans ?_ (emb5 t ⟨(i 0).val % 512, by omega⟩ (i 1)).symm
  funext a; apply Fin.ext
  match a with
  | ⟨0, _⟩ => show (i 0).val = t.val / 4 * 512 + (i 0).val % 512; omega
  | ⟨1, _⟩ => rfl

/-- The result arrays after the run. -/
theorem final4 (c : Dev nD) : (dats (F := Ideal) m 0 c).arrAt 4 cfg0.N = G m c :=
  (dats m 0 c).arrAt_eq_of_cover 4 (G m c) (fun t _ => flushed4_eq m c t) covered4
theorem final5 (c : Dev nD) : (dats (F := Ideal) m 0 c).arrAt 5 cfg0.N = H m c :=
  (dats m 0 c).arrAt_eq_of_cover 5 (H m c) (fun t _ => flushed5_eq m c t) covered5

/-! ## The claims -/

theorem frame : Cert.quiescent_InProj := fun m ρ _ => InProjRun.frame m ρ
theorem frame_ideal : Cert.quiescent_InProjIdeal := fun m ρ _ => InProjIdealRun.frame m ρ

/-- The reference's frame: its run read at the arguments; it declares no semaphore. -/
theorem frame_ref : Cert.quiescent_InProjReferenceIdeal := fun m ρ _ =>
  (θ_run Cert.InProjReferenceIdeal.defs _ _).mono
    (fun r h => ⟨fun c => (h c).2.2, sem_eq_zero_of_no_sems (by decide) r.2⟩)
    (Cert.InProjReferenceIdeal.Value.run (F := Ideal) m ρ)

/-- The kernel's results are the reference's. -/
theorem algebraic : Cert.algebraic_InProjIdeal_InProjReferenceIdeal := by
  intro m ρ m' ρ' _ hagree
  have e (c : Dev nD) : InProjRef.proj (InProjRef.rows
        (m' ((c.tc : Thread Cert.InProjReferenceIdeal.nD Cert.InProjReferenceIdeal.τ).loc Cert.InProjReferenceIdeal.main_arg0))
        (m' ((c.tc : Thread Cert.InProjReferenceIdeal.nD Cert.InProjReferenceIdeal.τ).loc Cert.InProjReferenceIdeal.main_arg1)))
        (m' ((c.tc : Thread Cert.InProjReferenceIdeal.nD Cert.InProjReferenceIdeal.τ).loc Cert.InProjReferenceIdeal.main_arg2))
      = refProj m c := by
    unfold refProj
    obtain ⟨h0, h1, h2⟩ := hagree c
    rw [h0, h1, h2]
  refine ⟨fun c => G m c, fun c => H m c, ?_, ?_⟩
  · exact (θ_run defs _ _).mono (fun r h c =>
      ⟨((h.1 c).1 4).trans (final4 m c), ((h.1 c).1 5).trans (final5 m c),
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩)
      (InProjIdealRun.run (F := Ideal) m ρ)
  · exact (θ_run Cert.InProjReferenceIdeal.defs _ _).mono (fun r h c =>
      ⟨((h c).1.trans (InProjRef.res_eq m' c)).trans (congrArg InProjRef.whole (e c)),
        (h c).2.1.trans (congrArg InProjRef.steps (e c)), (h c).2.2⟩)
      (Cert.InProjReferenceIdeal.Value.run (F := Ideal) m' ρ')

end Cert.Proof.InProjClaims

end
-- ==== Proof.InProjMetaRef.lean ====
/- The reference of the meta block's input projection, cut into its steps and read at an index. -/
module

public import proofs.«01_k».proof.Proof.Gen.InProjMetaReferenceIdeal.Run
public import proofs.«01_k».proof.Proof.InProjBlock

@[expose] public section

set_option maxRecDepth 16384

noncomputable section

namespace Cert.Proof.InProj

open Idealize.ShloMosaic

/-- Row `i` of the meta block: rows of zeros, then the meta tokens `x`. -/
def metaRow (x : Fin 16 → Fin 1024 → EReal) (i : Fin 128) (k : Fin 1024) : EReal :=
  if h : i.val < 112 then 0 else x ⟨i.val - 112, by omega⟩ k

end Cert.Proof.InProj

namespace Cert.Proof.InProjMetaRef

open Cert.InProjMetaReferenceIdeal Cert.InProjMetaReferenceIdeal.Gen Cert.InProjMetaReferenceIdeal.Value
open Idealize.ShloMosaic Idealize.ShloMosaic.TcCoe Idealize.SL.Sem Cert.Proof.InProj

/-- The meta block. -/
def block (a0 : FVec Ideal S16x1024 .f32) : FVec Ideal S128x1024 .f32 :=
  concatenate S128x1024 0 [⟨S112x1024, broadcastInDim S112x1024 ![] bcast_S_S112x1024 (constant S_ .f32 0x00000000#32)⟩,
    ⟨S16x1024, a0⟩] concatenates_S112x1024_S16x1024_S128x1024_d0

/-- The normalised rows. -/
def rows (h : FVec Ideal S128x1024 .f32) (a1 : FVec Ideal S1x1024 .f32) : FVec Ideal S128x1024 .f32 :=
  mulf (mulf h (broadcastInDim S128x1024 ![0, 1] bcast_S128x1_S128x1024_0_1
      (Host.rsqrt (addf (Host.divf (broadcastInDim S128x1 ![0] bcast_S128_S128x1_0
        (Host.reduceAdd (mulf h h) (constant S_ .f32 0x00000000#32) reducesTo_S128x1024_S128_d1 h_S_))
        (broadcastInDim S128x1 ![] bcast_S_S128x1 (constant S_ .f32 0x44800000#32)))
        (broadcastInDim S128x1 ![] bcast_S_S128x1 (constant S_ .f32 0x358637BD#32))))))
    (broadcastInDim S128x1024 ![0, 1] bcast_S1x1024_S128x1024_0_1
      (broadcastInDim S1x1024 ![1] bcast_S1024_S1x1024_1 (shapeCast S1024 a1 shapeCasts_S1x1024_S1024)))

/-- The rows times the weights. -/
def proj (u : FVec Ideal S128x1024 .f32) (a2 : FVec Ideal S1x1024x9760 .f32) : FVec Ideal S128x9760 .f32 :=
  Host.dotGeneral dot_S128x1024_S1024x9760_S128x9760_1_0_0_1_n_n none u
    (shapeCast S1024x9760 a2 shapeCasts_S1x1024x9760_S1024x9760)

/-- The eight runs of columns, one after another. -/
def whole (p : FVec Ideal S128x9760 .f32) : FVec Ideal S128x9728 .bf16 :=
  truncf .bf16 (concatenate S128x9728 1
    [⟨S128x1024, extractStridedSlice S128x1024 ![0, 0] p slices_S128x9760_S128x1024_0_0⟩,
     ⟨S128x1024, extractStridedSlice S128x1024 ![0, 1536] p slices_S128x9760_S128x1024_0_1536⟩,
     ⟨S128x2048, extractStridedSlice S128x2048 ![0, 2560] p slices_S128x9760_S128x2048_0_2560⟩,
     ⟨S128x1024, extractStridedSlice S128x1024 ![0, 7712] p slices_S128x9760_S128x1024_0_7712⟩,
     ⟨S128x1024, extractStridedSlice S128x1024 ![0, 8736] p slices_S128x9760_S128x1024_0_8736⟩,
     ⟨S128x3072, extractStridedSlice S128x3072 ![0, 4608] p slices_S128x9760_S128x3072_0_4608⟩,
     ⟨S128x256, extractStridedSlice S128x256 ![0, 1024] p slices_S128x9760_S128x256_0_1024⟩,
     ⟨S128x256, extractStridedSlice S128x256 ![0, 1280] p slices_S128x9760_S128x256_0_1280⟩]
    concatenates_S128x1024_S128x1024_S128x2048_S128x1024_S128x1024_S128x3072_S128x256_S128x256_S128x9728_d1
    : FVec Ideal S128x9728 .f32) bitsLt_bf16_f32

/-- The step sizes' columns with zeros after them. -/
def steps (p : FVec Ideal S128x9760 .f32) : FVec Ideal S128x128 .f32 :=
  pad S128x128 ![0, 0] ![0, 96] ![0, 0] (extractStridedSlice S128x32 ![0, 7680] p slices_S128x9760_S128x32_0_7680)
    (sitofp .f32 (constantI S_ 32 0#32)) pads_S128x32_S128x128_000_0960 h_S_

variable (m : (ℓ : Loc nD τ sig) → Buf (Elt Ideal) ℓ) (c : Dev nD)

/-- The reference's first result is these steps one after another. -/
theorem res_eq : res_main_v28 m c = whole (proj (rows (block (m ((c.tc : Thread nD τ).loc main_arg0)))
    (m ((c.tc : Thread nD τ).loc main_arg1))) (m ((c.tc : Thread nD τ).loc main_arg2))) := rfl

/-! ## The steps read at an index -/

theorem block_at (a0 : FVec Ideal S16x1024 .f32) (i : Fin 128) (k : Fin 1024) :
    block a0 (ix2 i k) = metaRow (fun j k => a0 (ix2 j k)) i k := by
  unfold metaRow
  pointwise [block]

theorem rows_at (h : FVec Ideal S128x1024 .f32) (a1 : FVec Ideal S1x1024 .f32) (i : Fin 128) (e : Fin 1024) :
    rows h a1 (ix2 i e) = normed (fun k => h (ix2 i k)) (fun k => a1 (ix2 0 k)) e := by
  unfold normed
  pointwise [rows]

theorem proj_at (u : FVec Ideal S128x1024 .f32) (a2 : FVec Ideal S1x1024x9760 .f32) (i : Fin 128) (j : Fin 9760) :
    proj u a2 (ix2 i j) = product (fun k => u (ix2 i k)) (fun k j => a2 (ix3 0 k j)) j := by
  unfold product
  pointwise [proj]

theorem whole_at (p : FVec Ideal S128x9760 .f32) (i : Fin 128) (e : Fin 9728) :
    whole p (ix2 i e) = packed (fun j => p (ix2 i j)) e := by
  unfold packed
  pointwise [whole]

theorem steps_at (p : FVec Ideal S128x9760 .f32) (i : Fin 128) (e : Fin 128) :
    steps p (ix2 i e) = padded (fun j => p (ix2 i j)) e := by
  unfold padded
  pointwise [steps]
  refine dite_congr rfl (fun _ => rfl) (fun _ => ?_)
  simp [FloatOps.sitofp]

/-- The first result at an index. -/
theorem proj_res (a0 : FVec Ideal S16x1024 .f32) (a1 : FVec Ideal S1x1024 .f32) (a2 : FVec Ideal S1x1024x9760 .f32)
    (i : Fin 128) (e : Fin 9728) : whole (proj (rows (block a0) a1) a2) (ix2 i e)
      = packed (product (normed (metaRow (fun j k => a0 (ix2 j k)) i) (fun k => a1 (ix2 0 k)))
          (fun k j => a2 (ix3 0 k j))) e := by
  rw [whole_at]
  simp only [proj_at, rows_at, block_at]

/-- The second result at an index. -/
theorem steps_res (a0 : FVec Ideal S16x1024 .f32) (a1 : FVec Ideal S1x1024 .f32) (a2 : FVec Ideal S1x1024x9760 .f32)
    (i : Fin 128) (e : Fin 128) : steps (proj (rows (block a0) a1) a2) (ix2 i e)
      = padded (product (normed (metaRow (fun j k => a0 (ix2 j k)) i) (fun k => a1 (ix2 0 k)))
          (fun k j => a2 (ix3 0 k j))) e := by
  rw [steps_at]
  simp only [proj_at, rows_at, block_at]

end Cert.Proof.InProjMetaRef

end
-- ==== Proof.InProjMetaBlock.lean ====
/- The input projection of the meta block: what a block of the kernel computes, row by row. -/
module

public import proofs.«01_k».proof.Proof.InProjBlock
public import proofs.«01_k».proof.Proof.Gen.InProjMetaIdeal.Skeleton

@[expose] public section

set_option maxRecDepth 16384

noncomputable section

namespace Cert.Proof.InProjMetaBlock

open Cert.InProjMetaIdeal Cert.InProjMetaIdeal.Gen Idealize.ShloMosaic Idealize.ShloMosaic.TcCoe Idealize.SL.Sem
open Cert.Proof.InProj

/-! ## The kernel's block, read at an index -/

theorem normed_at (x0 : Vec Ideal S128x1024 .f32) (x1 : Vec Ideal S1x1024 .f32) (r : Fin 128) (e : Fin 1024) :
    k0_pay1 (F := Ideal) x0 x1 (ix2 r e) = normed (fun k => x0 (ix2 r k)) (fun k => x1 (ix2 0 k)) e := by
  unfold normed
  pointwise [k0_pay1]

/-- The scratch buffer holds the normalised rows. -/
theorem rows_at (x0 : Vec Ideal S128x1024 .f32) (x1 : Vec Ideal S1x1024 .f32) (r : Fin 128) (e : Fin 1024) :
    k0_pay2 (F := Ideal) x0 x1 (ix2 r e) = normed (fun k => x0 (ix2 r k)) (fun k => x1 (ix2 0 k)) e := by
  rw [← normed_at]
  unfold k0_pay2
  generalize k0_pay1 x0 x1 = y
  pointwise []

/-- The step sizes are the normalised rows times their weights. -/
theorem steps_at (x0 : Vec Ideal S128x1024 .f32) (x1 : Vec Ideal S1x1024 .f32) (x3 : Vec Ideal S1024x128 .bf16)
    (r : Fin 128) (e : Fin 128) : k0_pay3 (F := Ideal) x0 x1 x3 (ix2 r e)
      = ∑ k, normed (fun k => x0 (ix2 r k)) (fun k => x1 (ix2 0 k)) k * x3 (ix2 k e) := by
  simp only [← normed_at]
  unfold k0_pay3
  generalize k0_pay1 x0 x1 = y
  pointwise []

/-- The projection is the scratch buffer's rows times the weights. -/
theorem proj_at (y : Vec Ideal S128x1024 .bf16) (x2 : Vec Ideal S1024x2432 .bf16) (r : Fin 128) (e : Fin 2432) :
    k0_pay4 (F := Ideal) y x2 (ix2 r e) = (∑ k : Fin 1024, y (ix2 r k) * x2 (ix2 k e) : EReal) := by
  pointwise [k0_pay4]

end Cert.Proof.InProjMetaBlock

end
-- ==== Proof.InProjMetaIdealRun.lean ====
/- The input projection's run (InProjMetaIdeal): what the body leaves in its buffers at every grid point, the invariant that carries the
   normalised rows from one point to the next, and the run of the whole program. Four points share the block of 128 rows; the
   first of them normalises the rows into the scratch buffer and writes the step sizes, the other three read the scratch
   buffer and leave the step sizes as they are. -/
module

public import proofs.«01_k».proof.Proof.Gen.InProjMetaIdeal.Skeleton
public import proofs.«01_k».proof.Proof.Gen.InProjMetaIdeal.Frame
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.Proof.InProjMetaIdealRun

open Cert.InProjMetaIdeal Cert.InProjMetaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- Assertions about the machine's state. -/
abbrev Assertion (F : FTy → Type) [FloatOps F] : Type := sProp (MT nD τ sig Unit (Elt F) ℕ (UR sig nD τ) ℕ)

/-! ## The body on any buffers -/

section Body

variable (c : Dev nD) (i : grid0.Coords)
  (arg2 : Memref sig .tc .vmem S128x1024 .f32) (harg2 : arg2.IsWhole)
  (arg3 : Memref sig .tc .vmem S1x1024 .f32) (harg3 : arg3.IsWhole)
  (arg4 : Memref sig .tc .vmem S1024x2432 .bf16) (harg4 : arg4.IsWhole)
  (arg5 : Memref sig .tc .vmem S1024x128 .bf16) (harg5 : arg5.IsWhole)
  (arg6 : Memref sig .tc .vmem S128x2432 .bf16) (harg6 : arg6.IsWhole)
  (arg7 : Memref sig .tc .vmem S128x128 .f32) (harg7 : arg7.IsWhole)
  (arg8 : Memref sig .tc .vmem S128x1024 .bf16) (harg8 : arg8.IsWhole)
  (x0 : Vec F S128x1024 .f32) (x1 : Vec F S1x1024 .f32) (x2 : Vec F S1024x2432 .bf16) (x3 : Vec F S1024x128 .bf16)

set_option maxHeartbeats 1000000 in
/-- The first point of a block of rows: everything is written. -/
theorem body_first (hc : k0_cond1 i = 1#1) (E : Set ℕ) (K : PUnit → Assertion F) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 (k0_pay2 x0 x1) x2)
            ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    refine congrArg₂ k0_pay4 ((View.readCov_full _ _ _ _ _).trans ?_) ?_
    · rw [View.readAt_full, View.readAt_full, harg2.read_unread, harg3.read_unread]
    · rw [View.readAt_full, harg4.read_unread]
  isplitl [H5]
  · iexists _; isplitr; swap; · iexact H5
    ipureintro
    refine (View.read_writes_full _ _ _ _ _).trans ?_
    rw [View.readAt_full, View.readAt_full, View.readAt_full, harg2.read_unread, harg3.read_unread, harg5.read_unread]
  iexists _; isplitr; swap; · iexact HS
  ipureintro
  refine (View.read_writes_full _ _ _ _ _).trans ?_
  rw [View.readAt_full, View.readAt_full, harg2.read_unread, harg3.read_unread]

set_option maxHeartbeats 1000000 in
/-- A later point of a block of rows: the projection is written, the step sizes and the scratch buffer are kept. -/
theorem body_later (hc : ¬k0_cond1 i = 1#1) (x5 : Vec F S128x128 .f32) (xs : Vec F S128x1024 .bf16) (E : Set ℕ)
    (K : PUnit → Assertion F) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare x5 ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 xs x2)
            ∗ owns (c : Thread nD τ) arg7 fullShare x5 ∗ owns (c : Thread nD τ) arg8 fullShare xs) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hf5; obtain rfl := harg8.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    rw [View.readAt_full, View.readAt_full, harg8.read_unread, harg4.read_unread]
  isplitl [H5]
  · iexists _; isplitr; · ipureintro; exact harg7.read_unread _
    iexact H5
  iexists _; isplitr; · ipureintro; exact harg8.read_unread _
  iexact HS

end Body

/-! ## The grid's points -/

theorem lt_N (t : Fin cfg0.N) : t.val < 4 := N_0 ▸ t.isLt

/-- The body's condition holds at the first of each four points. -/
theorem cond_iff : ∀ t : Fin cfg0.N, k0_cond1 (grid0.coords t) = 1#1 ↔ t.val % 4 = 0 :=
  (fun t => by
    have ht : t.val < 4 := Nat.lt_of_lt_of_eq t.isLt N_0
    have e0 : (grid0.coords t 0).val = t.val / 4 % 1 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

theorem live_first : ∀ t : Fin cfg0.N, k0_cond1 (grid0.coords t) = 1#1 → cfg0.idle 5 (grid0.coords t) = false := by decide +kernel
theorem idle_later : ∀ t : Fin cfg0.N, ¬k0_cond1 (grid0.coords t) = 1#1 → cfg0.idle 5 (grid0.coords t) = true := by decide +kernel

/-- The positions before which the step sizes' buffer holds nothing of its block. -/
def freshAt : ℕ → Bool
  | 0 => true
  | n + 1 => (0x8 : ℕ).testBit n
theorem freshAt_step : ∀ t : Fin cfg0.N,
    freshAt (t.val + 1) = ((cfg0.win 5).flush t || (cfg0.idle 5 (cfg0.grid.coords t) && freshAt t.val)) := by decide +kernel
theorem fresh_eq (t : Fin cfg0.N) : cfg0.fresh 5 t.val = freshAt t.val :=
  Pipeline.Cfg.fresh_tab cfg0 5 freshAt rfl freshAt_step t.val (Nat.le_of_lt t.isLt)
theorem kept_later : ∀ t : Fin cfg0.N, ¬k0_cond1 (grid0.coords t) = 1#1 → cfg0.fresh 5 t.val = false := by
  intro t; rw [fresh_eq t]; revert t; decide +kernel

/-- The point that normalises the rows point `t` works on. -/
def base (t : Fin cfg0.N) : Fin cfg0.N := ⟨t.val - t.val % 4, Nat.lt_of_le_of_lt (Nat.sub_le _ _) t.isLt⟩

theorem base_first (t : Fin cfg0.N) (h : t.val % 4 = 0) : base t = t := Fin.ext (by show t.val - t.val % 4 = t.val; omega)
theorem base_later (t : Fin cfg0.N) (h : ¬t.val % 4 = 0) :
    base ⟨t.val - 1, Nat.lt_of_le_of_lt (Nat.sub_le _ _) t.isLt⟩ = base t :=
  Fin.ext (by show t.val - 1 - (t.val - 1) % 4 = t.val - t.val % 4; omega)

/-! ## What the buffers hold after each point -/

variable (m : (ℓ : Loc nD τ sig) → Buf (Elt F) ℓ) (ρ : Dev nD → PrngReg)

/-- The normalised rows. -/
def rowsAt (c : Dev nD) (t : Fin cfg0.N) : Vec F S128x1024 .bf16 := k0_pay2 (iblk m c 0 (base t)) (iblk m c 1 (base t))
/-- The step sizes. -/
def stepsAt (c : Dev nD) (t : Fin cfg0.N) : Vec F S128x128 .f32 :=
  k0_pay3 (iblk m c 0 (base t)) (iblk m c 1 (base t)) (iblk m c 3 (base t))
/-- The projection. -/
def projAt (c : Dev nD) (t : Fin cfg0.N) : Vec F S128x2432 .bf16 := k0_pay4 (rowsAt m c t) (iblk m c 2 t)

/-- The scratch buffer. -/
abbrev scratch : Memref sig .tc .vmem S128x1024 .bf16 := Memref.whole cc0_scratch0

/-- The invariant before position `n`: after the first point the scratch buffer holds the last point's rows. -/
def inv (c : Dev nD) : (n : ℕ) → n ≤ cfg0.N → Assertion F
  | 0, _ => Pipeline.ΦA spec0 c
  | n + 1, hn => iprop(owns (c : Thread nD τ) scratch fullShare (rowsAt m c ⟨n, hn⟩) ∗ (∃ r, prngReg c r))

theorem start_eq (c : Dev nD) :
    (Pipeline.ΦA spec0 c : Assertion F) = iprop((∃ d, owns (c : Thread nD τ) scratch fullShare d) ∗ (∃ r, prngReg c r)) := by
  unfold Pipeline.ΦA; rw [scopedRest0_eq]; simp only [scratch, owns_whole]; try rfl

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scratch fullShare (rowsAt m c ⟨n - 1, by omega⟩) ∗ (∃ r, prngReg c r)) := by
  cases n with
  | zero => exact absurd rfl hz
  | succ n => rfl

/-- The arrays as the region finds them, the buffers after each point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projAt m c t
    | ⟨5, _⟩ => stepsAt m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_at (c : Dev nD) (t : Fin cfg0.N) :
    (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = projAt m c t := by dsimp only [dats]
theorem after5 (c : Dev nD) (t : Fin cfg0.N) : (dats m 0 c).after 5 t = stepsAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem rows_later (c : Dev nD) (t : Fin cfg0.N) (h : ¬t.val % 4 = 0) :
    rowsAt m c ⟨t.val - 1, Nat.lt_of_le_of_lt (Nat.sub_le _ _) t.isLt⟩ = rowsAt m c t := by
  unfold rowsAt; rw [base_later t h]
theorem steps_later (c : Dev nD) (t : Fin cfg0.N) (h : ¬t.val % 4 = 0) :
    stepsAt m c ⟨t.val - 1, Nat.lt_of_le_of_lt (Nat.sub_le _ _) t.isLt⟩ = stepsAt m c t := by
  unfold stepsAt; rw [base_later t h]

/-- A point that leaves the step sizes alone leaves those of its block. -/
theorem carry (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after5, after5]
  by_cases h0 : t.val % 4 = 0
  · rw [live_first t ((cond_iff t).mpr h0)] at hi
    exact absurd hi Bool.false_ne_true
  · exact (steps_later m c t h0).symm

/-- Such a point finds them too. -/
theorem before5 (c : Dev nD) (t : Fin cfg0.N) (h0 : ¬t.val % 4 = 0) (d) : (dats m 0 c).before 5 t d = stepsAt m c t := by
  rw [Dat.before_out_traj _ 5 rfl (fun _ _ => rfl) (carry m c) t.val t rfl d,
    if_neg (by rw [kept_later t (fun h => h0 ((cond_iff t).mp h))]; exact Bool.false_ne_true), after5]
  exact steps_later m c t h0

/-! ## The body at a point -/

/-- What the body is called with. -/
def bodyPre (c : Dev nD) (t : Fin cfg0.N) : Assertion F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : Assertion F :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- At a later point the step sizes of the block are what is to be left, whether or not they are written back there. -/
theorem leaves5 (c : Dev nD) (t : Fin cfg0.N) (h0 : ¬t.val % 4 = 0) :
    owns (c : Thread nD τ) (st0_5 t) fullShare (stepsAt m c t) ⊢ ((dats m 0 c).leavesExact 5 t : Assertion F) := by
  have hi := idle_later t (fun h => h0 ((cond_iff t).mp h))
  cases hf : (cfg0.win 5).flush t with
  | false =>
    rw [Dat.leavesExact_idle _ 5 t hi hf]
    simp only [before5 m c t h0]
    iintro H
    iexists fun _ => default
    iexact H
  | true =>
    rw [show (dats m 0 c).leavesExact 5 t = owns (c : Thread nD τ) (st0_5 t) fullShare ((dats m 0 c).after 5 t) from by
      unfold Dat.leavesExact; rw [hi, hf], after5]
    try exact Idealize.SL.BI.Entails.refl _

set_option maxHeartbeats 3200000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = inv m c (t.val + 1) t.isLt from rfl]
  rw [show inv m c (t.val + 1) t.isLt
    = iprop(owns (c : Thread nD τ) scratch fullShare (rowsAt m c t) ∗ (∃ r, prngReg c r)) from rfl]
  rw [show (dats m 0 c).leavesExact 0 t = owns (c : Thread nD τ) (st0_0 t) fullShare ((dats m 0 c).after 0 t) from rfl, after0,
    show (dats m 0 c).leavesExact 1 t = owns (c : Thread nD τ) (st0_1 t) fullShare ((dats m 0 c).after 1 t) from rfl, after1,
    show (dats m 0 c).leavesExact 2 t = owns (c : Thread nD τ) (st0_2 t) fullShare ((dats m 0 c).after 2 t) from rfl, after2,
    show (dats m 0 c).leavesExact 3 t = owns (c : Thread nD τ) (st0_3 t) fullShare ((dats m 0 c).after 3 t) from rfl, after3,
    show (dats m 0 c).leavesExact 4 t = owns (c : Thread nD τ) (st0_4 t) fullShare ((dats m 0 c).after 4 t) from rfl, after4]
  by_cases h0 : t.val % 4 = 0
  · rw [show (dats m 0 c).leavesExact 5 t = owns (c : Thread nD τ) (st0_5 t) fullShare ((dats m 0 c).after 5 t) from by
      unfold Dat.leavesExact; rw [live_first t ((cond_iff t).mpr h0)], after5]
    unfold projAt stepsAt rowsAt
    rw [base_first t h0]
    have start : ((dats m 0 c).Φ t.castSucc : Assertion F)
        ⊢ iprop((∃ d, owns (c : Thread nD τ) scratch fullShare d) ∗ (∃ r, prngReg c r)) := by
      rw [inv_at]
      by_cases hz : t.val = 0
      · rw [inv_zero m c _ _ hz, start_eq]; try exact Idealize.SL.BI.Entails.refl _
      · rw [inv_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩, ⟨%d5, H5⟩⟩
    ihave HΦ := start $$ HΦ
    icases HΦ with ⟨HS, Hg⟩
    iapply (body_first c (grid0.coords t) _ _ _ _ _ _ _ _ _ _ _ _ _ _ (iblk m c 0 t) (iblk m c 1 t) (iblk m c 2 t)
      (iblk m c 3 t) ((cond_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    have leaves := leaves5 m c t h0
    rw [inv_at, inv_pos m c _ _ hz, rows_later m c t h0]
    simp only [before5 m c t h0]
    unfold projAt
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (iblk m c 0 t) (iblk m c 1 t) (iblk m c 2 t)
      (iblk m c 3 t) (fun h => h0 ((cond_iff t).mp h)) (stepsAt m c t) (rowsAt m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply leaves
    iexact H5

theorem table_row (t : Fin cfg0.N) :
    defs₀ (F := F) .tc cfg0.body (cfg0.bodyArgs t (cfg0.slots t)) = bodyAt0 t := by
  unfold defs₀; rw [Defs.onTc_tc]

theorem body (c : Dev nD) : BodyObligation (dats (F := F) m 0 c) (defs₀ (F := F)) Variants.none () Set.univ := fun t => by
  rw [bigSep_W0, bigSep_W0, table_row]
  exact triple_restated (body_at m c t) rfl .rfl fun _ => .rfl

/-! ## The run -/

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 4 := N_0; omega), start_eq]
  iintro ⟨HS, Hg⟩
  isplitl [HS]
  · iexists _; iexact HS
  iexact Hg

set_option backward.isDefEq.respectTransparency.types false in
/-- The program terminates with the arrays at what the points wrote back and every semaphore at zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := A_eq m) (hin := enter m) (hout := leave m)

/-- The program terminates with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.InProjMetaIdealRun

end
-- ==== Proof.InProjMetaClaims.lean ====
/- The input projection of the meta block: its two result arrays after the run are the reference's results of the same arguments; its claims. -/
module

public import proofs.«01_k».proof.Proof.InProjMetaRef
public import proofs.«01_k».proof.Proof.InProjMetaBlock
public import proofs.«01_k».proof.Proof.InProjMetaRun
public import proofs.«01_k».proof.Proof.InProjMetaIdealRun
public import proofs.«01_k».proof.Defs
public import Idealize.ShloMosaic.Lib.StableHlo.ReadAt

@[expose] public section

set_option maxRecDepth 16384

noncomputable section

namespace Cert.Proof.InProjMetaClaims

open Cert.InProjMetaIdeal Cert.InProjMetaIdeal.Gen Idealize.ShloMosaic Idealize.ShloMosaic.TcCoe
open Idealize.SL.Sem Cert.Proof.InProj Cert.Proof.InProjMetaIdealRun

/-! ## The windows' blocks: grid point `t` has block `t` of the columns -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Column `e` of grid point `t`. -/
def colOf (t : Fin cfg0.N) (e : Fin 2432) : Fin 9728 := ⟨t.val * 2432 + e.val, by have := lt_N t; omega⟩

theorem emb0 (t : Fin cfg0.N) (r : Fin 128) (e : Fin 1024) :
    ((cfg0.win 0).blk t).view.emb (ix2 r e) = (ix2 r e : S128x1024.Idx) := by
  obtain ⟨e0, e1⟩ := idx0 t
  funext a; apply Fin.ext
  match a with
  | ⟨0, _⟩ => show win0_0.index t (0 : Fin 2) * 128 + 1 * r.val = r.val; omega
  | ⟨1, _⟩ => show win0_0.index t (1 : Fin 2) * 1024 + 1 * e.val = e.val; omega

theorem emb1 (t : Fin cfg0.N) (e : Fin 1024) :
    ((cfg0.win 1).blk t).view.emb (ix2 0 e) = (ix2 0 e : S1x1024.Idx) := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * e.val = e.val; omega

theorem emb2 (t : Fin cfg0.N) (k : Fin 1024) (e : Fin 2432) :
    ((cfg0.win 2).blk t).view.emb (ix2 k e) = (ix2 k (colOf t e) : S1024x9728.Idx) := by
  obtain ⟨e0, e1⟩ := idx2 t
  funext a; apply Fin.ext
  match a with
  | ⟨0, _⟩ => show win0_2.index t (0 : Fin 2) * 1024 + 1 * k.val = k.val; omega
  | ⟨1, _⟩ => show win0_2.index t (1 : Fin 2) * 2432 + 1 * e.val = t.val * 2432 + e.val; omega

theorem emb3 (t : Fin cfg0.N) (k : Fin 1024) (e : Fin 128) :
    ((cfg0.win 3).blk t).view.emb (ix2 k e) = (ix2 k e : S1024x128.Idx) := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 128 + 1 * e.val = e.val; omega

theorem emb4 (t : Fin cfg0.N) (r : Fin 128) (e : Fin 2432) :
    ((cfg0.win 4).blk t).view.emb (ix2 r e) = (ix2 r (colOf t e) : S128x9728.Idx) := by
  obtain ⟨e0, e1⟩ := idx4 t
  funext a; apply Fin.ext
  match a with
  | ⟨0, _⟩ => show win0_4.index t (0 : Fin 2) * 128 + 1 * r.val = r.val; omega
  | ⟨1, _⟩ => show win0_4.index t (1 : Fin 2) * 2432 + 1 * e.val = t.val * 2432 + e.val; omega

theorem emb5 (t : Fin cfg0.N) (r : Fin 128) (e : Fin 128) :
    ((cfg0.win 5).blk t).view.emb (ix2 r e) = (ix2 r e : S128x128.Idx) := by
  obtain ⟨e0, e1⟩ := idx5 t
  funext a; apply Fin.ext
  match a with
  | ⟨0, _⟩ => show win0_5.index t (0 : Fin 2) * 128 + 1 * r.val = r.val; omega
  | ⟨1, _⟩ => show win0_5.index t (1 : Fin 2) * 128 + 1 * e.val = e.val; omega

/-! ## What the blocks hold of the arguments -/

variable (m : (ℓ : Loc nD τ sig) → Buf (Elt Ideal) ℓ) (ρ : Dev nD → PrngReg)

/-- Row `i` of the meta block, the meta tokens being the first argument. -/
def argRow (c : Dev nD) : Fin 128 → Fin 1024 → EReal :=
  metaRow fun j k => m ((c : Thread nD τ).loc main_arg0) (ix2 j k : S16x1024.Idx)

/-- The second argument, the normalisation's scale. -/
def argScale (c : Dev nD) (k : Fin 1024) : EReal := m ((c : Thread nD τ).loc main_arg1) (ix2 0 k : S1x1024.Idx)

/-- The third argument, the weights. -/
def argWeight (c : Dev nD) (k : Fin 1024) (j : Fin 9760) : EReal :=
  m ((c : Thread nD τ).loc main_arg2) (ix3 0 k j : S1x1024x9760.Idx)

theorem rows_host (c : Dev nD) (i : Fin 128) (k : Fin 1024) : V m c main_v15 (ix2 i k) = argRow m c i k := by
  unfold V argRow metaRow
  after_reads_at

theorem scale_host (c : Dev nD) (k : Fin 1024) : V m c main_v17 (ix2 0 k) = argScale m c k := by
  unfold V argScale
  after_reads_at

/-- The host puts the weights' columns in the order of the result's columns. -/
theorem weights_host (c : Dev nD) (k : Fin 1024) (e : Fin 9728) :
    V m c main_v11 (ix2 k e) = packed (argWeight m c k) e := by
  unfold V packed argWeight
  after_reads_at
  iterate 7 refine dite_congr rfl (fun _ => ?_) (fun _ => ?_); after_reads_at
  after_reads_at

/-- The host puts zeros after the step sizes' weights. -/
theorem stepWeights_host (c : Dev nD) (k : Fin 1024) (e : Fin 128) :
    V m c main_v13 (ix2 k e) = padded (argWeight m c k) e := by
  unfold V padded argWeight
  after_reads_at
  split
  · rfl
  · simp [FloatOps.sitofp]

theorem rows_block (c : Dev nD) (t : Fin cfg0.N) (r : Fin 128) (k : Fin 1024) :
    iblk m c 0 t (ix2 r k) = argRow m c r k := by
  show V m c main_v15 (((cfg0.win 0).blk t).view.emb (ix2 r k)) = _
  rw [emb0]
  exact rows_host m c _ k

theorem scale_block (c : Dev nD) (t : Fin cfg0.N) (k : Fin 1024) : iblk m c 1 t (ix2 0 k) = argScale m c k := by
  show V m c main_v17 (((cfg0.win 1).blk t).view.emb (ix2 0 k)) = _
  rw [emb1]
  exact scale_host m c k

theorem weights_block (c : Dev nD) (t : Fin cfg0.N) (k : Fin 1024) (e : Fin 2432) :
    iblk m c 2 t (ix2 k e) = packed (argWeight m c k) (colOf t e) := by
  show V m c main_v11 (((cfg0.win 2).blk t).view.emb (ix2 k e)) = _
  rw [emb2]
  exact weights_host m c k _

theorem stepWeights_block (c : Dev nD) (t : Fin cfg0.N) (k : Fin 1024) (e : Fin 128) :
    iblk m c 3 t (ix2 k e) = padded (argWeight m c k) e := by
  show V m c main_v13 (((cfg0.win 3).blk t).view.emb (ix2 k e)) = _
  rw [emb3]
  exact stepWeights_host m c k e

/-! ## The results -/

/-- The reference's product of the kernel's arguments. -/
def refProj (c : Dev nD) : FVec Ideal Cert.InProjMetaReferenceIdeal.S128x9760 .f32 :=
  InProjMetaRef.proj (InProjMetaRef.rows (InProjMetaRef.block (m ((c : Thread nD τ).loc main_arg0))) (m ((c : Thread nD τ).loc main_arg1)))
    (m ((c : Thread nD τ).loc main_arg2))

/-- The reference's results of the kernel's arguments. -/
def G (c : Dev nD) : S128x9728.Idx → Elt Ideal .bf16 := InProjMetaRef.whole (refProj m c)
def H (c : Dev nD) : S128x128.Idx → Elt Ideal .f32 := InProjMetaRef.steps (refProj m c)

theorem G_at (c : Dev nD) (i : Fin 128) (e : Fin 9728) : G m c (ix2 i e)
    = packed (product (normed (argRow m c i) (argScale m c)) (argWeight m c)) e :=
  InProjMetaRef.proj_res _ _ _ i e

theorem H_at (c : Dev nD) (i : Fin 128) (e : Fin 128) : H m c (ix2 i e)
    = padded (product (normed (argRow m c i) (argScale m c)) (argWeight m c)) e :=
  InProjMetaRef.steps_res _ _ _ i e

/-- The block of the projection a grid point computes, as the reference's result at its rows and columns. -/
theorem proj_block (c : Dev nD) (t : Fin cfg0.N) (r : Fin 128) (e : Fin 2432) :
    projAt (F := Ideal) m c t (ix2 r e) = G m c (ix2 r (colOf t e)) := by
  unfold projAt rowsAt
  rw [InProjMetaBlock.proj_at, G_at, ← packed_product]
  simp only [InProjMetaBlock.rows_at, rows_block, scale_block, weights_block]

/-- The block of step sizes at a grid point, as the reference's result at its rows. -/
theorem steps_block (c : Dev nD) (t : Fin cfg0.N) (r : Fin 128) (e : Fin 128) :
    stepsAt (F := Ideal) m c t (ix2 r e) = H m c (ix2 r e) := by
  unfold stepsAt
  rw [InProjMetaBlock.steps_at, H_at, ← padded_product]
  simp only [rows_block, scale_block, stepWeights_block]

/-- A block equal to the array's rows and columns is the array's block. -/
theorem cut4_eq (t : Fin cfg0.N) (X : S128x2432.Idx → Elt Ideal .bf16) (A : S128x9728.Idx → Elt Ideal .bf16)
    (h : ∀ (r : Fin 128) (e : Fin 2432), X (ix2 r e) = A (ix2 r (colOf t e))) :
    (cfg0.win 4).cut (grid0.coords t) X = ((cfg0.win 4).blk t).view.read (Elt Ideal) A := by
  funext i
  obtain ⟨r, e, rfl⟩ : ∃ (r : Fin 128) (e : Fin 2432), i = (ix2 r e : S128x2432.Idx) :=
    ⟨i (0 : Fin 2), i (1 : Fin 2), funext fun a => by
      match a with
      | ⟨0, _⟩ => rfl
      | ⟨1, _⟩ => rfl⟩
  show X (ix2 r e) = A (((cfg0.win 4).blk t).view.emb (ix2 r e))
  rw [h, emb4]

theorem cut5_eq (t : Fin cfg0.N) (X : S128x128.Idx → Elt Ideal .f32) (A : S128x128.Idx → Elt Ideal .f32)
    (h : ∀ (r : Fin 128) (e : Fin 128), X (ix2 r e) = A (ix2 r e)) :
    (cfg0.win 5).cut (grid0.coords t) X = ((cfg0.win 5).blk t).view.read (Elt Ideal) A := by
  funext i
  obtain ⟨r, e, rfl⟩ : ∃ (r : Fin 128) (e : Fin 128), i = (ix2 r e : S128x128.Idx) :=
    ⟨i (0 : Fin 2), i (1 : Fin 2), funext fun a => by
      match a with
      | ⟨0, _⟩ => rfl
      | ⟨1, _⟩ => rfl⟩
  show X (ix2 r e) = A (((cfg0.win 5).blk t).view.emb (ix2 r e))
  rw [h, emb5]

theorem flushed4_eq (c : Dev nD) (t : Fin cfg0.N) :
    (dats (F := Ideal) m 0 c).flushed 4 t = ((cfg0.win 4).blk t).view.read (Elt Ideal) (G m c) :=
  (congrArg ((cfg0.win 4).cut (grid0.coords t)) (after4 m c t)).trans (cut4_eq t _ _ (proj_block m c t))

theorem flushed5_eq (c : Dev nD) (t : Fin cfg0.N) :
    (dats (F := Ideal) m 0 c).flushed 5 t = ((cfg0.win 5).blk t).view.read (Elt Ideal) (H m c) :=
  (congrArg ((cfg0.win 5).cut (grid0.coords t)) (after5 m c t)).trans (cut5_eq t _ _ (steps_block m c t))

/-- Every index of the projection is in some point's block. -/
theorem covered4 (i : S128x9728.Idx) :
    ∃ t : Fin cfg0.N, (cfg0.win 4).flush t = true ∧ i ∈ ((cfg0.win 4).blk t).view.set := by
  have h1 : (i 1).val < 9728 := (i 1).isLt
  refine ⟨⟨(i 1).val / 2432, by rw [show cfg0.N = 4 from N_0]; omega⟩, flush0_4 _, ?_⟩
  generalize ht : (⟨(i 1).val / 2432, _⟩ : Fin cfg0.N) = t
  have hv : t.val = (i 1).val / 2432 := by rw [← ht]
  have h := ((cfg0.win 4).blk t).view.emb_mem_set (ix2 (i 0) ⟨(i 1).val % 2432, by omega⟩)
  refine (?_ : i = _) ▸ h
  refine Eq.trans ?_ (emb4 t (i 0) ⟨(i 1).val % 2432, by omega⟩).symm
  funext a; apply Fin.ext
  match a with
  | ⟨0, _⟩ => rfl
  | ⟨1, _⟩ => show (i 1).val = t.val * 2432 + (i 1).val % 2432; omega

/-- Every index of the step sizes is in the block of the last point. -/
theorem covered5 (i : S128x128.Idx) :
    ∃ t : Fin cfg0.N, (cfg0.win 5).flush t = true ∧ i ∈ ((cfg0.win 5).blk t).view.set := by
  refine ⟨⟨3, by rw [show cfg0.N = 4 from N_0]; omega⟩, (flush0_5 _).mpr rfl, ?_⟩
  generalize (⟨3, _⟩ : Fin cfg0.N) = t
  have h := ((cfg0.win 5).blk t).view.emb_mem_set (ix2 (i 0) (i 1))
  refine (?_ : i = _) ▸ h
  refine Eq.trans ?_ (emb5 t (i 0) (i 1)).symm
  funext a; apply Fin.ext
  match a with
  | ⟨0, _⟩ => rfl
  | ⟨1, _⟩ => rfl

/-- The result arrays after the run. -/
theorem final4 (c : Dev nD) : (dats (F := Ideal) m 0 c).arrAt 4 cfg0.N = G m c :=
  (dats m 0 c).arrAt_eq_of_cover 4 (G m c) (fun t _ => flushed4_eq m c t) covered4
theorem final5 (c : Dev nD) : (dats (F := Ideal) m 0 c).arrAt 5 cfg0.N = H m c :=
  (dats m 0 c).arrAt_eq_of_cover 5 (H m c) (fun t _ => flushed5_eq m c t) covered5

/-! ## The claims -/

theorem frame : Cert.quiescent_InProjMeta := fun m ρ _ => InProjMetaRun.frame m ρ
theorem frame_ideal : Cert.quiescent_InProjMetaIdeal := fun m ρ _ => InProjMetaIdealRun.frame m ρ

/-- The reference's frame: its run read at the arguments; it declares no semaphore. -/
theorem frame_ref : Cert.quiescent_InProjMetaReferenceIdeal := fun m ρ _ =>
  (θ_run Cert.InProjMetaReferenceIdeal.defs _ _).mono
    (fun r h => ⟨fun c => (h c).2.2, sem_eq_zero_of_no_sems (by decide) r.2⟩)
    (Cert.InProjMetaReferenceIdeal.Value.run (F := Ideal) m ρ)

/-- The kernel's results are the reference's. -/
theorem algebraic : Cert.algebraic_InProjMetaIdeal_InProjMetaReferenceIdeal := by
  intro m ρ m' ρ' _ hagree
  have e (c : Dev nD) : InProjMetaRef.proj (InProjMetaRef.rows (InProjMetaRef.block
        (m' ((c.tc : Thread Cert.InProjMetaReferenceIdeal.nD Cert.InProjMetaReferenceIdeal.τ).loc Cert.InProjMetaReferenceIdeal.main_arg0)))
        (m' ((c.tc : Thread Cert.InProjMetaReferenceIdeal.nD Cert.InProjMetaReferenceIdeal.τ).loc Cert.InProjMetaReferenceIdeal.main_arg1)))
        (m' ((c.tc : Thread Cert.InProjMetaReferenceIdeal.nD Cert.InProjMetaReferenceIdeal.τ).loc Cert.InProjMetaReferenceIdeal.main_arg2))
      = refProj m c := by
    unfold refProj
    obtain ⟨h0, h1, h2⟩ := hagree c
    rw [h0, h1, h2]
  refine ⟨fun c => G m c, fun c => H m c, ?_, ?_⟩
  · exact (θ_run defs _ _).mono (fun r h c =>
      ⟨((h.1 c).1 4).trans (final4 m c), ((h.1 c).1 5).trans (final5 m c),
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩)
      (InProjMetaIdealRun.run (F := Ideal) m ρ)
  · exact (θ_run Cert.InProjMetaReferenceIdeal.defs _ _).mono (fun r h c =>
      ⟨((h c).1.trans (InProjMetaRef.res_eq m' c)).trans (congrArg InProjMetaRef.whole (e c)),
        (h c).2.1.trans (congrArg InProjMetaRef.steps (e c)), (h c).2.2⟩)
      (Cert.InProjMetaReferenceIdeal.Value.run (F := Ideal) m' ρ')

end Cert.Proof.InProjMetaClaims

end
-- ==== Proof.MergeBlock.lean ====
/- The last call, row by row: gates times the two projected branches, their sum projected, normalised and added to the
   residual. What a block of 512 rows of the kernel computes is that, of each of its rows. -/
module

public import proofs.«01_k».proof.Proof.Gen.MergeOutIdeal.Value
public import Idealize.ShloMosaic.Lib.Pointwise

@[expose] public section

set_option maxRecDepth 16384

noncomputable section

namespace Cert.Proof.Merge

open Idealize.ShloMosaic

/-! ## The mathematics of a row -/

/-- The logistic function. -/
def gate (x : EReal) : EReal := Ideal.div 1 (1 + Ideal.exp (-x))

/-- Channel `c` of the gated sum of the two branches: `a`, `s` the branches' rows, `g` the gates' row. -/
def mixed (a : Fin 1024 → EReal) (s g : Fin 2048 → EReal) (wa : Fin 1024 → Fin 1024 → EReal)
    (ws : Fin 2048 → Fin 1024 → EReal) (c : Fin 1024) : EReal :=
  gate (g ⟨c.val, by omega⟩) * (∑ k, a k * wa k c) + gate (g ⟨1024 + c.val, by omega⟩) * (∑ k, s k * ws k c)

/-- Channel `e` of a row's projection. -/
def projected (x : Fin 1024 → EReal) (w : Fin 1024 → Fin 1024 → EReal) (e : Fin 1024) : EReal := ∑ c, x c * w c e

/-- Channel `e` of the residual `x` plus the normalised row `o` times `g`. -/
def normed (x o g : Fin 1024 → EReal) (e : Fin 1024) : EReal :=
  x e + o e * Ideal.rsqrt (Ideal.div (∑ k, o k * o k) (Ideal.ofBits .f32 0x44800000#32) + Ideal.ofBits .f32 0x358637BD#32) * g e

end Cert.Proof.Merge

namespace Cert.Proof.MergeBlock

open Cert.MergeOutIdeal Cert.MergeOutIdeal.Gen Idealize.ShloMosaic Idealize.ShloMosaic.TcCoe Idealize.SL.Sem
open Cert.Proof.Merge

variable {F : FTy → Type} [FloatOps F]

/-! ## The kernel's block, in steps -/

/-- The gates. -/
def gates (x2 : Vec F S512x2048 .bf16) : FVec F S512x2048 .f32 :=
  divf (broadcast S512x2048 (Scalar.ofBits .f32 0x3F800000#32)) (addf (broadcast S512x2048 (Scalar.ofBits .f32 0x3F800000#32))
    (exp (subf (broadcast S512x2048 (Scalar.ofBits .f32 0x00000000#32)) (extf .f32 x2 bitsLt_bf16_f32))))

/-- The gated sum of the two projected branches. -/
def merged (x0 : Vec F S512x1024 .bf16) (x1 x2 : Vec F S512x2048 .bf16) (x4 : Vec F S1024x1024 .bf16)
    (x5 : Vec F S2048x1024 .bf16) : FVec F S512x1024 .f32 :=
  addf
    (mulf (extractStridedSlice S512x1024 ![0, 0] (gates x2) slices_S512x2048_o0_0_S512x1024)
      (matmul dot_S512x1024_S1024x1024_S512x1024_1_0_0_1_n_n none
        (shapeCast S512x1024 x0 shapeCasts_S512x1024_S512x1024) (shapeCast S1024x1024 x4 shapeCasts_S1024x1024_S1024x1024)
        (constant S512x1024 .f32 0x00000000#32)))
    (mulf (extractStridedSlice S512x1024 ![0, 1024] (gates x2) slices_S512x2048_o0_1024_S512x1024)
      (matmul dot_S512x2048_S2048x1024_S512x1024_1_0_0_1_n_n none
        (shapeCast S512x2048 x1 shapeCasts_S512x2048_S512x2048) (shapeCast S2048x1024 x5 shapeCasts_S2048x1024_S2048x1024)
        (constant S512x1024 .f32 0x00000000#32)))

/-- The sum's projection. -/
def outBlk (y : FVec F S512x1024 .f32) (x6 : Vec F S1024x1024 .bf16) : FVec F S512x1024 .f32 :=
  matmul dot_S512x1024_S1024x1024_S512x1024_1_0_0_1_n_n none (truncf .bf16 y bitsLt_bf16_f32)
    (shapeCast S1024x1024 x6 shapeCasts_S1024x1024_S1024x1024) (constant S512x1024 .f32 0x00000000#32)

/-- The residual plus the normalised rows. -/
def normBlk (o : FVec F S512x1024 .f32) (x3 : Vec F S512x1024 .f32) (x7 : Vec F S1x1024 .f32) : FVec F S512x1024 .f32 :=
  addf (shapeCast S512x1024 x3 shapeCasts_S512x1024_S512x1024)
    (mulf (mulf o (broadcastTo S512x1024
        (rsqrt (addf (divf (shapeCast S512x1 (multiReduction .add [1] S512 (mulf o o) 0x00000000#32
          reduces_S512x1024_S512 (.inl rfl) rfl) shapeCasts_S512_S512x1) (broadcast S512x1 (Scalar.ofBits .f32 0x44800000#32)))
          (broadcast S512x1 (Scalar.ofBits .f32 0x358637BD#32)))) broadcasts_S512x1_S512x1024))
      (broadcastTo S512x1024 (shapeCast S1x1024 x7 shapeCasts_S1x1024_S1x1024) broadcasts_S1x1024_S512x1024))

/-- The whole block. -/
def blockOut (x0 : Vec F S512x1024 .bf16) (x1 x2 : Vec F S512x2048 .bf16) (x3 : Vec F S512x1024 .f32)
    (x4 : Vec F S1024x1024 .bf16) (x5 : Vec F S2048x1024 .bf16) (x6 : Vec F S1024x1024 .bf16) (x7 : Vec F S1x1024 .f32) :
    FVec F S512x1024 .f32 :=
  normBlk (outBlk (merged x0 x1 x2 x4 x5) x6) x3 x7

theorem hz : (![0, 0] : Fin 2 → Nat) = fun _ => 0 := funext fun a => by fin_cases a <;> rfl

set_option maxRecDepth 65536 in
set_option maxHeartbeats 4000000 in
/-- What the body leaves in the result's block. -/
theorem out_eq (c : Dev nD) (i : grid0.Coords)
    (arg1 : Memref sig .tc .vmem S512x1024 .bf16) (h1 : arg1.IsWhole)
    (arg2 : Memref sig .tc .vmem S512x2048 .bf16) (h2 : arg2.IsWhole)
    (arg3 : Memref sig .tc .vmem S512x2048 .bf16) (h3 : arg3.IsWhole)
    (arg4 : Memref sig .tc .vmem S512x1024 .f32) (h4 : arg4.IsWhole)
    (arg5 : Memref sig .tc .vmem S1024x1024 .bf16) (h5 : arg5.IsWhole)
    (arg6 : Memref sig .tc .vmem S2048x1024 .bf16) (h6 : arg6.IsWhole)
    (arg7 : Memref sig .tc .vmem S1024x1024 .bf16) (h7 : arg7.IsWhole)
    (arg8 : Memref sig .tc .vmem S1x1024 .f32) (h8 : arg8.IsWhole)
    (arg9 : Memref sig .tc .vmem S512x1024 .f32) (h9 : arg9.IsWhole)
    (x0 : Vec F S512x1024 .bf16) (x1 x2 : Vec F S512x2048 .bf16) (x3 : Vec F S512x1024 .f32)
    (x4 : Vec F S1024x1024 .bf16) (x5 : Vec F S2048x1024 .bf16) (x6 : Vec F S1024x1024 .bf16) (x7 : Vec F S1x1024 .f32) :
    out0_A_8 c i arg1 h1 arg2 h2 arg3 h3 arg4 h4 arg5 h5 arg6 h6 arg7 h7 arg8 h8 arg9 h9 x0 x1 x2 x3 x4 x5 x6 x7
      = blockOut x0 x1 x2 x3 x4 x5 x6 x7 := by
  unfold out0_A_8
  rw [View.read_writes_junk_eq_canon]
  refine Eq.trans (b := View.canon ([⟨Rect.unit ![0, 0] S512x1024.size inb_S512x1024_S512x1024_0_0,
      blockOut
        (View.readAt (Elt F) arg1.view (Rect.unit ![0, 0] S512x1024.size inb_S512x1024_S512x1024_0_0).toLoadRect (h1.unread x0))
        (View.readAt (Elt F) arg2.view (Rect.unit ![0, 0] S512x2048.size inb_S512x2048_S512x2048_0_0).toLoadRect (h2.unread x1))
        (View.readAt (Elt F) arg3.view (Rect.unit ![0, 0] S512x2048.size inb_S512x2048_S512x2048_0_0).toLoadRect (h3.unread x2))
        (View.readAt (Elt F) arg4.view (Rect.unit ![0, 0] S512x1024.size inb_S512x1024_S512x1024_0_0).toLoadRect (h4.unread x3))
        (View.readAt (Elt F) arg5.view (Rect.unit ![0, 0] S1024x1024.size inb_S1024x1024_S1024x1024_0_0).toLoadRect
          (h5.unread x4))
        (View.readAt (Elt F) arg6.view (Rect.unit ![0, 0] S2048x1024.size inb_S2048x1024_S2048x1024_0_0).toLoadRect
          (h6.unread x5))
        (View.readAt (Elt F) arg7.view (Rect.unit ![0, 0] S1024x1024.size inb_S1024x1024_S1024x1024_0_0).toLoadRect
          (h7.unread x6))
        (View.readAt (Elt F) arg8.view (Rect.unit ![0, 0] S1x1024.size inb_S1x1024_S1x1024_0_0).toLoadRect (h8.unread x7))
      ⟩] : List (View.Piece (Elt F) S512x1024 .f32))) ?_ ?_
  · rfl
  · rw [View.canon_unit_zero hz]
    simp only [View.readAt_eq_ld arg1.view, View.readAt_eq_ld arg2.view, View.readAt_eq_ld arg3.view,
      View.readAt_eq_ld arg4.view, View.readAt_eq_ld arg5.view, View.readAt_eq_ld arg6.view, View.readAt_eq_ld arg7.view,
      View.readAt_eq_ld arg8.view, h1.read_unread, h2.read_unread, h3.read_unread, h4.read_unread, h5.read_unread,
      h6.read_unread, h7.read_unread, h8.read_unread]
    congr 1
    all_goals exact View.ld_unit_zero hz _ _

/-! ## The steps read at an index -/

theorem gates_at (x : Vec Ideal S512x2048 .bf16) (r : Fin 512) (c : Fin 2048) :
    gates (F := Ideal) x (ix2 r c) = gate (x (ix2 r c)) := by
  unfold gate
  pointwise [gates]
  rw [zero_sub]

theorem merged_at (x0 : Vec Ideal S512x1024 .bf16) (x1 x2 : Vec Ideal S512x2048 .bf16) (x4 : Vec Ideal S1024x1024 .bf16)
    (x5 : Vec Ideal S2048x1024 .bf16) (r : Fin 512) (c : Fin 1024) :
    merged (F := Ideal) x0 x1 x2 x4 x5 (ix2 r c)
      = mixed (fun k => x0 (ix2 r k)) (fun k => x1 (ix2 r k)) (fun k => x2 (ix2 r k)) (fun k e => x4 (ix2 k e))
          (fun k e => x5 (ix2 k e)) c := by
  unfold mixed
  rw [← gates_at, ← gates_at]
  unfold merged
  generalize gates x2 = y
  pointwise []

theorem outBlk_at (y : FVec Ideal S512x1024 .f32) (x6 : Vec Ideal S1024x1024 .bf16) (r : Fin 512) (e : Fin 1024) :
    outBlk (F := Ideal) y x6 (ix2 r e) = projected (fun c => y (ix2 r c)) (fun c e => x6 (ix2 c e)) e := by
  unfold projected
  pointwise [outBlk]

theorem normBlk_at (o : FVec Ideal S512x1024 .f32) (x3 : Vec Ideal S512x1024 .f32) (x7 : Vec Ideal S1x1024 .f32)
    (r : Fin 512) (e : Fin 1024) : normBlk (F := Ideal) o x3 x7 (ix2 r e)
      = normed (fun k => x3 (ix2 r k)) (fun k => o (ix2 r k)) (fun k => x7 (ix2 0 k)) e := by
  unfold normed
  pointwise [normBlk]

/-- A row of the block. -/
theorem block_at (x0 : Vec Ideal S512x1024 .bf16) (x1 x2 : Vec Ideal S512x2048 .bf16) (x3 : Vec Ideal S512x1024 .f32)
    (x4 : Vec Ideal S1024x1024 .bf16) (x5 : Vec Ideal S2048x1024 .bf16) (x6 : Vec Ideal S1024x1024 .bf16)
    (x7 : Vec Ideal S1x1024 .f32) (r : Fin 512) (e : Fin 1024) :
    blockOut (F := Ideal) x0 x1 x2 x3 x4 x5 x6 x7 (ix2 r e)
      = normed (fun k => x3 (ix2 r k))
          (projected (mixed (fun k => x0 (ix2 r k)) (fun k => x1 (ix2 r k)) (fun k => x2 (ix2 r k))
            (fun k e => x4 (ix2 k e)) (fun k e => x5 (ix2 k e))) (fun c e => x6 (ix2 c e)))
          (fun k => x7 (ix2 0 k)) e := by
  unfold blockOut
  simp only [normBlk_at, outBlk_at, merged_at]

end Cert.Proof.MergeBlock

end
-- ==== Proof.MergeRef.lean ====
/- The reference of the last call, cut into its steps and read at an index. -/
module

public import proofs.«01_k».proof.Proof.Gen.MergeOutReferenceIdeal.Run
public import proofs.«01_k».proof.Proof.MergeBlock

@[expose] public section

set_option maxRecDepth 16384

noncomputable section

namespace Cert.Proof.MergeRef

open Cert.MergeOutReferenceIdeal Cert.MergeOutReferenceIdeal.Gen Cert.MergeOutReferenceIdeal.Value
open Idealize.ShloMosaic Idealize.ShloMosaic.TcCoe Idealize.SL.Sem Cert.Proof.Merge

/-- The logistic function, of every number of an array. -/
def sigmoid (x : FVec Ideal S16384x1024 .f32) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf x)))

/-- The gated sum of the two projected branches. -/
def merged (a0 : FVec Ideal S8x2048x1024 .bf16) (a1 : FVec Ideal S8x2048x2048 .bf16) (a2 : FVec Ideal S16384x9728 .bf16)
    (a4 : FVec Ideal S1x1024x1024 .f32) (a5 : FVec Ideal S1x2048x1024 .f32) : FVec Ideal S16384x1024 .f32 :=
  addf
    (mulf (sigmoid (extf .f32 (extractStridedSlice S16384x1024 ![0, 4096] a2 slices_S16384x9728_S16384x1024_0_4096)
        bitsLt_bf16_f32))
      (Host.dotGeneral dot_S16384x1024_S1024x1024_S16384x1024_1_0_0_1_n_n none
        (extf .f32 (shapeCast S16384x1024 a0 shapeCasts_S8x2048x1024_S16384x1024) bitsLt_bf16_f32)
        (shapeCast S1024x1024 a4 shapeCasts_S1x1024x1024_S1024x1024)))
    (mulf (sigmoid (extf .f32 (extractStridedSlice S16384x1024 ![0, 5120] a2 slices_S16384x9728_S16384x1024_0_5120)
        bitsLt_bf16_f32))
      (Host.dotGeneral dot_S16384x2048_S2048x1024_S16384x1024_1_0_0_1_n_n none
        (extf .f32 (shapeCast S16384x2048 a1 shapeCasts_S8x2048x2048_S16384x2048) bitsLt_bf16_f32)
        (shapeCast S2048x1024 a5 shapeCasts_S1x2048x1024_S2048x1024)))

/-- The sum's projection. -/
def out (y : FVec Ideal S16384x1024 .f32) (a6 : FVec Ideal S1x1024x1024 .f32) : FVec Ideal S16384x1024 .f32 :=
  Host.dotGeneral dot_S16384x1024_S1024x1024_S16384x1024_1_0_0_1_n_n none y
    (shapeCast S1024x1024 a6 shapeCasts_S1x1024x1024_S1024x1024)

/-- The residual plus the normalised rows. -/
def whole (o : FVec Ideal S16384x1024 .f32) (a3 : FVec Ideal S8x2048x1024 .f32) (a7 : FVec Ideal S1x1024 .f32) :
    FVec Ideal S16384x1024 .f32 :=
  addf (shapeCast S16384x1024 a3 shapeCasts_S8x2048x1024_S16384x1024)
    (mulf (mulf o (broadcastInDim S16384x1024 ![0, 1] bcast_S16384x1_S16384x1024_0_1
        (Host.rsqrt (addf (Host.divf (broadcastInDim S16384x1 ![0] bcast_S16384_S16384x1_0
          (Host.reduceAdd (mulf o o) (constant S_ .f32 0x00000000#32) reducesTo_S16384x1024_S16384_d1 h_S_))
          (broadcastInDim S16384x1 ![] bcast_S_S16384x1 (constant S_ .f32 0x44800000#32)))
          (broadcastInDim S16384x1 ![] bcast_S_S16384x1 (constant S_ .f32 0x358637BD#32))))))
      (broadcastInDim S16384x1024 ![0, 1] bcast_S1x1024_S16384x1024_0_1
        (broadcastInDim S1x1024 ![1] bcast_S1024_S1x1024_1 (shapeCast S1024 a7 shapeCasts_S1x1024_S1024))))

variable (m : (ℓ : Loc nD τ sig) → Buf (Elt Ideal) ℓ) (c : Dev nD)

/-- The reference's result is these steps one after another. -/
theorem res_eq : res_main_v44 m c = whole
    (out (merged (m ((c.tc : Thread nD τ).loc main_arg0)) (m ((c.tc : Thread nD τ).loc main_arg1))
      (m ((c.tc : Thread nD τ).loc main_arg2)) (m ((c.tc : Thread nD τ).loc main_arg4))
      (m ((c.tc : Thread nD τ).loc main_arg5))) (m ((c.tc : Thread nD τ).loc main_arg6)))
    (m ((c.tc : Thread nD τ).loc main_arg3)) (m ((c.tc : Thread nD τ).loc main_arg7)) := rfl

/-! ## The steps read at an index: row `i` is row `i % 2048` of sequence `i / 2048` -/

theorem sigmoid_at (x : FVec Ideal S16384x1024 .f32) (i : Fin 16384) (c : Fin 1024) :
    sigmoid x (ix2 i c) = gate (x (ix2 i c)) := by
  unfold gate
  pointwise [sigmoid]

theorem attGate_at (a2 : FVec Ideal S16384x9728 .bf16) (i : Fin 16384) (c : Fin 1024) :
    (extf .f32 (extractStridedSlice S16384x1024 ![0, 4096] a2 slices_S16384x9728_S16384x1024_0_4096) bitsLt_bf16_f32 :
      FVec Ideal S16384x1024 .f32) (ix2 i c) = a2 (ix2 i ⟨4096 + c.val, by omega⟩) := by
  pointwise []

theorem ssmGate_at (a2 : FVec Ideal S16384x9728 .bf16) (i : Fin 16384) (c : Fin 1024) :
    (extf .f32 (extractStridedSlice S16384x1024 ![0, 5120] a2 slices_S16384x9728_S16384x1024_0_5120) bitsLt_bf16_f32 :
      FVec Ideal S16384x1024 .f32) (ix2 i c) = a2 (ix2 i ⟨4096 + (1024 + c.val), by omega⟩) := by
  have e : 4096 + (1024 + c.val) = 5120 + c.val := by omega
  simp only [e]
  pointwise []

theorem sum_at (y z : FVec Ideal S16384x1024 .f32) (a0 : FVec Ideal S8x2048x1024 .bf16)
    (a1 : FVec Ideal S8x2048x2048 .bf16) (a4 : FVec Ideal S1x1024x1024 .f32) (a5 : FVec Ideal S1x2048x1024 .f32)
    (i : Fin 16384) (c : Fin 1024) :
    (addf
      (mulf y (Host.dotGeneral dot_S16384x1024_S1024x1024_S16384x1024_1_0_0_1_n_n none
        (extf .f32 (shapeCast S16384x1024 a0 shapeCasts_S8x2048x1024_S16384x1024) bitsLt_bf16_f32)
        (shapeCast S1024x1024 a4 shapeCasts_S1x1024x1024_S1024x1024)))
      (mulf z (Host.dotGeneral dot_S16384x2048_S2048x1024_S16384x1024_1_0_0_1_n_n none
        (extf .f32 (shapeCast S16384x2048 a1 shapeCasts_S8x2048x2048_S16384x2048) bitsLt_bf16_f32)
        (shapeCast S2048x1024 a5 shapeCasts_S1x2048x1024_S2048x1024))) : FVec Ideal S16384x1024 .f32) (ix2 i c)
      = y (ix2 i c) * (∑ k : Fin 1024, a0 (ix3 ⟨i.val / 2048, by omega⟩ ⟨i.val % 2048, by omega⟩ k) * a4 (ix3 0 k c) : EReal)
        + z (ix2 i c)
          * (∑ k : Fin 2048, a1 (ix3 ⟨i.val / 2048, by omega⟩ ⟨i.val % 2048, by omega⟩ k) * a5 (ix3 0 k c) : EReal) := by
  pointwise []

theorem merged_at (a0 : FVec Ideal S8x2048x1024 .bf16) (a1 : FVec Ideal S8x2048x2048 .bf16)
    (a2 : FVec Ideal S16384x9728 .bf16) (a4 : FVec Ideal S1x1024x1024 .f32) (a5 : FVec Ideal S1x2048x1024 .f32)
    (i : Fin 16384) (c : Fin 1024) : merged a0 a1 a2 a4 a5 (ix2 i c)
      = mixed (fun k => a0 (ix3 ⟨i.val / 2048, by omega⟩ ⟨i.val % 2048, by omega⟩ k))
          (fun k => a1 (ix3 ⟨i.val / 2048, by omega⟩ ⟨i.val % 2048, by omega⟩ k))
          (fun k => a2 (ix2 i ⟨4096 + k.val, by omega⟩)) (fun k e => a4 (ix3 0 k e)) (fun k e => a5 (ix3 0 k e)) c := by
  unfold merged
  rw [sum_at, sigmoid_at, sigmoid_at, attGate_at, ssmGate_at]
  rfl

theorem out_at (y : FVec Ideal S16384x1024 .f32) (a6 : FVec Ideal S1x1024x1024 .f32) (i : Fin 16384) (e : Fin 1024) :
    out y a6 (ix2 i e) = projected (fun c => y (ix2 i c)) (fun c e => a6 (ix3 0 c e)) e := by
  unfold projected
  pointwise [out]

theorem whole_at (o : FVec Ideal S16384x1024 .f32) (a3 : FVec Ideal S8x2048x1024 .f32) (a7 : FVec Ideal S1x1024 .f32)
    (i : Fin 16384) (e : Fin 1024) : whole o a3 a7 (ix2 i e)
      = normed (fun k => a3 (ix3 ⟨i.val / 2048, by omega⟩ ⟨i.val % 2048, by omega⟩ k)) (fun k => o (ix2 i k))
          (fun k => a7 (ix2 0 k)) e := by
  unfold normed
  pointwise [whole]

/-- A row of the result. -/
theorem res_at (a0 : FVec Ideal S8x2048x1024 .bf16) (a1 : FVec Ideal S8x2048x2048 .bf16)
    (a2 : FVec Ideal S16384x9728 .bf16) (a3 : FVec Ideal S8x2048x1024 .f32) (a4 : FVec Ideal S1x1024x1024 .f32)
    (a5 : FVec Ideal S1x2048x1024 .f32) (a6 : FVec Ideal S1x1024x1024 .f32) (a7 : FVec Ideal S1x1024 .f32)
    (i : Fin 16384) (e : Fin 1024) : whole (out (merged a0 a1 a2 a4 a5) a6) a3 a7 (ix2 i e)
      = normed (fun k => a3 (ix3 ⟨i.val / 2048, by omega⟩ ⟨i.val % 2048, by omega⟩ k))
          (projected (mixed (fun k => a0 (ix3 ⟨i.val / 2048, by omega⟩ ⟨i.val % 2048, by omega⟩ k))
            (fun k => a1 (ix3 ⟨i.val / 2048, by omega⟩ ⟨i.val % 2048, by omega⟩ k))
            (fun k => a2 (ix2 i ⟨4096 + k.val, by omega⟩)) (fun k e => a4 (ix3 0 k e)) (fun k e => a5 (ix3 0 k e)))
            (fun c e => a6 (ix3 0 c e)))
          (fun k => a7 (ix2 0 k)) e := by
  simp only [whole_at, out_at, merged_at]

end Cert.Proof.MergeRef

end
-- ==== Proof.MergeRun.lean ====
/- The last call: its result array after the run is the reference's result of the same arguments; its claims. -/
module

public import proofs.«01_k».proof.Proof.MergeRef
public import proofs.«01_k».proof.Proof.Gen.MergeOut.Frame
public import proofs.«01_k».proof.Proof.Gen.MergeOutIdeal.Frame
public import proofs.«01_k».proof.Defs
public import Idealize.ShloMosaic.Lib.StableHlo.ReadAt

@[expose] public section

set_option maxRecDepth 16384

noncomputable section

namespace Cert.Proof.MergeRun

open Cert.MergeOutIdeal Cert.MergeOutIdeal.Gen Cert.MergeOutIdeal.Value Idealize.ShloMosaic Idealize.ShloMosaic.TcCoe
open Idealize.SL.Sem Cert.Proof.Merge

/-! ## The windows' blocks: grid point `t` has rows `512 * t` to `512 * t + 511` -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 2 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

theorem lt_N (t : Fin cfg0.N) : t.val < 32 := N_0 ▸ t.isLt

/-- Row `r` of grid point `t`. -/
def rowOf (t : Fin cfg0.N) (r : Fin 512) : Fin 16384 := ⟨t.val * 512 + r.val, by have := lt_N t; omega⟩

theorem emb0 (t : Fin cfg0.N) (r : Fin 512) (e : Fin 1024) :
    ((cfg0.win 0).blk t).view.emb (ix2 r e) = (ix2 (rowOf t r) e : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * e.val = e.val; omega

theorem emb1 (t : Fin cfg0.N) (r : Fin 512) (e : Fin 2048) :
    ((cfg0.win 1).blk t).view.emb (ix2 r e) = (ix2 (rowOf t r) e : S16384x2048.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 2048 + 1 * e.val = e.val; omega

theorem emb2 (t : Fin cfg0.N) (r : Fin 512) (e : Fin 2048) (y : ((cfg0.win 2).xblock (grid0.coords t)).Idx)
    (y0 : (y (0 : Fin 2)).val = r.val) (y1 : (y (1 : Fin 2)).val = e.val) :
    ((cfg0.win 2).blk t).view.emb y = (ix2 (rowOf t r) ⟨4096 + e.val, by omega⟩ : S16384x9728.Idx) := by
  obtain ⟨e0, e1⟩ := idx2 t
  funext a; apply Fin.ext
  match a with
  | ⟨0, _⟩ => show win0_2.index t (0 : Fin 2) * 512 + 1 * (y (0 : Fin 2)).val = t.val * 512 + r.val; omega
  | ⟨1, _⟩ => show win0_2.index t (1 : Fin 2) * 2048 + 1 * (y (1 : Fin 2)).val = 4096 + e.val; omega

theorem emb3 (t : Fin cfg0.N) (r : Fin 512) (e : Fin 1024) :
    ((cfg0.win 3).blk t).view.emb (ix2 r e) = (ix2 (rowOf t r) e : S16384x1024.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * e.val = e.val; omega

theorem emb8 (t : Fin cfg0.N) (r : Fin 512) (e : Fin 1024) :
    ((cfg0.win 8).blk t).view.emb (ix2 r e) = (ix2 (rowOf t r) e : S16384x1024.Idx) := by
  obtain ⟨e0, e1⟩ := idx8 t
  funext a; apply Fin.ext
  match a with
  | ⟨0, _⟩ => show win0_8.index t (0 : Fin 2) * 512 + 1 * r.val = t.val * 512 + r.val; omega
  | ⟨1, _⟩ => show win0_8.index t (1 : Fin 2) * 1024 + 1 * e.val = e.val; omega

theorem emb4 (t : Fin cfg0.N) (k e : Fin 1024) :
    ((cfg0.win 4).blk t).view.emb (ix2 k e) = (ix2 k e : S1024x1024.Idx) := by
  obtain ⟨e0, e1⟩ := idx4 t
  funext a; apply Fin.ext
  match a with
  | ⟨0, _⟩ => show win0_4.index t (0 : Fin 2) * 1024 + 1 * k.val = k.val; omega
  | ⟨1, _⟩ => show win0_4.index t (1 : Fin 2) * 1024 + 1 * e.val = e.val; omega

theorem emb5 (t : Fin cfg0.N) (k : Fin 2048) (e : Fin 1024) :
    ((cfg0.win 5).blk t).view.emb (ix2 k e) = (ix2 k e : S2048x1024.Idx) := by
  obtain ⟨e0, e1⟩ := idx5 t
  funext a; apply Fin.ext
  match a with
  | ⟨0, _⟩ => show win0_5.index t (0 : Fin 2) * 2048 + 1 * k.val = k.val; omega
  | ⟨1, _⟩ => show win0_5.index t (1 : Fin 2) * 1024 + 1 * e.val = e.val; omega

theorem emb6 (t : Fin cfg0.N) (k e : Fin 1024) :
    ((cfg0.win 6).blk t).view.emb (ix2 k e) = (ix2 k e : S1024x1024.Idx) := by
  obtain ⟨e0, e1⟩ := idx6 t
  funext a; apply Fin.ext
  match a with
  | ⟨0, _⟩ => show win0_6.index t (0 : Fin 2) * 1024 + 1 * k.val = k.val; omega
  | ⟨1, _⟩ => show win0_6.index t (1 : Fin 2) * 1024 + 1 * e.val = e.val; omega

theorem emb7 (t : Fin cfg0.N) (e : Fin 1024) :
    ((cfg0.win 7).blk t).view.emb (ix2 0 e) = (ix2 0 e : S1x1024.Idx) := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 1024 + 1 * e.val = e.val; omega

/-! ## What the blocks hold of the arguments -/

variable (m : (ℓ : Loc nD τ sig) → Buf (Elt Ideal) ℓ) (ρ : Dev nD → PrngReg)

theorem attRows (c : Dev nD) (i : Fin 16384) (k : Fin 1024) : V m c main_v0 (ix2 i k)
    = m ((c : Thread nD τ).loc main_arg0) (ix3 ⟨i.val / 2048, by omega⟩ ⟨i.val % 2048, by omega⟩ k : S8x2048x1024.Idx) := by
  unfold V
  after_reads_at

theorem attRow (c : Dev nD) (t : Fin cfg0.N) (r : Fin 512) (k : Fin 1024) : iblk m c 0 t (ix2 r k)
    = m ((c : Thread nD τ).loc main_arg0)
        (ix3 ⟨(rowOf t r).val / 2048, by omega⟩ ⟨(rowOf t r).val % 2048, by omega⟩ k : S8x2048x1024.Idx) := by
  show V m c main_v0 (((cfg0.win 0).blk t).view.emb (ix2 r k)) = _
  rw [emb0]
  exact attRows m c _ k

theorem ssmRows (c : Dev nD) (i : Fin 16384) (k : Fin 2048) : V m c main_v1 (ix2 i k)
    = m ((c : Thread nD τ).loc main_arg1) (ix3 ⟨i.val / 2048, by omega⟩ ⟨i.val % 2048, by omega⟩ k : S8x2048x2048.Idx) := by
  unfold V
  after_reads_at

theorem ssmRow (c : Dev nD) (t : Fin cfg0.N) (r : Fin 512) (k : Fin 2048) : iblk m c 1 t (ix2 r k)
    = m ((c : Thread nD τ).loc main_arg1)
        (ix3 ⟨(rowOf t r).val / 2048, by omega⟩ ⟨(rowOf t r).val % 2048, by omega⟩ k : S8x2048x2048.Idx) := by
  show V m c main_v1 (((cfg0.win 1).blk t).view.emb (ix2 r k)) = _
  rw [emb1]
  exact ssmRows m c _ k

theorem gateRow (c : Dev nD) (t : Fin cfg0.N) (r : Fin 512) (k : Fin 2048) : X0_2 m c t (ix2 r k)
    = m ((c : Thread nD τ).loc main_arg2) (ix2 (rowOf t r) ⟨4096 + k.val, by omega⟩ : S16384x9728.Idx) := by
  unfold X0_2 Pipeline.Window.fill
  rw [dif_pos (moved0_2 t _)]
  show V m c main_arg2 (((cfg0.win 2).blk t).view.emb _) = _
  rw [emb2 t r k _ rfl rfl, V_main_arg2]

theorem residualRows (c : Dev nD) (i : Fin 16384) (k : Fin 1024) : V m c main_v2 (ix2 i k)
    = m ((c : Thread nD τ).loc main_arg3) (ix3 ⟨i.val / 2048, by omega⟩ ⟨i.val % 2048, by omega⟩ k : S8x2048x1024.Idx) := by
  unfold V
  after_reads_at

theorem residualRow (c : Dev nD) (t : Fin cfg0.N) (r : Fin 512) (k : Fin 1024) : iblk m c 3 t (ix2 r k)
    = m ((c : Thread nD τ).loc main_arg3)
        (ix3 ⟨(rowOf t r).val / 2048, by omega⟩ ⟨(rowOf t r).val % 2048, by omega⟩ k : S8x2048x1024.Idx) := by
  show V m c main_v2 (((cfg0.win 3).blk t).view.emb (ix2 r k)) = _
  rw [emb3]
  exact residualRows m c _ k

theorem attWeight (c : Dev nD) (t : Fin cfg0.N) (k e : Fin 1024) : iblk m c 4 t (ix2 k e)
    = m ((c : Thread nD τ).loc main_arg4) (ix3 0 k e : S1x1024x1024.Idx) := by
  show V m c main_v4 (((cfg0.win 4).blk t).view.emb (ix2 k e)) = _
  rw [emb4]
  unfold V
  after_reads_at

theorem ssmWeight (c : Dev nD) (t : Fin cfg0.N) (k : Fin 2048) (e : Fin 1024) : iblk m c 5 t (ix2 k e)
    = m ((c : Thread nD τ).loc main_arg5) (ix3 0 k e : S1x2048x1024.Idx) := by
  show V m c main_v6 (((cfg0.win 5).blk t).view.emb (ix2 k e)) = _
  rw [emb5]
  unfold V
  after_reads_at

theorem outWeight (c : Dev nD) (t : Fin cfg0.N) (k e : Fin 1024) : iblk m c 6 t (ix2 k e)
    = m ((c : Thread nD τ).loc main_arg6) (ix3 0 k e : S1x1024x1024.Idx) := by
  show V m c main_v8 (((cfg0.win 6).blk t).view.emb (ix2 k e)) = _
  rw [emb6]
  unfold V
  after_reads_at

theorem scale (c : Dev nD) (t : Fin cfg0.N) (e : Fin 1024) : iblk m c 7 t (ix2 0 e)
    = m ((c : Thread nD τ).loc main_arg7) (ix2 0 e : S1x1024.Idx) := by
  show V m c main_v10 (((cfg0.win 7).blk t).view.emb (ix2 0 e)) = _
  rw [emb7]
  unfold V
  after_reads_at

/-! ## The result -/

/-- The reference's result of the kernel's arguments. -/
def G (c : Dev nD) : S16384x1024.Idx → Elt Ideal .f32 :=
  MergeRef.whole
    (MergeRef.out (MergeRef.merged (m ((c : Thread nD τ).loc main_arg0)) (m ((c : Thread nD τ).loc main_arg1))
      (m ((c : Thread nD τ).loc main_arg2)) (m ((c : Thread nD τ).loc main_arg4))
      (m ((c : Thread nD τ).loc main_arg5))) (m ((c : Thread nD τ).loc main_arg6)))
    (m ((c : Thread nD τ).loc main_arg3)) (m ((c : Thread nD τ).loc main_arg7))

/-- The block a grid point computes, as the reference's result at its rows. -/
theorem out_block (c : Dev nD) (t : Fin cfg0.N) (r : Fin 512) (e : Fin 1024) :
    MergeBlock.blockOut (F := Ideal) (iblk m c 0 t) (iblk m c 1 t) (X0_2 m c t) (iblk m c 3 t) (iblk m c 4 t)
      (iblk m c 5 t) (iblk m c 6 t) (iblk m c 7 t) (ix2 r e) = G m c (ix2 (rowOf t r) e) := by
  unfold G
  rw [MergeBlock.block_at, MergeRef.res_at]
  simp only [attRow, ssmRow, gateRow, residualRow, attWeight, ssmWeight, outWeight, scale]

/-- A block equal to the array's rows is the array's block. -/
theorem cut_eq (t : Fin cfg0.N) (X : S512x1024.Idx → Elt Ideal .f32) (H : S16384x1024.Idx → Elt Ideal .f32)
    (h : ∀ (r : Fin 512) (e : Fin 1024), X (ix2 r e) = H (ix2 (rowOf t r) e)) :
    (cfg0.win 8).cut (grid0.coords t) X = ((cfg0.win 8).blk t).view.read (Elt Ideal) H := by
  funext i
  obtain ⟨r, e, rfl⟩ : ∃ (r : Fin 512) (e : Fin 1024), i = (ix2 r e : S512x1024.Idx) :=
    ⟨i (0 : Fin 2), i (1 : Fin 2), funext fun a => by
      match a with
      | ⟨0, _⟩ => rfl
      | ⟨1, _⟩ => rfl⟩
  show X (ix2 r e) = H (((cfg0.win 8).blk t).view.emb (ix2 r e))
  rw [h, emb8]

theorem flushed_eq (c : Dev nD) (t : Fin cfg0.N) :
    (dats m 0 c).flushed 8 t = ((cfg0.win 8).blk t).view.read (Elt Ideal) (G m c) := by
  rw [flushed8_A, MergeBlock.out_eq]
  exact cut_eq t _ _ (out_block m c t)

/-- Every index of the result is in some point's block. -/
theorem covered (i : S16384x1024.Idx) :
    ∃ t : Fin cfg0.N, (cfg0.win 8).flush t = true ∧ i ∈ ((cfg0.win 8).blk t).view.set := by
  have h0 : (i 0).val < 16384 := (i 0).isLt
  refine ⟨⟨(i 0).val / 512, by rw [show cfg0.N = 32 from N_0]; omega⟩, flush0_8 _, ?_⟩
  generalize ht : (⟨(i 0).val / 512, _⟩ : Fin cfg0.N) = t
  have hv : t.val = (i 0).val / 512 := by rw [← ht]
  have h := ((cfg0.win 8).blk t).view.emb_mem_set (ix2 ⟨(i 0).val % 512, by omega⟩ (i 1))
  refine (?_ : i = _) ▸ h
  refine Eq.trans ?_ (emb8 t ⟨(i 0).val % 512, by omega⟩ (i 1)).symm
  funext a; apply Fin.ext
  match a with
  | ⟨0, _⟩ => show (i 0).val = t.val * 512 + (i 0).val % 512; omega
  | ⟨1, _⟩ => rfl

/-- The result array after the run. -/
theorem final (c : Dev nD) : (dats m 0 c).arrAt 8 cfg0.N = G m c :=
  (dats m 0 c).arrAt_eq_of_cover 8 (G m c) (fun t _ => flushed_eq m c t) covered

/-! ## The claims -/

theorem frame : Cert.quiescent_MergeOut := fun m ρ _ => Cert.MergeOut.Gen.frame m ρ
theorem frame_ideal : Cert.quiescent_MergeOutIdeal := fun m ρ _ => Cert.MergeOutIdeal.Gen.frame m ρ

/-- The reference's frame: its run read at the arguments; it declares no semaphore. -/
theorem frame_ref : Cert.quiescent_MergeOutReferenceIdeal := fun m ρ _ =>
  (θ_run Cert.MergeOutReferenceIdeal.defs _ _).mono
    (fun r h => ⟨fun c => (h c).2, sem_eq_zero_of_no_sems (by decide) r.2⟩)
    (Cert.MergeOutReferenceIdeal.Value.run (F := Ideal) m ρ)

/-- The kernel's result is the reference's. -/
theorem algebraic : Cert.algebraic_MergeOutIdeal_MergeOutReferenceIdeal := by
  intro m ρ m' ρ' _ hagree
  have e (c : Dev nD) : Cert.MergeOutReferenceIdeal.Value.res_main_v44 m' c = G m c := by
    rw [MergeRef.res_eq]
    unfold G
    obtain ⟨h0, h1, h2, h3, h4, h5, h6, h7⟩ := hagree c
    rw [h0, h1, h2, h3, h4, h5, h6, h7]
  refine ⟨fun c => G m c, ?_, ?_⟩
  · exact (θ_run defs _ _).mono (fun r h c => ⟨(h c).1.trans (final m c), (h c).2⟩) (run_blocks (F := Ideal) m ρ)
  · exact (θ_run Cert.MergeOutReferenceIdeal.defs _ _).mono (fun r h c => ⟨(h c).1.trans (e c), (h c).2⟩)
      (Cert.MergeOutReferenceIdeal.Value.run (F := Ideal) m' ρ')

end Cert.Proof.MergeRun

end
-- ==== Proof.SsdMetaMath.lean ====
/- The state-space call on the meta block, as mathematics on the extended reals: the causal convolution and its
   activation, the step sizes, the running sums of the decays and the state after the block. -/
module

public import Idealize.ShloMosaic.Lib.Pointwise

@[expose] public section

set_option maxRecDepth 16384

noncomputable section

namespace Cert.Proof.Ssd

open Idealize.ShloMosaic

/-- Row `l + i - 3` of `u`, zero before the first row. -/
def lag (u : Fin 128 → Fin 3072 → EReal) (i : Fin 4) (l : Fin 128) (j : Fin 3072) : EReal :=
  if h : l.val + i.val < 3 then 0 else u ⟨l.val + i.val - 3, by omega⟩ j

/-- The causal convolution of width four. -/
def conv (u : Fin 128 → Fin 3072 → EReal) (w : Fin 4 → Fin 3072 → EReal) (b : Fin 3072 → EReal) (l : Fin 128)
    (j : Fin 3072) : EReal :=
  b j + w 0 j * lag u 0 l j + w 1 j * lag u 1 l j + w 2 j * lag u 2 l j + w 3 j * lag u 3 l j

/-- Its activation, zero at the padding rows. -/
def act (u : Fin 128 → Fin 3072 → EReal) (w : Fin 4 → Fin 3072 → EReal) (b : Fin 3072 → EReal) (l : Fin 128)
    (j : Fin 3072) : EReal :=
  if 112 ≤ l.val then conv u w b l j * Ideal.div 1 (1 + Ideal.exp (-conv u w b l j)) else 0

/-- The softened maximum of a number and zero. -/
def softplus (x : EReal) : EReal := max x 0 + Ideal.log1p (Ideal.exp (-max x (-x)))

/-- The running sum of a head's decays, step size times negative rate. -/
def cs (dt : Fin 128 → EReal) (a : EReal) (l : Fin 128) : EReal := ∑ s : Fin 128, if s ≤ l then dt s * -Ideal.exp a else 0

/-- Entry `(n, j)` of the state after the block: `x` the activations, `dt` and `r` the step sizes and running sums by head. -/
def state (x : Fin 128 → Fin 3072 → EReal) (dt r : Fin 32 → Fin 128 → EReal) (n : Fin 128) (j : Fin 2048) : EReal :=
  ∑ s : Fin 128, x s ⟨2048 + j.val / 512 * 128 + n.val, by omega⟩
    * (Ideal.exp (r ⟨j.val / 64, by omega⟩ 127 - r ⟨j.val / 64, by omega⟩ s) * dt ⟨j.val / 64, by omega⟩ s)
    * x s ⟨j.val, by omega⟩

theorem exp_nonneg (x : EReal) : 0 ≤ Ideal.exp x := by
  induction x using EReal.rec with
  | bot => exact le_refl _
  | top => exact le_top
  | coe r => exact EReal.coe_nonneg.2 (Real.exp_pos r).le

theorem log1p_nonneg (x : EReal) (h : 0 ≤ x) : 0 ≤ Ideal.log1p x := by
  unfold Ideal.log1p
  induction x using EReal.rec with
  | bot => exact absurd h (by simp)
  | top => rw [show (1 : EReal) + ⊤ = ⊤ from rfl]; exact le_top
  | coe r =>
    have hr : 0 ≤ r := EReal.coe_nonneg.1 h
    rw [show (1 : EReal) + (r : EReal) = ((1 + r : ℝ) : EReal) from rfl]
    show 0 ≤ (if 1 + r ≤ 0 then ⊥ else (Real.log (1 + r) : EReal))
    rw [if_neg (by linarith)]
    exact EReal.coe_nonneg.2 (Real.log_nonneg (by linarith))

theorem softplus_nonneg (x : EReal) : 0 ≤ softplus x :=
  add_nonneg (le_max_right _ _) (log1p_nonneg _ (exp_nonneg _))

/-- A decay is at most zero, so it is not plus infinity. -/
theorem decay_ne_top (x a : EReal) : softplus x * -Ideal.exp a ≠ ⊤ := by
  have h : softplus x * -Ideal.exp a ≤ 0 := by
    rw [mul_neg, EReal.neg_le, neg_zero]
    exact mul_nonneg (softplus_nonneg x) (exp_nonneg a)
  exact fun e => absurd (e ▸ h) (by simp)

/-- A number other than plus infinity plus what is left of it, twice. -/
theorem parts (f : EReal) (h : f ≠ ⊤) : f + (f - f) + ((f - f) - (f - f)) = f := by
  induction f using EReal.rec with
  | bot => simp
  | top => exact absurd rfl h
  | coe r => norm_cast; ring

/-- The running sum as three sums, of the numbers and of what is left of them. -/
theorem sum_parts (f : Fin 128 → EReal) (hf : ∀ s, f s ≠ ⊤) (t : Fin 128 → EReal) (l : Fin 128)
    (ht : ∀ s, t s = if s ≤ l then 1 else 0) :
    ∑ s, t s * f s + ∑ s, t s * (f s - f s) + ∑ s, t s * ((f s - f s) - (f s - f s)) = ∑ s, if s ≤ l then f s else 0 := by
  rw [← Finset.sum_add_distrib, ← Finset.sum_add_distrib]
  refine Finset.sum_congr rfl fun s _ => ?_
  rw [ht]
  split
  · simp only [one_mul]; exact parts _ (hf s)
  · simp only [zero_mul, add_zero]

/-- A left fold of addition is the sum. -/
theorem foldl_add {ι : Type} (l : List ι) (g : ι → EReal) (v : EReal) :
    l.foldl (fun r a => r + g a) v = v + (l.map g).sum := by
  induction l generalizing v with
  | nil => simp
  | cons a l ih => simp only [List.foldl_cons, List.map_cons, List.sum_cons, ih, add_assoc]

/-- The sum over a window that ends at `j`, zeros before the start, is the running sum. -/
theorem sum_window (f : Fin 128 → EReal) (j : Fin 128) :
    (∑ n : Fin 128, if h : 127 ≤ j.val + n.val then f ⟨j.val + n.val - 127, by omega⟩ else 0) = ∑ s, if s ≤ j then f s else 0 := by
  refine Fintype.sum_equiv (Equiv.addLeft (j + 1)) _ _ fun n => ?_
  have hv : ((j + 1) + n : Fin 128).val = (j.val + 1 + n.val) % 128 := by
    rw [Fin.val_add, Fin.val_add, show ((1 : Fin 128).val) = 1 from rfl]; omega
  show _ = if ((j + 1) + n : Fin 128) ≤ j then f ((j + 1) + n) else 0
  by_cases h : 127 ≤ j.val + n.val
  · rw [dif_pos h, if_pos (by rw [Fin.le_def, hv]; omega)]
    exact congrArg f (Fin.ext (by rw [hv]; simp only; omega))
  · rw [dif_neg h, if_neg (by rw [Fin.le_def, hv]; omega)]

end Cert.Proof.Ssd

end
-- ==== Proof.SsdMetaPair.lean ====
/- What the kernel adds to the state for two neighbouring heads, read at an index. -/
module

public import proofs.«01_k».proof.Proof.Gen.SsdMetaIdeal.Value
public import proofs.«01_k».proof.Proof.SsdMetaMath

@[expose] public section

set_option maxRecDepth 16384

noncomputable section

namespace Cert.Proof.SsdMetaPair

open Cert.SsdMetaIdeal Cert.SsdMetaIdeal.Gen Idealize.ShloMosaic Idealize.ShloMosaic.TcCoe Idealize.SL.Sem
open Cert.Proof.Ssd

/-- The lanes of the first of the two heads. -/
def first : IVec S1x128 1 := cmpi .slt (iota .tc S1x128 32 [1] iota_S1x128_d1_w32) (broadcast S1x128 64#32)

/-- The columns `b` of the input matrix, weighted by what is left of each row at the block's end. -/
def weighted (b : FVec Ideal S128x128 .f32) (r d : FVec Ideal S1x128 .f32) : FVec Ideal S128x128 .bf16 :=
  truncf .bf16 (mulf b (broadcastTo S128x128
    (mulf (exp (subf (broadcastTo S1x128 (extractStridedSlice S1x1 ![0, 127] r slices_S1x128_o0_127_S1x1) broadcasts_S1x1_S1x128) r)) d)
    broadcasts_S1x128_S128x128)) bitsLt_bf16_f32

/-- The rows `x` of the two heads, one below the other, each with the other's lanes zero. -/
def stacked (x : FVec Ideal S128x128 .bf16) : FVec Ideal S256x128 .bf16 :=
  concatenate S256x128 0
    [⟨S128x128, select (broadcastTo S128x128 (shapeCast S1x128 first shapeCasts_S1x128_S1x128) broadcasts_S1x128_S128x128) x
        (broadcast S128x128 (Scalar.sitofp .bf16 0#32))⟩,
     ⟨S128x128, select (broadcastTo S128x128 (shapeCast S1x128 first shapeCasts_S1x128_S1x128) broadcasts_S1x128_S128x128)
        (broadcast S128x128 (Scalar.sitofp .bf16 0#32)) x⟩] concatenates_S128x128_S128x128_S256x128_d0

/-- The last entry of a row. -/
def last (r : FVec Ideal S1x128 .f32) : FVec Ideal S1x128 .f32 :=
  broadcastTo S1x128 (shapeCast S1x1 (exp (extractStridedSlice S1x1 ![0, 127] r slices_S1x128_o0_127_S1x1)) shapeCasts_S1x1_S1x1)
    broadcasts_S1x1_S1x128

/-- The two heads' new state: the old one `old` decayed, plus the weighted products. -/
def pair (x : FVec Ideal S128x128 .bf16) (b : FVec Ideal S128x128 .f32) (r d r' d' : FVec Ideal S1x128 .f32)
    (old : FVec Ideal S128x128 .f32) : FVec Ideal S128x128 .f32 :=
  shapeCast S128x128 (addf (mulf old (broadcastTo S128x128 (select first (last r) (last r')) broadcasts_S1x128_S128x128))
    (matmul dot_S128x256_S256x128_S128x128_1_0_0_1_n_n none
      (concatenate S128x256 1 [⟨S128x128, weighted b r d⟩, ⟨S128x128, weighted b r' d'⟩] concatenates_S128x128_S128x128_S128x256_d1)
      (stacked x) (constant S128x128 .f32 0x00000000#32))) shapeCasts_S128x128_S128x128

theorem weighted_at (b : FVec Ideal S128x128 .f32) (r d : FVec Ideal S1x128 .f32) (n s : Fin 128) :
    weighted b r d (ix2 n s) = b (ix2 n s) * (Ideal.exp (r (ix2 0 127) - r (ix2 0 s)) * d (ix2 0 s)) := by
  pointwise [weighted]

theorem first_word : ∀ e : Fin 128, IntOp.cmpi .slt (BitVec.ofNat 32 e.val) 64#32 = if e.val < 64 then 1#1 else 0#1 := by
  decide +kernel

theorem upper_at (x : FVec Ideal S128x128 .bf16) (s e : Fin 128) :
    stacked x (ix2 ⟨s.val, by omega⟩ e) = if e.val < 64 then x (ix2 s e) else 0 := by
  pointwise [stacked, first]
  rw [first_word, show (((0#32).toInt : ℝ) : EReal) = 0 by simp]
  by_cases he : e.val < 64
  · rw [if_pos he, if_pos he]; rfl
  · rw [if_neg he, if_neg he]; rfl

theorem lower_at (x : FVec Ideal S128x128 .bf16) (s e : Fin 128) :
    stacked x (ix2 ⟨128 + s.val, by omega⟩ e) = if e.val < 64 then 0 else x (ix2 s e) := by
  pointwise [stacked, first]
  rw [first_word, show (((0#32).toInt : ℝ) : EReal) = 0 by simp]
  by_cases he : e.val < 64
  · rw [if_pos he, if_pos he]; rfl
  · rw [if_neg he, if_neg he]; rfl

/-- The new state where the old one is zero. -/
theorem pair_at (x : FVec Ideal S128x128 .bf16) (b : FVec Ideal S128x128 .f32) (r d r' d' : FVec Ideal S1x128 .f32)
    (old : FVec Ideal S128x128 .f32) (n e : Fin 128) (h : old (ix2 n e) = (0 : EReal)) : pair x b r d r' d' old (ix2 n e)
      = if e.val < 64 then ∑ s : Fin 128, b (ix2 n s) * (Ideal.exp (r (ix2 0 127) - r (ix2 0 s)) * d (ix2 0 s)) * x (ix2 s e)
        else ∑ s : Fin 128, b (ix2 n s) * (Ideal.exp (r' (ix2 0 127) - r' (ix2 0 s)) * d' (ix2 0 s)) * x (ix2 s e) := by
  pointwise [pair]
  rw [h, zero_mul, zero_add]
  simp only [weighted_at, upper_at, lower_at]
  by_cases he : e.val < 64
  · simp only [if_pos he, mul_zero, Finset.sum_const_zero, add_zero]
  · simp only [if_neg he, mul_zero, Finset.sum_const_zero, zero_add]

/-- The new state of heads `2 p` and `2 p + 1` where the old one is zero, from what the operands hold. -/
theorem pair_state (X : Fin 128 → Fin 3072 → EReal) (D R : Fin 32 → Fin 128 → EReal) (p : Fin 16)
    (x : FVec Ideal S128x128 .bf16) (b : FVec Ideal S128x128 .f32) (r d r' d' : FVec Ideal S1x128 .f32)
    (old : FVec Ideal S128x128 .f32) (n e : Fin 128)
    (hx : ∀ s e : Fin 128, x (ix2 s e) = X s ⟨p.val * 128 + e.val, by omega⟩)
    (hb : ∀ n s : Fin 128, b (ix2 n s) = X s ⟨2048 + p.val / 4 * 128 + n.val, by omega⟩)
    (hr : ∀ s, r (ix2 0 s) = R ⟨2 * p.val, by omega⟩ s) (hd : ∀ s, d (ix2 0 s) = D ⟨2 * p.val, by omega⟩ s)
    (hr' : ∀ s, r' (ix2 0 s) = R ⟨2 * p.val + 1, by omega⟩ s) (hd' : ∀ s, d' (ix2 0 s) = D ⟨2 * p.val + 1, by omega⟩ s)
    (h : old (ix2 n e) = (0 : EReal)) :
    pair x b r d r' d' old (ix2 n e) = state X D R n ⟨p.val * 128 + e.val, by omega⟩ := by
  rw [pair_at x b r d r' d' old n e h]
  unfold state
  have hg : (⟨2048 + (p.val * 128 + e.val) / 512 * 128 + n.val, by omega⟩ : Fin 3072)
      = ⟨2048 + p.val / 4 * 128 + n.val, by omega⟩ := Fin.ext (by simp only; omega)
  by_cases he : e.val < 64
  · have hh : (⟨(p.val * 128 + e.val) / 64, by omega⟩ : Fin 32) = ⟨2 * p.val, by omega⟩ := Fin.ext (by simp only; omega)
    rw [if_pos he]
    simp only [hx, hb, hr, hd, hg, hh]
  · have hh : (⟨(p.val * 128 + e.val) / 64, by omega⟩ : Fin 32) = ⟨2 * p.val + 1, by omega⟩ := Fin.ext (by simp only; omega)
    rw [if_neg he]
    simp only [hx, hb, hr', hd', hg, hh]

end Cert.Proof.SsdMetaPair

end
-- ==== Proof.SsdMetaRef.lean ====
/- The reference of the state-space call on the meta block, cut into its steps and read at an index. -/
module

public import proofs.«01_k».proof.Proof.Gen.SsdMetaReferenceIdeal.Run
public import proofs.«01_k».proof.Proof.SsdMetaMath

@[expose] public section

set_option maxRecDepth 16384

noncomputable section

namespace Cert.Proof.SsdMetaRef

open Cert.SsdMetaReferenceIdeal Cert.SsdMetaReferenceIdeal.Gen Cert.SsdMetaReferenceIdeal.Value
open Idealize.ShloMosaic Idealize.ShloMosaic.TcCoe Idealize.SL.Sem Cert.Proof.Ssd

/-- The columns the convolution reads. -/
def cols (a0 : FVec Ideal S1x128x9728 .bf16) : FVec Ideal S128x3072 .f32 :=
  extf .f32 (shapeCast S128x3072 (extractStridedSlice S1x128x3072 ![0, 0, 6144] a0 slices_S1x128x9728_S1x128x3072_0_0_6144)
    shapeCasts_S1x128x3072_S128x3072) bitsLt_bf16_f32

/-- The last rows of those columns. -/
def tail (a0 : FVec Ideal S1x128x9728 .bf16) : FVec Ideal S8x3072 .f32 :=
  extractStridedSlice S8x3072 ![120, 0] (cols a0) slices_S128x3072_S8x3072_120_0

/-- Three rows of zeros, then the columns. -/
def above (u : FVec Ideal S128x3072 .f32) : FVec Ideal S131x3072 .f32 :=
  pad S131x3072 ![3, 0] ![0, 0] ![0, 0] u (sitofp .f32 (constantI S_ 32 0#32)) pads_S128x3072_S131x3072_300_000 h_S_

/-- A row of 3072 numbers at every row. -/
def spread (b : FVec Ideal S3072 .f32) : FVec Ideal S128x3072 .f32 :=
  broadcastInDim S128x3072 ![0, 1] bcast_S1x3072_S128x3072_0_1 (broadcastInDim S1x3072 ![1] bcast_S3072_S1x3072_1 b)

/-- The convolution. -/
def convolved (u : FVec Ideal S128x3072 .f32) (a2 : FVec Ideal S1x4x3072 .f32) (a3 : FVec Ideal S1x3072 .f32) :
    FVec Ideal S128x3072 .f32 :=
  addf (addf (addf (addf (addf (broadcastInDim S128x3072 ![] bcast_S_S128x3072 (constant S_ .f32 0x00000000#32))
    (mulf (spread (shapeCast S3072 (extractStridedSlice S1x3072 ![0, 0] (shapeCast S4x3072 a2 shapeCasts_S1x4x3072_S4x3072) slices_S4x3072_S1x3072_0_0) shapeCasts_S1x3072_S3072)) (extractStridedSlice S128x3072 ![0, 0] (above u) slices_S131x3072_S128x3072_0_0)))
    (mulf (spread (shapeCast S3072 (extractStridedSlice S1x3072 ![1, 0] (shapeCast S4x3072 a2 shapeCasts_S1x4x3072_S4x3072) slices_S4x3072_S1x3072_1_0) shapeCasts_S1x3072_S3072)) (extractStridedSlice S128x3072 ![1, 0] (above u) slices_S131x3072_S128x3072_1_0)))
    (mulf (spread (shapeCast S3072 (extractStridedSlice S1x3072 ![2, 0] (shapeCast S4x3072 a2 shapeCasts_S1x4x3072_S4x3072) slices_S4x3072_S1x3072_2_0) shapeCasts_S1x3072_S3072)) (extractStridedSlice S128x3072 ![2, 0] (above u) slices_S131x3072_S128x3072_2_0)))
    (mulf (spread (shapeCast S3072 (extractStridedSlice S1x3072 ![3, 0] (shapeCast S4x3072 a2 shapeCasts_S1x4x3072_S4x3072) slices_S4x3072_S1x3072_3_0) shapeCasts_S1x3072_S3072)) (extractStridedSlice S128x3072 ![3, 0] (above u) slices_S131x3072_S128x3072_3_0)))
    (spread (shapeCast S3072 a3 shapeCasts_S1x3072_S3072))

/-- Its activation, zero at the padding rows. -/
def active (z : FVec Ideal S128x3072 .f32) : FVec Ideal S128x3072 .f32 :=
  mulf (mulf z (Host.divf (broadcastInDim S128x3072 ![] bcast_S_S128x3072 (constant S_ .f32 0x3F800000#32)) (addf (broadcastInDim S128x3072 ![] bcast_S_S128x3072 (constant S_ .f32 0x3F800000#32)) (Host.exp (Host.negf z)))))
    (broadcastInDim S128x3072 ![0, 1] bcast_S128x1_S128x3072_0_1 (broadcastInDim S128x1 ![0] bcast_S128_S128x1_0 (uitofp .f32 (cmpi .sge (iotaInDim S128 32 0) (broadcastInDim S128 ![] bcast_S_S128 (constantI S_ 32 112#32))))))

/-- The step sizes before the softened maximum. -/
def rawSteps (a1 : FVec Ideal S1x128x128 .f32) (a4 : FVec Ideal S1x32 .f32) : FVec Ideal S128x32 .f32 :=
  addf (shapeCast S128x32 (extractStridedSlice S1x128x32 ![0, 0, 0] a1 slices_S1x128x128_S1x128x32_0_0_0) shapeCasts_S1x128x32_S128x32)
    (broadcastInDim S128x32 ![0, 1] bcast_S1x32_S128x32_0_1 (broadcastInDim S1x32 ![1] bcast_S32_S1x32_1 (shapeCast S32 a4 shapeCasts_S1x32_S32)))

/-- The step sizes. -/
def steps (x : FVec Ideal S128x32 .f32) : FVec Ideal S128x32 .f32 :=
  select (cmpf .une (subf x (broadcastInDim S128x32 ![] bcast_S_S128x32 (constant S_ .f32 0x00000000#32))) (subf x (broadcastInDim S128x32 ![] bcast_S_S128x32 (constant S_ .f32 0x00000000#32))))
    (addf x (broadcastInDim S128x32 ![] bcast_S_S128x32 (constant S_ .f32 0x00000000#32)))
    (addf (maximumf x (broadcastInDim S128x32 ![] bcast_S_S128x32 (constant S_ .f32 0x00000000#32))) (Host.log1p (Host.exp (Host.negf (Host.absf (subf x (broadcastInDim S128x32 ![] bcast_S_S128x32 (constant S_ .f32 0x00000000#32))))))))

/-- The decays by group, head and row. -/
def decays (dt : FVec Ideal S128x32 .f32) (a5 : FVec Ideal S1x32 .f32) : FVec Ideal S4x8x128 .f32 :=
  transpose S4x8x128 [1, 2, 0] (shapeCast S128x4x8 (mulf dt (broadcastInDim S128x32 ![0, 1] bcast_S1x32_S128x32_0_1 (broadcastInDim S1x32 ![1] bcast_S32_S1x32_1 (Host.negf (Host.exp (shapeCast S32 a5 shapeCasts_S1x32_S32)))))) shapeCasts_S128x32_S128x4x8) transposes_S128x4x8_S4x8x128_1_2_0

/-- Their running sums. -/
def sums (x : FVec Ideal S4x8x128 .f32) : FVec Ideal S4x8x128 .f32 :=
  Host.reduceWindowAdd ![1, 1, 128] ![1, 1, 1] ![0, 0, 127] ![0, 0, 0] x (broadcastInDim S_ ![] bcast_S_S_ (constant S_ .f32 0x00000000#32)) reduceWindows_S4x8x128_S4x8x128_w1s1p0_0_w1s1p0_0_w128s1p127_0 h_S_

/-- What is left of each row at the block's end. -/
def left (r : FVec Ideal S4x8x128 .f32) : FVec Ideal S128x4x8 .f32 :=
  transpose S128x4x8 [2, 0, 1] (Host.exp (subf (broadcastInDim S4x8x128 ![0, 1, 2] bcast_S4x8x1_S4x8x128_0_1_2 (extractStridedSlice S4x8x1 ![0, 0, 127] r slices_S4x8x128_S4x8x1_0_0_127)) r)) transposes_S4x8x128_S128x4x8_2_0_1

/-- The rows times their step sizes. -/
def stepped (x : FVec Ideal S128x3072 .f32) (dt : FVec Ideal S128x32 .f32) : FVec Ideal S128x4x8x64 .f32 :=
  shapeCast S128x4x8x64 (mulf (shapeCast S128x32x64 (extractStridedSlice S128x2048 ![0, 0] x slices_S128x3072_S128x2048_0_0) shapeCasts_S128x2048_S128x32x64) (broadcastInDim S128x32x64 ![0, 1, 2] bcast_S128x32x1_S128x32x64_0_1_2 (broadcastInDim S128x32x1 ![0, 1] bcast_S128x32_S128x32x1_0_1 dt))) shapeCasts_S128x32x64_S128x4x8x64

/-- The state. -/
def final (d : FVec Ideal S128x4x8 .f32) (y : FVec Ideal S128x4x8x64 .f32) (x : FVec Ideal S128x3072 .f32) : FVec Ideal S128x2048 .f32 :=
  shapeCast S128x2048 (transpose S128x4x8x64 [3, 0, 1, 2] (Host.dotGeneral dot_S128x4x8x64_S128x4x128_S4x8x64x128_0_0_23_2_1_1 none (mulf (broadcastInDim S128x4x8x64 ![0, 1, 2, 3] bcast_S128x4x8x1_S128x4x8x64_0_1_2_3 (broadcastInDim S128x4x8x1 ![0, 1, 2] bcast_S128x4x8_S128x4x8x1_0_1_2 d)) y) (shapeCast S128x4x128 (extractStridedSlice S128x512 ![0, 2048] x slices_S128x3072_S128x512_0_2048) shapeCasts_S128x512_S128x4x128)) transposes_S4x8x64x128_S128x4x8x64_3_0_1_2) shapeCasts_S128x4x8x64_S128x2048

/-- The whole state from the arguments. -/
def whole (a0 : FVec Ideal S1x128x9728 .bf16) (a1 : FVec Ideal S1x128x128 .f32) (a2 : FVec Ideal S1x4x3072 .f32)
    (a3 : FVec Ideal S1x3072 .f32) (a4 a5 : FVec Ideal S1x32 .f32) : FVec Ideal S128x2048 .f32 :=
  final (left (sums (decays (steps (rawSteps a1 a4)) a5)))
    (stepped (active (convolved (cols a0) a2 a3)) (steps (rawSteps a1 a4))) (active (convolved (cols a0) a2 a3))

section

variable (m : (ℓ : Loc nD τ sig) → Buf (Elt Ideal) ℓ) (c : Dev nD)

/-- The reference's first result is these steps one after another. -/
theorem res_eq : res_main_v80 m c = whole (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) := rfl

end

/-! ## The steps read at an index -/

theorem cols_at (a0 : FVec Ideal S1x128x9728 .bf16) (l : Fin 128) (j : Fin 3072) :
    cols a0 (ix2 l j) = a0 (ix3 0 l ⟨6144 + j.val, by omega⟩) := by
  pointwise [cols]

theorem above_at (u : FVec Ideal S128x3072 .f32) (i : Fin 4) (l : Fin 128) (j : Fin 3072) :
    above u (ix2 ⟨i.val + l.val, by omega⟩ j) = lag (fun l j => u (ix2 l j)) i l j := by
  unfold lag
  pointwise [above]
  by_cases h : l.val + i.val < 3
  · rw [dif_neg (by omega), dif_pos h]
    simp [FloatOps.sitofp]
  · rw [dif_pos (by omega), dif_neg h]
    exact congrArg u (congrArg (fun k => ix2 k j) (Fin.ext (by simp only; omega)))

theorem spread_at (b : FVec Ideal S3072 .f32) (l : Fin 128) (j : Fin 3072) : spread b (ix2 l j) = b (ix1 j) := by
  pointwise [spread]

theorem convolved_at (u : FVec Ideal S128x3072 .f32) (a2 : FVec Ideal S1x4x3072 .f32) (a3 : FVec Ideal S1x3072 .f32)
    (l : Fin 128) (j : Fin 3072) : convolved u a2 a3 (ix2 l j)
      = conv (fun l j => u (ix2 l j)) (fun i j => a2 (ix3 0 i j)) (fun j => a3 (ix2 0 j)) l j := by
  unfold conv
  rw [← above_at u 0 l j, ← above_at u 1 l j, ← above_at u 2 l j, ← above_at u 3 l j]
  pointwise [convolved, spread_at]
  rw [add_comm _ (a3 (ix2 0 j))]
  simp only [add_assoc]

theorem valid_word : ∀ l : Fin 128, IntOp.cmpi .sge (BitVec.ofNat 32 l.val) 112#32 = if 112 ≤ l.val then 1#1 else 0#1 := by
  decide +kernel

theorem active_at (z : FVec Ideal S128x3072 .f32) (l : Fin 128) (j : Fin 3072) : active z (ix2 l j)
      = if 112 ≤ l.val then z (ix2 l j) * Ideal.div 1 (1 + Ideal.exp (-z (ix2 l j))) else 0 := by
  pointwise [active]
  rw [valid_word]
  split
  · rw [show FloatOps.uitofp (F := Ideal) FTy.f32 (1#1) = (1 : EReal) by simp [FloatOps.uitofp]]; exact mul_one _
  · rw [show FloatOps.uitofp (F := Ideal) FTy.f32 (0#1) = (0 : EReal) by simp [FloatOps.uitofp]]; exact mul_zero _

theorem rawSteps_at (a1 : FVec Ideal S1x128x128 .f32) (a4 : FVec Ideal S1x32 .f32) (l : Fin 128) (h : Fin 32) :
    rawSteps a1 a4 (ix2 l h) = a1 (ix3 0 l ⟨h.val, by omega⟩) + a4 (ix2 0 h) := by
  pointwise [rawSteps]

theorem steps_at (x : FVec Ideal S128x32 .f32) (l : Fin 128) (h : Fin 32) : steps x (ix2 l h) = softplus (x (ix2 l h)) := by
  unfold softplus
  pointwise [steps]
  rw [if_neg (fun h => h rfl)]
  rfl

theorem decays_at (dt : FVec Ideal S128x32 .f32) (a5 : FVec Ideal S1x32 .f32) (g : Fin 4) (r : Fin 8) (l : Fin 128) :
    decays dt a5 (ix3 g r l) = dt (ix2 l ⟨g.val * 8 + r.val, by omega⟩) * -Ideal.exp (a5 (ix2 0 ⟨g.val * 8 + r.val, by omega⟩)) := by
  pointwise [decays]

theorem left_at (r : FVec Ideal S4x8x128 .f32) (l : Fin 128) (g : Fin 4) (h : Fin 8) :
    left r (ix3 l g h) = Ideal.exp (r (ix3 g h 127) - r (ix3 g h l)) := by
  pointwise [left]

theorem stepped_at (x : FVec Ideal S128x3072 .f32) (dt : FVec Ideal S128x32 .f32) (l : Fin 128) (g : Fin 4) (r : Fin 8) (e : Fin 64) :
    stepped x dt (ix4 l g r e) = x (ix2 l ⟨(g.val * 8 + r.val) * 64 + e.val, by omega⟩) * dt (ix2 l ⟨g.val * 8 + r.val, by omega⟩) := by
  pointwise [stepped]

theorem final_at (d : FVec Ideal S128x4x8 .f32) (y : FVec Ideal S128x4x8x64 .f32) (x : FVec Ideal S128x3072 .f32) (n : Fin 128) (j : Fin 2048) :
    final d y x (ix2 n j) = ∑ s : Fin 128, d (ix3 s ⟨j.val / 512, by omega⟩ ⟨j.val / 64 % 8, by omega⟩)
      * y (ix4 s ⟨j.val / 512, by omega⟩ ⟨j.val / 64 % 8, by omega⟩ ⟨j.val % 64, by omega⟩)
      * x (ix2 s ⟨2048 + j.val / 512 * 128 + n.val, by omega⟩) := by
  pointwise [final]
  refine Finset.sum_congr rfl fun s _ => ?_
  exact congrArg _ (congrArg x (congrArg (ix2 s) (Fin.ext (by simp only; omega))))

theorem sums_at (x : FVec Ideal S4x8x128 .f32) (g : Fin 4) (r : Fin 8) (l : Fin 128) :
    sums x (ix3 g r l) = ∑ s : Fin 128, if s ≤ l then x (ix3 g r s) else 0 := by
  unfold sums Host.reduceWindowAdd
  rw [Ideal.hostReduceWindowAdd_def]
  unfold Ideal.hostReduceWindowAdd Host.reduceWindow
  dsimp only
  rw [foldl_add, ← Ssd.sum_window (fun s => x (ix3 g r s)) l]
  rw [← Fin.sum_univ_def, ← Equiv.sum_comp (Shape.rowMajor ⟨3, ![1, 1, 128]⟩)]
  simp only [Equiv.symm_apply_apply]
  rw [sum_idx3]
  simp only [Finset.univ_unique, Finset.sum_singleton]
  have hv : broadcastInDim S_ ![] bcast_S_S_ (constant (F := Ideal) S_ FTy.f32 0#32) (Shape.Idx.first h_S_) = (0 : EReal) := by
    pointwise []
  rw [hv, zero_add]
  refine Finset.sum_congr rfl fun n _ => dite_congr (propext ⟨fun h => ?_, fun h a => ?_⟩) (fun h => ?_) (fun _ => rfl)
  · have h2 := (h 2).1
    change 127 ≤ l.val * 1 + n.val at h2
    omega
  · have hl := l.isLt
    have hn := n.isLt
    match a with
    | ⟨0, _⟩ => show 0 ≤ g.val * 1 + 0 ∧ g.val * 1 + 0 - 0 < 4; omega
    | ⟨1, _⟩ => show 0 ≤ r.val * 1 + 0 ∧ r.val * 1 + 0 - 0 < 8; omega
    | ⟨2, _⟩ => show 127 ≤ l.val * 1 + n.val ∧ l.val * 1 + n.val - 127 < 128; omega
  · refine congrArg x (funext fun a => Fin.ext ?_)
    match a with
    | ⟨0, _⟩ => show g.val * 1 + 0 - 0 = g.val; omega
    | ⟨1, _⟩ => show r.val * 1 + 0 - 0 = r.val; omega
    | ⟨2, _⟩ => show l.val * 1 + n.val - 127 = l.val + n.val - 127; omega

theorem regroup (e x d b : EReal) : e * (x * d) * b = b * (e * d) * x := by
  ac_rfl

/-- The state at an index. -/
theorem whole_at (a0 : FVec Ideal S1x128x9728 .bf16) (a1 : FVec Ideal S1x128x128 .f32) (a2 : FVec Ideal S1x4x3072 .f32)
    (a3 : FVec Ideal S1x3072 .f32) (a4 a5 : FVec Ideal S1x32 .f32) (n : Fin 128) (j : Fin 2048) :
    whole a0 a1 a2 a3 a4 a5 (ix2 n j)
      = state (act (fun l j => a0 (ix3 0 l ⟨6144 + j.val, by omega⟩)) (fun i j => a2 (ix3 0 i j)) (fun j => a3 (ix2 0 j)))
          (fun h l => softplus (a1 (ix3 0 l ⟨h.val, by omega⟩) + a4 (ix2 0 h)))
          (fun h l => cs (fun l => softplus (a1 (ix3 0 l ⟨h.val, by omega⟩) + a4 (ix2 0 h))) (a5 (ix2 0 h)) l) n j := by
  unfold whole state act cs
  rw [final_at]
  refine Finset.sum_congr rfl fun s _ => ?_
  have hh : (⟨j.val / 512 * 8 + j.val / 64 % 8, by omega⟩ : Fin 32) = ⟨j.val / 64, by omega⟩ := Fin.ext (by simp only; omega)
  have hj : (⟨(j.val / 512 * 8 + j.val / 64 % 8) * 64 + j.val % 64, by omega⟩ : Fin 3072) = ⟨j.val, by omega⟩ :=
    Fin.ext (by simp only; omega)
  rw [left_at, stepped_at]
  simp only [sums_at, decays_at, steps_at, rawSteps_at, active_at, convolved_at, cols_at, hh, hj]
  exact regroup _ _ _ _

end Cert.Proof.SsdMetaRef

end
-- ==== Proof.SsdMetaPay.lean ====
/- What the state-space call's kernel computes before its heads, read at an index: the activations, the step sizes and
   the running sums; and how its scratch arrays are read back. -/
module

public import proofs.«01_k».proof.Proof.SsdMetaPair
public import proofs.«01_k».proof.Proof.SsdMetaRef
public import Idealize.ShloMosaic.Lib.Pipeline.ReadBack

@[expose] public section

set_option maxRecDepth 16384

noncomputable section

namespace Cert.Proof.SsdMetaPay

open Cert.SsdMetaIdeal Cert.SsdMetaIdeal.Gen Idealize.ShloMosaic Idealize.ShloMosaic.TcCoe Idealize.SL.Sem
open Cert.Proof.Ssd

/-- The block's activations, from what the windows hold. -/
def acts (x1 : Vec Ideal S1x128x3072 .bf16) (x3 : Vec Ideal S4x3072 .f32) (x4 : Vec Ideal S1x3072 .f32) : Fin 128 → Fin 3072 → EReal :=
  act (fun l j => x1 (ix3 0 l j)) (fun k j => x3 (ix2 k j)) (fun j => x4 (ix2 0 j))

/-- Its step sizes, by head. -/
def sizes (x2 : Vec Ideal S1x128x128 .f32) (x5 : Vec Ideal S1x128 .f32) (h : Fin 32) (l : Fin 128) : EReal :=
  softplus (x2 (ix3 0 l ⟨h.val, by omega⟩) + x5 (ix2 0 ⟨h.val, by omega⟩))

/-- The running sums of its decays, by head. -/
def sums (x2 : Vec Ideal S1x128x128 .f32) (x5 x6 : Vec Ideal S1x128 .f32) (h : Fin 32) (l : Fin 128) : EReal :=
  cs (sizes x2 x5 h) (x6 (ix2 0 ⟨h.val, by omega⟩)) l

/-- The activations, from the convolution's first three taps with its bias and from the last tap. -/
theorem act_at (b w0 w1 w2 w3 : Vec Ideal S1x3072 .f32) (e0 e1 e2 e3 : Vec Ideal S128x3072 .f32)
    (u : Fin 128 → Fin 3072 → EReal) (w : Fin 4 → Fin 3072 → EReal) (l : Fin 128) (j : Fin 3072)
    (h0 : w0 (ix2 0 j) = w 0 j) (h1 : w1 (ix2 0 j) = w 1 j) (h2 : w2 (ix2 0 j) = w 2 j) (h3 : w3 (ix2 0 j) = w 3 j)
    (g0 : e0 (ix2 l j) = lag u 0 l j) (g1 : e1 (ix2 l j) = lag u 1 l j) (g2 : e2 (ix2 l j) = lag u 2 l j)
    (g3 : e3 (ix2 l j) = lag u 3 l j) :
    k0_pay10 0#32 (k0_pay6 b w0 e0 w1 e1 w2 e2) (k0_pay7 w3) e3 (ix2 l j) = act u w (fun j => b (ix2 0 j)) l j := by
  pointwise [k0_pay10, k0_pay6, k0_pay7, h0, h1, h2, h3, g0, g1, g2, g3]
  rw [show IntOp.addi (BitVec.ofNat 32 l.val) (Scalar.muli 0#32 128#32) = BitVec.ofNat 32 l.val from BitVec.add_zero _,
    SsdMetaRef.valid_word, zero_sub]
  unfold act
  by_cases hl : 112 ≤ l.val
  · rw [if_pos hl, if_pos hl]; rfl
  · rw [if_neg hl, if_neg hl]; rfl

theorem xs_at (w : BitVec 32) (a : FVec Ideal S128x3072 .f32) (t : FVec Ideal S1x3072 .f32) (e : Vec Ideal S128x3072 .f32)
    (s : Fin 128) (j : Fin 2048) : k0_pay11 w a t e (ix2 s j) = k0_pay10 w a t e (ix2 s ⟨j.val, by omega⟩) := by
  pointwise [k0_pay11]

theorem bs_at (w : BitVec 32) (a : FVec Ideal S128x3072 .f32) (t : FVec Ideal S1x3072 .f32) (e : Vec Ideal S128x3072 .f32)
    (s : Fin 128) (j : Fin 512) : k0_pay12 w a t e (ix2 s j) = k0_pay10 w a t e (ix2 s ⟨2048 + j.val, by omega⟩) := by
  pointwise [k0_pay12]

theorem steps_at (x : Vec Ideal S1x128x128 .f32) (d : Vec Ideal S1x128 .f32) (l h : Fin 128) :
    k0_pay13 x d (ix2 l h) = softplus (x (ix3 0 l h) + d (ix2 0 h)) := by
  pointwise [k0_pay13]
  rw [zero_sub]
  rfl

theorem steps_row (y : FVec Ideal S128x128 .f32) (h l : Fin 128) : k0_pay15 y (ix2 h l) = y (ix2 l h) := by
  pointwise [k0_pay15]

theorem tril_word : ∀ l s : Fin 128, BitVec.setWidth 32 (IntOp.cmpi .sge (BitVec.ofNat 32 l.val) (BitVec.ofNat 32 s.val))
    = if s ≤ l then 1#32 else 0#32 := by
  decide +kernel

theorem sums_row (y : FVec Ideal S128x128 .f32) (a : Vec Ideal S1x128 .f32) (h l : Fin 128)
    (hy : ∀ s, ∃ z, y (ix2 s h) = softplus z) : k0_pay14 y a (ix2 h l) = cs (fun s => y (ix2 s h)) (a (ix2 0 h)) l := by
  pointwise [k0_pay14]
  simp only [zero_sub]
  refine sum_parts (fun s => y (ix2 s h) * -Ideal.exp (a (ix2 0 h))) (fun s => ?_) _ l fun s => by rw [tril_word]; split <;> simp [FloatOps.sitofp]
  obtain ⟨z, hz⟩ := hy s
  rw [hz]
  exact decay_ne_top z _

theorem group0 (y : FVec Ideal S128x512 .f32) (n s : Fin 128) : k0_pay17 y (ix2 n s) = y (ix2 s ⟨0 + n.val, by omega⟩) := by
  pointwise [k0_pay17]

theorem group1 (y : FVec Ideal S128x512 .f32) (n s : Fin 128) : k0_pay29 y (ix2 n s) = y (ix2 s ⟨128 + n.val, by omega⟩) := by
  pointwise [k0_pay29]

theorem group2 (y : FVec Ideal S128x512 .f32) (n s : Fin 128) : k0_pay66 y (ix2 n s) = y (ix2 s ⟨256 + n.val, by omega⟩) := by
  pointwise [k0_pay66]

theorem group3 (y : FVec Ideal S128x512 .f32) (n s : Fin 128) : k0_pay89 y (ix2 n s) = y (ix2 s ⟨384 + n.val, by omega⟩) := by
  pointwise [k0_pay89]

/-- The columns of a matrix from column `o`. -/
theorem slice_at (o : Nat) (ho : o + 128 ≤ 2048) (h : S128x2048.Slices ![0, o] S128x128) (A : FVec Ideal S128x2048 .bf16)
    (s e : Fin 128) : extractStridedSlice S128x128 ![0, o] A h (ix2 s e) = A (ix2 s ⟨o + e.val, by omega⟩) :=
  congrArg A (funext fun a => Fin.ext (by
    match a with
    | ⟨0, _⟩ => show 0 + s.val = s.val; omega
    | ⟨1, _⟩ => rfl))

/-- A row read back from a scratch array that was stored whole. -/
theorem row_at {κ : Kind} {sp : Space} (v : View sig κ sp S128x128 .f32) (A : FVec Ideal S128x128 .f32) (h : Nat) (hh : h < 128) (inb0 inb)
    (s : Fin 128) : View.readCov (Val := Elt Ideal) v [⟨Rect.unit ![0, 0] S128x128.size inb0, A⟩] (Rect.unit (s := S128x128) ![h, 0] S1x128.size inb).toLoadRect (ix2 0 s)
      = A (ix2 ⟨h, hh⟩ s) := by
  refine (congrFun (View.readCov_fill (Val := Elt Ideal) (s := S128x128) (e := .f32) v inb0 A []
    (Rect.unit (s := S128x128) ![h, 0] S1x128.size inb) fun a => by fin_cases a <;> rfl) (ix2 0 s)).trans ?_
  exact congrArg A (funext fun a => Fin.ext (by
    match a with
    | ⟨0, _⟩ => show h + 1 * 0 = h; omega
    | ⟨1, _⟩ => show 0 + 1 * s.val = s.val; omega))

/-- The rows four taps back: read from a scratch array whose first eight rows are zero and whose others are `u`. -/
theorem lag_at {κ : Kind} {sp : Space} (v : View sig κ sp S136x3072 .f32) (A : FVec Ideal S128x3072 .f32) (B : FVec Ideal S8x3072 .f32)
    (u : Fin 128 → Fin 3072 → EReal) (hA : ∀ l j, A (ix2 l j) = u l j) (hB : ∀ y, B y = (0 : EReal)) (i : Fin 4) (o : Nat)
    (ho : o = 5 + i.val) (inb8 inb0 inb) (l : Fin 128) (j : Fin 3072) :
    View.readCov (Val := Elt Ideal) v [⟨Rect.unit (s := S136x3072) ![8, 0] S128x3072.size inb8, A⟩,
        ⟨Rect.unit (s := S136x3072) ![0, 0] S8x3072.size inb0, B⟩] (Rect.unit (s := S136x3072) ![o, 0] S128x3072.size inb).toLoadRect
      (ix2 l j) = lag u i l j := by
  subst ho
  rw [View.readCov_eq_canon']
  have he : (Rect.unit (s := S136x3072) ![5 + i.val, 0] S128x3072.size inb).toLoadRect.idx (ix2 l j)
      = ix2 ⟨l.val + i.val + 5, by omega⟩ j :=
    funext fun a => Fin.ext (by
      match a with
      | ⟨0, _⟩ => show 5 + i.val + 1 * l.val = l.val + i.val + 5; omega
      | ⟨1, _⟩ => show 0 + 1 * j.val = j.val; omega)
  refine (congrArg _ he).trans ?_
  unfold lag
  by_cases hl : l.val + i.val < 3
  · rw [dif_pos hl]
    have hy : (ix2 ⟨l.val + i.val + 5, by omega⟩ j : S136x3072.Idx)
        = (Rect.unit (s := S136x3072) ![0, 0] S8x3072.size inb0).emb (ix2 ⟨l.val + i.val + 5, by omega⟩ j) :=
      funext fun a => Fin.ext (by
        match a with
        | ⟨0, _⟩ => show l.val + i.val + 5 = 0 + 1 * (l.val + i.val + 5); omega
        | ⟨1, _⟩ => show j.val = 0 + 1 * j.val; omega)
    refine (View.canon_cons_of_not_mem (Val := Elt Ideal) (e := .f32) ⟨Rect.unit (s := S136x3072) ![8, 0] S128x3072.size inb8, A⟩ _
      fun hm => ?_).trans ((congrArg _ hy).trans ((View.canon_cons_emb (Val := Elt Ideal) (e := .f32)
        (Rect.unit (s := S136x3072) ![0, 0] S8x3072.size inb0) B [] _).trans (hB _)))
    have h1 : 8 ≤ l.val + i.val + 5 ∧ l.val + i.val + 5 < 8 + 128 :=
      (Rect.mem_set_unit (s := S136x3072) (inb := inb8)).1 hm (0 : Fin 2)
    omega
  · rw [dif_neg hl]
    have hy : (ix2 ⟨l.val + i.val + 5, by omega⟩ j : S136x3072.Idx)
        = (Rect.unit (s := S136x3072) ![8, 0] S128x3072.size inb8).emb (ix2 ⟨l.val + i.val - 3, by omega⟩ j) :=
      funext fun a => Fin.ext (by
        match a with
        | ⟨0, _⟩ => show l.val + i.val + 5 = 8 + 1 * (l.val + i.val - 3); omega
        | ⟨1, _⟩ => show j.val = 0 + 1 * j.val; omega)
    exact (congrArg _ hy).trans ((View.canon_cons_emb (Val := Elt Ideal) (e := .f32)
        (Rect.unit (s := S136x3072) ![8, 0] S128x3072.size inb8) A _ _).trans (hA _ _))

/-- The state's scratch array after the heads of its first `o` columns: `state` there, zero after them. -/
structure Inv (X : Fin 128 → Fin 3072 → EReal) (D R : Fin 32 → Fin 128 → EReal) (o : Nat)
    (L : List (View.Piece (Elt Ideal) S128x2048 .f32)) : Prop where
  done : ∀ (n : Fin 128) (j : Fin 2048), j.val < o → View.canon L (ix2 n j) = state X D R n j
  rest : ∀ (n : Fin 128) (j : Fin 2048), o ≤ j.val → View.canon L (ix2 n j) = (0 : EReal)

variable (X : Fin 128 → Fin 3072 → EReal) (D R : Fin 32 → Fin 128 → EReal)

theorem Inv.start (L : FVec Ideal S128x2048 .f32) (inb) (h : ∀ y, L y = (0 : EReal)) :
    Inv X D R 0 [⟨Rect.unit ![0, 0] S128x2048.size inb, L⟩] where
  done n j hj := absurd hj (by omega)
  rest n j _ := by
    rw [View.canon_unit_zero (funext fun a => by fin_cases a <;> rfl)]
    exact h _

theorem off_piece (o : Nat) (inb) (n : Fin 128) (j : Fin 2048) (h : j.val < o ∨ o + 128 ≤ j.val) :
    ix2 n j ∉ (Rect.unit (s := S128x2048) ![0, o] S128x128.size inb).set := fun hm => by
  have h1 : o ≤ j.val ∧ j.val < o + 128 := Rect.mem_set_unit.1 hm (1 : Fin 2)
  omega

theorem Inv.step (o o' : Nat) (ho : o + 128 = o') (inb) (w : FVec Ideal S128x128 .f32) (L) (hI : Inv X D R o L)
    (hb : o' ≤ 2048) (hw : ∀ n e : Fin 128, w (ix2 n e) = state X D R n ⟨o + e.val, by omega⟩) :
    Inv X D R o' (⟨Rect.unit (s := S128x2048) ![0, o] S128x128.size inb, w⟩ :: L) where
  done n j hj := by
    by_cases hlt : j.val < o
    · exact (View.canon_cons_of_not_mem (Val := Elt Ideal) (e := .f32) ⟨Rect.unit (s := S128x2048) ![0, o] S128x128.size inb, w⟩ L
        (off_piece o inb n j (.inl hlt))).trans (hI.done n j hlt)
    · have hj' : j = ⟨o + (⟨j.val - o, by omega⟩ : Fin 128).val, by simp only; omega⟩ := Fin.ext (by simp only; omega)
      have he : ix2 n j = (Rect.unit (s := S128x2048) ![0, o] S128x128.size inb).emb (ix2 n ⟨j.val - o, by omega⟩) :=
        funext fun a => Fin.ext (by
          match a with
          | ⟨0, _⟩ => show n.val = 0 + 1 * n.val; omega
          | ⟨1, _⟩ => show j.val = o + 1 * (j.val - o); omega)
      exact (congrArg _ he).trans ((View.canon_cons_emb (Val := Elt Ideal) (e := .f32)
        (Rect.unit (s := S128x2048) ![0, o] S128x128.size inb) w L (ix2 n ⟨j.val - o, by omega⟩)).trans
        ((hw _ _).trans (congrArg (state X D R n) hj'.symm)))
  rest n j hj := by
    exact (View.canon_cons_of_not_mem (Val := Elt Ideal) (e := .f32) ⟨Rect.unit (s := S128x2048) ![0, o] S128x128.size inb, w⟩ L
      (off_piece o inb n j (.inr (by omega)))).trans (hI.rest n j (by omega))

variable {X D R}

/-- The columns from column `o`, read back before their heads, are zero. -/
theorem Inv.old {o : Nat} {L} (hI : Inv X D R o L) (ho : o + 128 ≤ 2048) {κ : Kind} {sp : Space} (v : View sig κ sp S128x2048 .f32)
    (inb) (n e : Fin 128) : View.readCov (Val := Elt Ideal) v L (Rect.unit (s := S128x2048) ![0, o] S128x128.size inb).toLoadRect (ix2 n e) = (0 : EReal) := by
  rw [View.readCov_eq_canon']
  have he : (Rect.unit (s := S128x2048) ![0, o] S128x128.size inb).toLoadRect.idx (ix2 n e) = ix2 n ⟨o + e.val, by omega⟩ :=
    funext fun a => Fin.ext (by
      match a with
      | ⟨0, _⟩ => show 0 + 1 * n.val = n.val; omega
      | ⟨1, _⟩ => show o + 1 * e.val = o + e.val; omega)
  exact (congrArg _ he).trans (hI.rest n _ (by simp only; omega))

end Cert.Proof.SsdMetaPay

end
-- ==== Proof.SsdMetaHeads.lean ====
/- What the state-space call's kernel stores for each pair of neighbouring heads is the same function of its operands. -/
module

public import proofs.«01_k».proof.Proof.SsdMetaPair

@[expose] public section

set_option maxRecDepth 16384

noncomputable section

namespace Cert.Proof.SsdMetaHeads

open Cert.SsdMetaIdeal Cert.SsdMetaIdeal.Gen Idealize.ShloMosaic Idealize.ShloMosaic.TcCoe Idealize.SL.Sem
open Cert.Proof.SsdMetaPair

variable (x : FVec Ideal S128x2048 .bf16) (y : FVec Ideal S128x512 .f32) (r d r' d' : Vec Ideal S1x128 .f32)
  (old : Vec Ideal S128x128 .f32)

theorem head0 : k0_pay18 x k0_pay16 (k0_pay17 y) r d r' d' old
    = pair (extractStridedSlice S128x128 ![0, 0] x slices_S128x2048_o0_0_S128x128) (k0_pay17 y) r d r' d' old := rfl

theorem head1 : k0_pay20 (k0_pay19 x k0_pay16 (k0_pay17 y) r d r' d' old)
    = pair (extractStridedSlice S128x128 ![0, 128] x slices_S128x2048_o0_128_S128x128) (k0_pay17 y) r d r' d' old := rfl

theorem head2 : k0_pay22 (k0_pay21 x k0_pay16 (k0_pay17 y) r d r' d' old)
    = pair (extractStridedSlice S128x128 ![0, 256] x slices_S128x2048_o0_256_S128x128) (k0_pay17 y) r d r' d' old := rfl

theorem head3 : k0_pay28 k0_pay16 old (k0_pay25 x k0_pay16 (k0_pay17 y) r d r' d') (k0_pay26 r) (k0_pay27 r')
    = pair (extractStridedSlice S128x128 ![0, 384] x slices_S128x2048_o0_384_S128x128) (k0_pay17 y) r d r' d' old := rfl

theorem head4 : k0_pay36 k0_pay16 (k0_pay31 r) (k0_pay33 r') (k0_pay34 x k0_pay16) old (k0_pay35 y r d r' d')
    = pair (extractStridedSlice S128x128 ![0, 512] x slices_S128x2048_o0_512_S128x128) (k0_pay29 y) r d r' d' old := rfl

theorem head5 : k0_pay44 k0_pay16 (k0_pay38 (k0_pay29 y) r d) (k0_pay39 r) (k0_pay41 (k0_pay29 y) r' d') (k0_pay42 r') (k0_pay43 x k0_pay16) old
    = pair (extractStridedSlice S128x128 ![0, 640] x slices_S128x2048_o0_640_S128x128) (k0_pay29 y) r d r' d' old := rfl

theorem head6 : k0_pay55 k0_pay16 (k0_pay46 (k0_pay29 y) r d) (k0_pay47 r) (k0_pay49 (k0_pay29 y) r' d') (k0_pay50 r') (k0_pay51 x) (k0_pay52 x k0_pay16) k0_pay53 (k0_pay54 k0_pay16) old
    = pair (extractStridedSlice S128x128 ![0, 768] x slices_S128x2048_o0_768_S128x128) (k0_pay29 y) r d r' d' old := rfl

theorem head7 : k0_pay65 k0_pay16 (k0_pay57 (k0_pay29 y) r d) (k0_pay58 r) (k0_pay60 (k0_pay29 y) r' d') (k0_pay61 r') (k0_pay62 x) (k0_pay63 k0_pay16) k0_pay64 old
    = pair (extractStridedSlice S128x128 ![0, 896] x slices_S128x2048_o0_896_S128x128) (k0_pay29 y) r d r' d' old := rfl

theorem head8 : k0_pay73 x k0_pay16 (k0_pay68 y r d) (k0_pay69 r) (k0_pay71 y r' d') (k0_pay72 r') old
    = pair (extractStridedSlice S128x128 ![0, 1024] x slices_S128x2048_o0_1024_S128x128) (k0_pay66 y) r d r' d' old := rfl

theorem head9 : k0_pay79 x k0_pay16 (k0_pay66 y) (k0_pay75 (k0_pay66 y) r d) (k0_pay76 r) (k0_pay77 r') (k0_pay78 r' d') old
    = pair (extractStridedSlice S128x128 ![0, 1152] x slices_S128x2048_o0_1152_S128x128) (k0_pay66 y) r d r' d' old := rfl

theorem head10 : k0_pay84 x k0_pay16 (k0_pay66 y) (k0_pay81 (k0_pay66 y) r d) (k0_pay82 r) r' d' (k0_pay83 r') old
    = pair (extractStridedSlice S128x128 ![0, 1280] x slices_S128x2048_o0_1280_S128x128) (k0_pay66 y) r d r' d' old := rfl

theorem head11 : k0_pay88 x k0_pay16 (k0_pay66 y) (k0_pay86 (k0_pay66 y) r d) (k0_pay87 r) r' d' old
    = pair (extractStridedSlice S128x128 ![0, 1408] x slices_S128x2048_o0_1408_S128x128) (k0_pay66 y) r d r' d' old := rfl

theorem head12 : k0_pay92 x k0_pay16 (k0_pay89 y) (k0_pay90 r) (k0_pay91 r d) r' d' old
    = pair (extractStridedSlice S128x128 ![0, 1536] x slices_S128x2048_o0_1536_S128x128) (k0_pay89 y) r d r' d' old := rfl

theorem head13 : k0_pay95 x k0_pay16 (k0_pay89 y) r d (k0_pay93 r) (k0_pay94 r) r' d' old
    = pair (extractStridedSlice S128x128 ![0, 1664] x slices_S128x2048_o0_1664_S128x128) (k0_pay89 y) r d r' d' old := rfl

theorem head14 : k0_pay96 x k0_pay16 (k0_pay89 y) r d r' d' old
    = pair (extractStridedSlice S128x128 ![0, 1792] x slices_S128x2048_o0_1792_S128x128) (k0_pay89 y) r d r' d' old := rfl

theorem head15 : k0_pay1 (k0_pay97 x k0_pay16 (k0_pay89 y) r d r' d' old)
    = pair (extractStridedSlice S128x128 ![0, 1920] x slices_S128x2048_o0_1920_S128x128) (k0_pay89 y) r d r' d' old := rfl

end Cert.Proof.SsdMetaHeads

end
-- ==== Proof.SsdMetaBlock.lean ====
/- The state-space call's kernel on one block: the state it leaves and the last rows of its input, from what its windows
   hold. -/
module

public import proofs.«01_k».proof.Proof.SsdMetaPay
public import proofs.«01_k».proof.Proof.SsdMetaHeads

@[expose] public section

set_option maxRecDepth 65536
set_option maxHeartbeats 400000

noncomputable section

namespace Cert.Proof.SsdMetaBlock

open Cert.SsdMetaIdeal Cert.SsdMetaIdeal.Gen Idealize.ShloMosaic Idealize.ShloMosaic.TcCoe Idealize.SL.Sem
open Cert.Proof.Ssd Cert.Proof.SsdMetaPair Cert.Proof.SsdMetaPay Cert.Proof.SsdMetaHeads

variable (X : Fin 128 → Fin 3072 → EReal) (D R : Fin 32 → Fin 128 → EReal)
variable (c : Dev nD) (i : grid0.Coords) (arg3 : Memref sig .tc .vmem S1x128x3072 .bf16) (harg3 : arg3.IsWhole)
  (arg4 : Memref sig .tc .vmem S1x128x128 .f32) (harg4 : arg4.IsWhole) (arg5 : Memref sig .tc .vmem S4x3072 .f32)
  (harg5 : arg5.IsWhole) (arg6 : Memref sig .tc .vmem S1x3072 .f32) (harg6 : arg6.IsWhole)
  (arg7 : Memref sig .tc .vmem S1x128 .f32) (harg7 : arg7.IsWhole) (arg8 : Memref sig .tc .vmem S1x128 .f32)
  (harg8 : arg8.IsWhole) (arg11 : Memref sig .tc .vmem S128x2048 .f32) (harg11 : arg11.IsWhole)
  (arg12 : Memref sig .tc .vmem S8x3072 .f32) (harg12 : arg12.IsWhole) (arg15 : Memref sig .tc .vmem S128x2048 .f32)
  (arg16 : Memref sig .tc .vmem S136x3072 .f32) (arg18 : Memref sig .tc .vmem S128x128 .f32)
  (arg19 : Memref sig .tc .vmem S128x128 .f32)
  (x1 : Vec Ideal S1x128x3072 .bf16) (x2 : Vec Ideal S1x128x128 .f32) (x3 : Vec Ideal S4x3072 .f32) (x4 : Vec Ideal S1x3072 .f32)
  (x5 x6 : Vec Ideal S1x128 .f32) (x9 : Vec Ideal S128x2048 .f32) (x10 : Vec Ideal S8x3072 .f32)

theorem hz : (![0, 0] : Fin 2 → Nat) = fun _ => 0 := funext fun a => by fin_cases a <;> rfl

theorem hz3 : (![0, 0, 0] : Fin 3 → Nat) = fun _ => 0 := funext fun a => by fin_cases a <;> rfl

/-- Before the heads: the state is zero. -/
theorem inv0 (hZ : ∀ y, x9 y = (0 : EReal)) : Inv X D R 0 (kernelRun0_A.sl.HS0_1 c arg11 harg11 x9) := by
  refine Inv.start X D R _ _ fun y => ?_
  simp only [View.readAt_eq_ld arg11.view, harg11.read_unread]
  refine (congrArg (fun z => k0_pay2 z y) (View.ld_unit_zero hz _ x9)).trans ?_
  obtain ⟨n, j, rfl⟩ : ∃ n j, y = ix2 n j := ⟨y 0, y 1, by funext a; fin_cases a <;> rfl⟩
  pointwise [k0_pay2, hZ]

section
variable (hx : ∀ (s : Fin 128) (j : Fin 2048), (kernelRun0_A.sl.r_4 c i arg3 harg3 arg5 harg5 arg6 harg6 arg12 harg12 arg16 x1 x3 x4 x10) (ix2 s j) = X s ⟨j.val, by omega⟩)
  (hB : ∀ (s : Fin 128) (j : Fin 512), (kernelRun0_A.sl.r_5 c i arg3 harg3 arg5 harg5 arg6 harg6 arg12 harg12 arg16 x1 x3 x4 x10) (ix2 s j) = X s ⟨2048 + j.val, by omega⟩)
  (hC : ∀ (h : Fin 32) (s : Fin 128), k0_pay14 (kernelRun0_A.sl.r_6 c arg4 harg4 arg7 harg7 x2 x5) (View.readAt (Elt Ideal) arg8.view
    (Rect.unit ![0, 0] S1x128.size inb_S1x128_S1x128_0_0).toLoadRect (harg8.unread x6)) (ix2 ⟨h.val, by omega⟩ s) = R h s)
  (hD : ∀ (h : Fin 32) (s : Fin 128), k0_pay15 (kernelRun0_A.sl.r_6 c arg4 harg4 arg7 harg7 x2 x5) (ix2 ⟨h.val, by omega⟩ s) = D h s)
  (hZ : ∀ y, x9 y = (0 : EReal))
include hx hB hC hD hZ

/-- After heads 0 and 1. -/
theorem inv1 : Inv X D R 128 (kernelRun0_A.sl.HS0_2 c i arg3 harg3 arg4 harg4 arg5 harg5 arg6 harg6 arg7 harg7 arg8 harg8
    arg11 harg11 arg12 harg12 arg15 arg16 arg18 arg19 x1 x2 x3 x4 x5 x6 x9 x10) := by
  have hI := inv0 X D R c arg11 harg11 x9 hZ
  refine Inv.step X D R 0 128 rfl _ _ _ hI (by decide) fun n e => ?_
  refine (congrFun (head0 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v115 c arg4
    harg4 arg7 harg7 arg8 harg8 arg18 x2 x5 x6) (kernelRun0_A.sl.v116 c arg4 harg4 arg7 harg7 arg19 x2 x5)
    (kernelRun0_A.sl.v126 c arg4 harg4 arg7 harg7 arg8 harg8 arg18 x2 x5 x6) (kernelRun0_A.sl.v127 c arg4 harg4 arg7 harg7
    arg19 x2 x5) (kernelRun0_A.sl.v149 c arg11 harg11 arg15 x9)) (ix2 n e)).trans ?_
  exact pair_state X D R 0 _ _ _ _ _ _ _ n e (fun s e => (slice_at 0 (by decide) _ _ s e).trans (hx s _))
    (fun n s => (group0 _ n s).trans ((hB s _).trans (congrArg (X s) (Fin.ext (by simp only; omega)))))
    (fun s => (row_at _ _ 0 (by decide) _ _ s).trans (hC ⟨0, by decide⟩ s)) (fun s => (row_at _ _ 0 (by decide) _ _ s).trans (hD ⟨0, by decide⟩ s))
    (fun s => (row_at _ _ 1 (by decide) _ _ s).trans (hC ⟨1, by decide⟩ s)) (fun s => (row_at _ _ 1 (by decide) _ _ s).trans (hD ⟨1, by decide⟩ s))
    (hI.old (by decide) _ _ n e)

/-- After heads 2 and 3. -/
theorem inv2 : Inv X D R 256 (kernelRun0_A.sl.HS0_3 c i arg3 harg3 arg4 harg4 arg5 harg5 arg6 harg6 arg7 harg7 arg8 harg8
    arg11 harg11 arg12 harg12 arg15 arg16 arg18 arg19 x1 x2 x3 x4 x5 x6 x9 x10) := by
  have hI := inv1 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 128 256 rfl _ _ _ hI (by decide) fun n e => ?_
  refine (congrFun (head1 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v163 c arg4
    harg4 arg7 harg7 arg8 harg8 arg18 x2 x5 x6) (kernelRun0_A.sl.v164 c arg4 harg4 arg7 harg7 arg19 x2 x5)
    (kernelRun0_A.sl.v174 c arg4 harg4 arg7 harg7 arg8 harg8 arg18 x2 x5 x6) (kernelRun0_A.sl.v175 c arg4 harg4 arg7 harg7
    arg19 x2 x5) (kernelRun0_A.sl.v197 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 1 _ _ _ _ _ _ _ n e (fun s e => (slice_at 128 (by decide) _ _ s e).trans (hx s _))
    (fun n s => (group0 _ n s).trans ((hB s _).trans (congrArg (X s) (Fin.ext (by simp only; omega)))))
    (fun s => (row_at _ _ 2 (by decide) _ _ s).trans (hC ⟨2, by decide⟩ s)) (fun s => (row_at _ _ 2 (by decide) _ _ s).trans (hD ⟨2, by decide⟩ s))
    (fun s => (row_at _ _ 3 (by decide) _ _ s).trans (hC ⟨3, by decide⟩ s)) (fun s => (row_at _ _ 3 (by decide) _ _ s).trans (hD ⟨3, by decide⟩ s))
    (hI.old (by decide) _ _ n e)

/-- After heads 4 and 5. -/
theorem inv3 : Inv X D R 384 (kernelRun0_A.sl.HS0_4 c i arg3 harg3 arg4 harg4 arg5 harg5 arg6 harg6 arg7 harg7 arg8 harg8
    arg11 harg11 arg12 harg12 arg15 arg16 arg18 arg19 x1 x2 x3 x4 x5 x6 x9 x10) := by
  have hI := inv2 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 256 384 rfl _ _ _ hI (by decide) fun n e => ?_
  refine (congrFun (head2 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v211 c arg4
    harg4 arg7 harg7 arg8 harg8 arg18 x2 x5 x6) (kernelRun0_A.sl.v212 c arg4 harg4 arg7 harg7 arg19 x2 x5)
    (kernelRun0_A.sl.v222 c arg4 harg4 arg7 harg7 arg8 harg8 arg18 x2 x5 x6) (kernelRun0_A.sl.v223 c arg4 harg4 arg7 harg7
    arg19 x2 x5) (kernelRun0_A.sl.v245 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 2 _ _ _ _ _ _ _ n e (fun s e => (slice_at 256 (by decide) _ _ s e).trans (hx s _))
    (fun n s => (group0 _ n s).trans ((hB s _).trans (congrArg (X s) (Fin.ext (by simp only; omega)))))
    (fun s => (row_at _ _ 4 (by decide) _ _ s).trans (hC ⟨4, by decide⟩ s)) (fun s => (row_at _ _ 4 (by decide) _ _ s).trans (hD ⟨4, by decide⟩ s))
    (fun s => (row_at _ _ 5 (by decide) _ _ s).trans (hC ⟨5, by decide⟩ s)) (fun s => (row_at _ _ 5 (by decide) _ _ s).trans (hD ⟨5, by decide⟩ s))
    (hI.old (by decide) _ _ n e)

/-- After heads 6 and 7. -/
theorem inv4 : Inv X D R 512 (kernelRun0_A.sl.HS0_5 c i arg3 harg3 arg4 harg4 arg5 harg5 arg6 harg6 arg7 harg7 arg8 harg8
    arg11 harg11 arg12 harg12 arg15 arg16 arg18 arg19 x1 x2 x3 x4 x5 x6 x9 x10) := by
  have hI := inv3 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 384 512 rfl _ _ _ hI (by decide) fun n e => ?_
  refine (congrFun (head3 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v259 c arg4
    harg4 arg7 harg7 arg8 harg8 arg18 x2 x5 x6) (kernelRun0_A.sl.v260 c arg4 harg4 arg7 harg7 arg19 x2 x5)
    (kernelRun0_A.sl.v270 c arg4 harg4 arg7 harg7 arg8 harg8 arg18 x2 x5 x6) (kernelRun0_A.sl.v271 c arg4 harg4 arg7 harg7
    arg19 x2 x5) (kernelRun0_A.sl.v293 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 3 _ _ _ _ _ _ _ n e (fun s e => (slice_at 384 (by decide) _ _ s e).trans (hx s _))
    (fun n s => (group0 _ n s).trans ((hB s _).trans (congrArg (X s) (Fin.ext (by simp only; omega)))))
    (fun s => (row_at _ _ 6 (by decide) _ _ s).trans (hC ⟨6, by decide⟩ s)) (fun s => (row_at _ _ 6 (by decide) _ _ s).trans (hD ⟨6, by decide⟩ s))
    (fun s => (row_at _ _ 7 (by decide) _ _ s).trans (hC ⟨7, by decide⟩ s)) (fun s => (row_at _ _ 7 (by decide) _ _ s).trans (hD ⟨7, by decide⟩ s))
    (hI.old (by decide) _ _ n e)

/-- After heads 8 and 9. -/
theorem inv5 : Inv X D R 640 (kernelRun0_A.sl.HS0_6 c i arg3 harg3 arg4 harg4 arg5 harg5 arg6 harg6 arg7 harg7 arg8 harg8
    arg11 harg11 arg12 harg12 arg15 arg16 arg18 arg19 x1 x2 x3 x4 x5 x6 x9 x10) := by
  have hI := inv4 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 512 640 rfl _ _ _ hI (by decide) fun n e => ?_
  refine (congrFun (head4 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v309 c arg4
    harg4 arg7 harg7 arg8 harg8 arg18 x2 x5 x6) (kernelRun0_A.sl.v310 c arg4 harg4 arg7 harg7 arg19 x2 x5)
    (kernelRun0_A.sl.v320 c arg4 harg4 arg7 harg7 arg8 harg8 arg18 x2 x5 x6) (kernelRun0_A.sl.v321 c arg4 harg4 arg7 harg7
    arg19 x2 x5) (kernelRun0_A.sl.v343 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 4 _ _ _ _ _ _ _ n e (fun s e => (slice_at 512 (by decide) _ _ s e).trans (hx s _))
    (fun n s => (group1 _ n s).trans ((hB s _).trans (congrArg (X s) (Fin.ext (by simp only; omega)))))
    (fun s => (row_at _ _ 8 (by decide) _ _ s).trans (hC ⟨8, by decide⟩ s)) (fun s => (row_at _ _ 8 (by decide) _ _ s).trans (hD ⟨8, by decide⟩ s))
    (fun s => (row_at _ _ 9 (by decide) _ _ s).trans (hC ⟨9, by decide⟩ s)) (fun s => (row_at _ _ 9 (by decide) _ _ s).trans (hD ⟨9, by decide⟩ s))
    (hI.old (by decide) _ _ n e)

/-- After heads 10 and 11. -/
theorem inv6 : Inv X D R 768 (kernelRun0_A.sl.HS0_7 c i arg3 harg3 arg4 harg4 arg5 harg5 arg6 harg6 arg7 harg7 arg8 harg8
    arg11 harg11 arg12 harg12 arg15 arg16 arg18 arg19 x1 x2 x3 x4 x5 x6 x9 x10) := by
  have hI := inv5 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 640 768 rfl _ _ _ hI (by decide) fun n e => ?_
  refine (congrFun (head5 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v357 c arg4
    harg4 arg7 harg7 arg8 harg8 arg18 x2 x5 x6) (kernelRun0_A.sl.v358 c arg4 harg4 arg7 harg7 arg19 x2 x5)
    (kernelRun0_A.sl.v368 c arg4 harg4 arg7 harg7 arg8 harg8 arg18 x2 x5 x6) (kernelRun0_A.sl.v369 c arg4 harg4 arg7 harg7
    arg19 x2 x5) (kernelRun0_A.sl.v391 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 5 _ _ _ _ _ _ _ n e (fun s e => (slice_at 640 (by decide) _ _ s e).trans (hx s _))
    (fun n s => (group1 _ n s).trans ((hB s _).trans (congrArg (X s) (Fin.ext (by simp only; omega)))))
    (fun s => (row_at _ _ 10 (by decide) _ _ s).trans (hC ⟨10, by decide⟩ s)) (fun s => (row_at _ _ 10 (by decide) _ _ s).trans (hD ⟨10, by decide⟩ s))
    (fun s => (row_at _ _ 11 (by decide) _ _ s).trans (hC ⟨11, by decide⟩ s)) (fun s => (row_at _ _ 11 (by decide) _ _ s).trans (hD ⟨11, by decide⟩ s))
    (hI.old (by decide) _ _ n e)

/-- After heads 12 and 13. -/
theorem inv7 : Inv X D R 896 (kernelRun0_A.sl.HS0_8 c i arg3 harg3 arg4 harg4 arg5 harg5 arg6 harg6 arg7 harg7 arg8 harg8
    arg11 harg11 arg12 harg12 arg15 arg16 arg18 arg19 x1 x2 x3 x4 x5 x6 x9 x10) := by
  have hI := inv6 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 768 896 rfl _ _ _ hI (by decide) fun n e => ?_
  refine (congrFun (head6 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v405 c arg4
    harg4 arg7 harg7 arg8 harg8 arg18 x2 x5 x6) (kernelRun0_A.sl.v406 c arg4 harg4 arg7 harg7 arg19 x2 x5)
    (kernelRun0_A.sl.v416 c arg4 harg4 arg7 harg7 arg8 harg8 arg18 x2 x5 x6) (kernelRun0_A.sl.v417 c arg4 harg4 arg7 harg7
    arg19 x2 x5) (kernelRun0_A.sl.v439 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 6 _ _ _ _ _ _ _ n e (fun s e => (slice_at 768 (by decide) _ _ s e).trans (hx s _))
    (fun n s => (group1 _ n s).trans ((hB s _).trans (congrArg (X s) (Fin.ext (by simp only; omega)))))
    (fun s => (row_at _ _ 12 (by decide) _ _ s).trans (hC ⟨12, by decide⟩ s)) (fun s => (row_at _ _ 12 (by decide) _ _ s).trans (hD ⟨12, by decide⟩ s))
    (fun s => (row_at _ _ 13 (by decide) _ _ s).trans (hC ⟨13, by decide⟩ s)) (fun s => (row_at _ _ 13 (by decide) _ _ s).trans (hD ⟨13, by decide⟩ s))
    (hI.old (by decide) _ _ n e)

/-- After heads 14 and 15. -/
theorem inv8 : Inv X D R 1024 (kernelRun0_A.sl.HS0_9 c i arg3 harg3 arg4 harg4 arg5 harg5 arg6 harg6 arg7 harg7 arg8 harg8
    arg11 harg11 arg12 harg12 arg15 arg16 arg18 arg19 x1 x2 x3 x4 x5 x6 x9 x10) := by
  have hI := inv7 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 896 1024 rfl _ _ _ hI (by decide) fun n e => ?_
  refine (congrFun (head7 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v453 c arg4
    harg4 arg7 harg7 arg8 harg8 arg18 x2 x5 x6) (kernelRun0_A.sl.v454 c arg4 harg4 arg7 harg7 arg19 x2 x5)
    (kernelRun0_A.sl.v464 c arg4 harg4 arg7 harg7 arg8 harg8 arg18 x2 x5 x6) (kernelRun0_A.sl.v465 c arg4 harg4 arg7 harg7
    arg19 x2 x5) (kernelRun0_A.sl.v487 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 7 _ _ _ _ _ _ _ n e (fun s e => (slice_at 896 (by decide) _ _ s e).trans (hx s _))
    (fun n s => (group1 _ n s).trans ((hB s _).trans (congrArg (X s) (Fin.ext (by simp only; omega)))))
    (fun s => (row_at _ _ 14 (by decide) _ _ s).trans (hC ⟨14, by decide⟩ s)) (fun s => (row_at _ _ 14 (by decide) _ _ s).trans (hD ⟨14, by decide⟩ s))
    (fun s => (row_at _ _ 15 (by decide) _ _ s).trans (hC ⟨15, by decide⟩ s)) (fun s => (row_at _ _ 15 (by decide) _ _ s).trans (hD ⟨15, by decide⟩ s))
    (hI.old (by decide) _ _ n e)

/-- After heads 16 and 17. -/
theorem inv9 : Inv X D R 1152 (kernelRun0_A.sl.HS0_10 c i arg3 harg3 arg4 harg4 arg5 harg5 arg6 harg6 arg7 harg7 arg8 harg8
    arg11 harg11 arg12 harg12 arg15 arg16 arg18 arg19 x1 x2 x3 x4 x5 x6 x9 x10) := by
  have hI := inv8 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1024 1152 rfl _ _ _ hI (by decide) fun n e => ?_
  refine (congrFun (head8 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v503 c arg4
    harg4 arg7 harg7 arg8 harg8 arg18 x2 x5 x6) (kernelRun0_A.sl.v504 c arg4 harg4 arg7 harg7 arg19 x2 x5)
    (kernelRun0_A.sl.v514 c arg4 harg4 arg7 harg7 arg8 harg8 arg18 x2 x5 x6) (kernelRun0_A.sl.v515 c arg4 harg4 arg7 harg7
    arg19 x2 x5) (kernelRun0_A.sl.v537 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 8 _ _ _ _ _ _ _ n e (fun s e => (slice_at 1024 (by decide) _ _ s e).trans (hx s _))
    (fun n s => (group2 _ n s).trans ((hB s _).trans (congrArg (X s) (Fin.ext (by simp only; omega)))))
    (fun s => (row_at _ _ 16 (by decide) _ _ s).trans (hC ⟨16, by decide⟩ s)) (fun s => (row_at _ _ 16 (by decide) _ _ s).trans (hD ⟨16, by decide⟩ s))
    (fun s => (row_at _ _ 17 (by decide) _ _ s).trans (hC ⟨17, by decide⟩ s)) (fun s => (row_at _ _ 17 (by decide) _ _ s).trans (hD ⟨17, by decide⟩ s))
    (hI.old (by decide) _ _ n e)

/-- After heads 18 and 19. -/
theorem inv10 : Inv X D R 1280 (kernelRun0_A.sl.HS0_11 c i arg3 harg3 arg4 harg4 arg5 harg5 arg6 harg6 arg7 harg7 arg8 harg8
    arg11 harg11 arg12 harg12 arg15 arg16 arg18 arg19 x1 x2 x3 x4 x5 x6 x9 x10) := by
  have hI := inv9 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1152 1280 rfl _ _ _ hI (by decide) fun n e => ?_
  refine (congrFun (head9 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v551 c arg4
    harg4 arg7 harg7 arg8 harg8 arg18 x2 x5 x6) (kernelRun0_A.sl.v552 c arg4 harg4 arg7 harg7 arg19 x2 x5)
    (kernelRun0_A.sl.v562 c arg4 harg4 arg7 harg7 arg8 harg8 arg18 x2 x5 x6) (kernelRun0_A.sl.v563 c arg4 harg4 arg7 harg7
    arg19 x2 x5) (kernelRun0_A.sl.v585 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 9 _ _ _ _ _ _ _ n e (fun s e => (slice_at 1152 (by decide) _ _ s e).trans (hx s _))
    (fun n s => (group2 _ n s).trans ((hB s _).trans (congrArg (X s) (Fin.ext (by simp only; omega)))))
    (fun s => (row_at _ _ 18 (by decide) _ _ s).trans (hC ⟨18, by decide⟩ s)) (fun s => (row_at _ _ 18 (by decide) _ _ s).trans (hD ⟨18, by decide⟩ s))
    (fun s => (row_at _ _ 19 (by decide) _ _ s).trans (hC ⟨19, by decide⟩ s)) (fun s => (row_at _ _ 19 (by decide) _ _ s).trans (hD ⟨19, by decide⟩ s))
    (hI.old (by decide) _ _ n e)

/-- After heads 20 and 21. -/
theorem inv11 : Inv X D R 1408 (kernelRun0_A.sl.HS0_12 c i arg3 harg3 arg4 harg4 arg5 harg5 arg6 harg6 arg7 harg7 arg8 harg8
    arg11 harg11 arg12 harg12 arg15 arg16 arg18 arg19 x1 x2 x3 x4 x5 x6 x9 x10) := by
  have hI := inv10 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1280 1408 rfl _ _ _ hI (by decide) fun n e => ?_
  refine (congrFun (head10 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v599 c arg4
    harg4 arg7 harg7 arg8 harg8 arg18 x2 x5 x6) (kernelRun0_A.sl.v600 c arg4 harg4 arg7 harg7 arg19 x2 x5)
    (kernelRun0_A.sl.v610 c arg4 harg4 arg7 harg7 arg8 harg8 arg18 x2 x5 x6) (kernelRun0_A.sl.v611 c arg4 harg4 arg7 harg7
    arg19 x2 x5) (kernelRun0_A.sl.v633 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 10 _ _ _ _ _ _ _ n e (fun s e => (slice_at 1280 (by decide) _ _ s e).trans (hx s _))
    (fun n s => (group2 _ n s).trans ((hB s _).trans (congrArg (X s) (Fin.ext (by simp only; omega)))))
    (fun s => (row_at _ _ 20 (by decide) _ _ s).trans (hC ⟨20, by decide⟩ s)) (fun s => (row_at _ _ 20 (by decide) _ _ s).trans (hD ⟨20, by decide⟩ s))
    (fun s => (row_at _ _ 21 (by decide) _ _ s).trans (hC ⟨21, by decide⟩ s)) (fun s => (row_at _ _ 21 (by decide) _ _ s).trans (hD ⟨21, by decide⟩ s))
    (hI.old (by decide) _ _ n e)

/-- After heads 22 and 23. -/
theorem inv12 : Inv X D R 1536 (kernelRun0_A.sl.HS0_13 c i arg3 harg3 arg4 harg4 arg5 harg5 arg6 harg6 arg7 harg7 arg8 harg8
    arg11 harg11 arg12 harg12 arg15 arg16 arg18 arg19 x1 x2 x3 x4 x5 x6 x9 x10) := by
  have hI := inv11 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1408 1536 rfl _ _ _ hI (by decide) fun n e => ?_
  refine (congrFun (head11 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v647 c arg4
    harg4 arg7 harg7 arg8 harg8 arg18 x2 x5 x6) (kernelRun0_A.sl.v648 c arg4 harg4 arg7 harg7 arg19 x2 x5)
    (kernelRun0_A.sl.v658 c arg4 harg4 arg7 harg7 arg8 harg8 arg18 x2 x5 x6) (kernelRun0_A.sl.v659 c arg4 harg4 arg7 harg7
    arg19 x2 x5) (kernelRun0_A.sl.v681 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 11 _ _ _ _ _ _ _ n e (fun s e => (slice_at 1408 (by decide) _ _ s e).trans (hx s _))
    (fun n s => (group2 _ n s).trans ((hB s _).trans (congrArg (X s) (Fin.ext (by simp only; omega)))))
    (fun s => (row_at _ _ 22 (by decide) _ _ s).trans (hC ⟨22, by decide⟩ s)) (fun s => (row_at _ _ 22 (by decide) _ _ s).trans (hD ⟨22, by decide⟩ s))
    (fun s => (row_at _ _ 23 (by decide) _ _ s).trans (hC ⟨23, by decide⟩ s)) (fun s => (row_at _ _ 23 (by decide) _ _ s).trans (hD ⟨23, by decide⟩ s))
    (hI.old (by decide) _ _ n e)

/-- After heads 24 and 25. -/
theorem inv13 : Inv X D R 1664 (kernelRun0_A.sl.HS0_14 c i arg3 harg3 arg4 harg4 arg5 harg5 arg6 harg6 arg7 harg7 arg8 harg8
    arg11 harg11 arg12 harg12 arg15 arg16 arg18 arg19 x1 x2 x3 x4 x5 x6 x9 x10) := by
  have hI := inv12 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1536 1664 rfl _ _ _ hI (by decide) fun n e => ?_
  refine (congrFun (head12 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v697 c arg4
    harg4 arg7 harg7 arg8 harg8 arg18 x2 x5 x6) (kernelRun0_A.sl.v698 c arg4 harg4 arg7 harg7 arg19 x2 x5)
    (kernelRun0_A.sl.v708 c arg4 harg4 arg7 harg7 arg8 harg8 arg18 x2 x5 x6) (kernelRun0_A.sl.v709 c arg4 harg4 arg7 harg7
    arg19 x2 x5) (kernelRun0_A.sl.v731 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 12 _ _ _ _ _ _ _ n e (fun s e => (slice_at 1536 (by decide) _ _ s e).trans (hx s _))
    (fun n s => (group3 _ n s).trans ((hB s _).trans (congrArg (X s) (Fin.ext (by simp only; omega)))))
    (fun s => (row_at _ _ 24 (by decide) _ _ s).trans (hC ⟨24, by decide⟩ s)) (fun s => (row_at _ _ 24 (by decide) _ _ s).trans (hD ⟨24, by decide⟩ s))
    (fun s => (row_at _ _ 25 (by decide) _ _ s).trans (hC ⟨25, by decide⟩ s)) (fun s => (row_at _ _ 25 (by decide) _ _ s).trans (hD ⟨25, by decide⟩ s))
    (hI.old (by decide) _ _ n e)

/-- After heads 26 and 27. -/
theorem inv14 : Inv X D R 1792 (kernelRun0_A.sl.HS0_15 c i arg3 harg3 arg4 harg4 arg5 harg5 arg6 harg6 arg7 harg7 arg8 harg8
    arg11 harg11 arg12 harg12 arg15 arg16 arg18 arg19 x1 x2 x3 x4 x5 x6 x9 x10) := by
  have hI := inv13 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1664 1792 rfl _ _ _ hI (by decide) fun n e => ?_
  refine (congrFun (head13 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v745 c arg4
    harg4 arg7 harg7 arg8 harg8 arg18 x2 x5 x6) (kernelRun0_A.sl.v746 c arg4 harg4 arg7 harg7 arg19 x2 x5)
    (kernelRun0_A.sl.v756 c arg4 harg4 arg7 harg7 arg8 harg8 arg18 x2 x5 x6) (kernelRun0_A.sl.v757 c arg4 harg4 arg7 harg7
    arg19 x2 x5) (kernelRun0_A.sl.v779 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 13 _ _ _ _ _ _ _ n e (fun s e => (slice_at 1664 (by decide) _ _ s e).trans (hx s _))
    (fun n s => (group3 _ n s).trans ((hB s _).trans (congrArg (X s) (Fin.ext (by simp only; omega)))))
    (fun s => (row_at _ _ 26 (by decide) _ _ s).trans (hC ⟨26, by decide⟩ s)) (fun s => (row_at _ _ 26 (by decide) _ _ s).trans (hD ⟨26, by decide⟩ s))
    (fun s => (row_at _ _ 27 (by decide) _ _ s).trans (hC ⟨27, by decide⟩ s)) (fun s => (row_at _ _ 27 (by decide) _ _ s).trans (hD ⟨27, by decide⟩ s))
    (hI.old (by decide) _ _ n e)

/-- After heads 28 and 29. -/
theorem inv15 : Inv X D R 1920 (kernelRun0_A.sl.HS0_16 c i arg3 harg3 arg4 harg4 arg5 harg5 arg6 harg6 arg7 harg7 arg8 harg8
    arg11 harg11 arg12 harg12 arg15 arg16 arg18 arg19 x1 x2 x3 x4 x5 x6 x9 x10) := by
  have hI := inv14 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1792 1920 rfl _ _ _ hI (by decide) fun n e => ?_
  refine (congrFun (head14 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v793 c arg4
    harg4 arg7 harg7 arg8 harg8 arg18 x2 x5 x6) (kernelRun0_A.sl.v794 c arg4 harg4 arg7 harg7 arg19 x2 x5)
    (kernelRun0_A.sl.v804 c arg4 harg4 arg7 harg7 arg8 harg8 arg18 x2 x5 x6) (kernelRun0_A.sl.v805 c arg4 harg4 arg7 harg7
    arg19 x2 x5) (kernelRun0_A.sl.v827 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 14 _ _ _ _ _ _ _ n e (fun s e => (slice_at 1792 (by decide) _ _ s e).trans (hx s _))
    (fun n s => (group3 _ n s).trans ((hB s _).trans (congrArg (X s) (Fin.ext (by simp only; omega)))))
    (fun s => (row_at _ _ 28 (by decide) _ _ s).trans (hC ⟨28, by decide⟩ s)) (fun s => (row_at _ _ 28 (by decide) _ _ s).trans (hD ⟨28, by decide⟩ s))
    (fun s => (row_at _ _ 29 (by decide) _ _ s).trans (hC ⟨29, by decide⟩ s)) (fun s => (row_at _ _ 29 (by decide) _ _ s).trans (hD ⟨29, by decide⟩ s))
    (hI.old (by decide) _ _ n e)

/-- After heads 30 and 31. -/
theorem inv16 : Inv X D R 2048 (kernelRun0_A.sl.HS0_17 c i arg3 harg3 arg4 harg4 arg5 harg5 arg6 harg6 arg7 harg7 arg8 harg8
    arg11 harg11 arg12 harg12 arg15 arg16 arg18 arg19 x1 x2 x3 x4 x5 x6 x9 x10) := by
  have hI := inv15 X D R c i arg3 harg3 arg4 harg4 arg5 harg5 arg6 harg6 arg7 harg7 arg8 harg8 arg11 harg11 arg12 harg12 arg15 arg16 arg18 arg19 x1 x2 x3 x4 x5 x6 x9 x10 hx hB hC hD hZ
  refine Inv.step X D R 1920 2048 rfl _ _ _ hI (by decide) fun n e => ?_
  refine (congrFun (head15 (kernelRun0_A.sl.r_4 c i arg3 harg3 arg5 harg5 arg6 harg6 arg12 harg12 arg16 x1 x3 x4 x10)
    (kernelRun0_A.sl.r_5 c i arg3 harg3 arg5 harg5 arg6 harg6 arg12 harg12 arg16 x1 x3 x4 x10) (kernelRun0_A.sl.v841 c arg4
    harg4 arg7 harg7 arg8 harg8 arg18 x2 x5 x6) (kernelRun0_A.sl.v842 c arg4 harg4 arg7 harg7 arg19 x2 x5)
    (kernelRun0_A.sl.v852 c arg4 harg4 arg7 harg7 arg8 harg8 arg18 x2 x5 x6) (kernelRun0_A.sl.v853 c arg4 harg4 arg7 harg7
    arg19 x2 x5) (kernelRun0_A.sl.v875 c i arg3 harg3 arg4 harg4 arg5 harg5 arg6 harg6 arg7 harg7 arg8 harg8 arg11 harg11
    arg12 harg12 arg15 arg16 arg18 arg19 x1 x2 x3 x4 x5 x6 x9 x10)) (ix2 n e)).trans ?_
  exact pair_state X D R 15 _ _ _ _ _ _ _ n e (fun s e => (slice_at 1920 (by decide) _ _ s e).trans (hx s _))
    (fun n s => (group3 _ n s).trans ((hB s _).trans (congrArg (X s) (Fin.ext (by simp only; omega)))))
    (fun s => (row_at _ _ 30 (by decide) _ _ s).trans (hC ⟨30, by decide⟩ s)) (fun s => (row_at _ _ 30 (by decide) _ _ s).trans (hD ⟨30, by decide⟩ s))
    (fun s => (row_at _ _ 31 (by decide) _ _ s).trans (hC ⟨31, by decide⟩ s)) (fun s => (row_at _ _ 31 (by decide) _ _ s).trans (hD ⟨31, by decide⟩ s))
    (hI.old (by decide) _ _ n e)

/-- What the heads leave in the state's scratch array. -/
theorem heads_at (n : Fin 128) (j : Fin 2048) : (kernelRun0_A.sl.v892 c i arg3 harg3 arg4 harg4 arg5 harg5 arg6 harg6 arg7 harg7 arg8 harg8 arg11 harg11 arg12 harg12 arg15 arg16 arg18 arg19 x1 x2 x3 x4 x5 x6 x9 x10) (ix2 n j) = state X D R n j := by
  refine (congrFun (View.readCov_eq_canon' (Val := Elt Ideal) (e := .f32) arg15.view _
    (Rect.unit (s := S128x2048) ![0, 0] S128x2048.size inb_S128x2048_S128x2048_0_0).toLoadRect) (ix2 n j)).trans ?_
  have he : (Rect.unit (s := S128x2048) ![0, 0] S128x2048.size inb_S128x2048_S128x2048_0_0).toLoadRect.idx (ix2 n j) = ix2 n j :=
    funext fun a => Fin.ext (by
      match a with
      | ⟨0, _⟩ => show 0 + 1 * n.val = n.val; omega
      | ⟨1, _⟩ => show 0 + 1 * j.val = j.val; omega)
  refine (congrArg _ he).trans ?_
  exact (inv16 X D R c i arg3 harg3 arg4 harg4 arg5 harg5 arg6 harg6 arg7 harg7 arg8 harg8 arg11 harg11 arg12 harg12 arg15 arg16 arg18 arg19 x1 x2 x3 x4 x5 x6 x9 x10 hx hB hC hD hZ).done n j j.isLt
end

/-- A row of a window read through its memref. -/
theorem tap_at (k : Nat) (hk : k < 4) (inb) (j : Fin 3072) :
    View.readAt (Elt Ideal) arg5.view (Rect.unit (s := S4x3072) ![k, 0] S1x3072.size inb).toLoadRect (harg5.unread x3) (ix2 0 j)
      = x3 (ix2 ⟨k, hk⟩ j) := by
  rw [View.readAt_eq_ld arg5.view, harg5.read_unread]
  exact congrArg x3 (funext fun a => Fin.ext (by
    match a with
    | ⟨0, _⟩ => show k + 1 * 0 = k; omega
    | ⟨1, _⟩ => show 0 + 1 * j.val = j.val; omega))

theorem read1 : View.readAt (Elt Ideal) arg3.view (Rect.unit ![0, 0, 0] S1x128x3072.size inb_S1x128x3072_S1x128x3072_0_0_0).toLoadRect
    (harg3.unread x1) = x1 := by
  rw [View.readAt_eq_ld arg3.view, harg3.read_unread]; exact View.ld_unit_zero hz3 _ _

theorem read2 : View.readAt (Elt Ideal) arg4.view (Rect.unit ![0, 0, 0] S1x128x128.size inb_S1x128x128_S1x128x128_0_0_0).toLoadRect
    (harg4.unread x2) = x2 := by
  rw [View.readAt_eq_ld arg4.view, harg4.read_unread]; exact View.ld_unit_zero hz3 _ _

theorem read4 : View.readAt (Elt Ideal) arg6.view (Rect.unit ![0, 0] S1x3072.size inb_S1x3072_S1x3072_0_0).toLoadRect
    (harg6.unread x4) = x4 := by
  rw [View.readAt_eq_ld arg6.view, harg6.read_unread]; exact View.ld_unit_zero hz _ _

theorem read56 (harg7 : arg7.IsWhole) : View.readAt (Elt Ideal) arg7.view (Rect.unit ![0, 0] S1x128.size inb_S1x128_S1x128_0_0).toLoadRect
    (harg7.unread x5) = x5 := by
  rw [View.readAt_eq_ld arg7.view, harg7.read_unread]; exact View.ld_unit_zero hz _ _

theorem read10 : View.readAt (Elt Ideal) arg12.view (Rect.unit ![0, 0] S8x3072.size inb_S8x3072_S8x3072_0_0).toLoadRect
    (harg12.unread x10) = x10 := by
  rw [View.readAt_eq_ld arg12.view, harg12.read_unread]; exact View.ld_unit_zero hz _ _

/-- The activations, as the kernel's steps leave them. -/
theorem acts_at (hi : (i 1).val = 0) (hT : ∀ y, x10 y = (0 : EReal)) (l : Fin 128) (j : Fin 3072) :
    k0_pay10 (BitVec.ofNat 32 (i 1).val) (kernelRun0_A.sl.r_1 c arg3 harg3 arg5 harg5 arg6 harg6 arg12 harg12 arg16 x1 x3 x4 x10) (kernelRun0_A.sl.r_2 c arg5 harg5 x3) (kernelRun0_A.sl.v32 c arg3 harg3 arg12 harg12 arg16 x1 x10) (ix2 l j)
      = acts x1 x3 x4 l j := by
  have hA : ∀ (l : Fin 128) (j : Fin 3072), k0_pay5 (View.readAt (Elt Ideal) arg3.view
      (Rect.unit ![0, 0, 0] S1x128x3072.size inb_S1x128x3072_S1x128x3072_0_0_0).toLoadRect (harg3.unread x1)) (ix2 l j)
      = x1 (ix3 0 l j) := fun l j => by
    rw [read1]
    pointwise [k0_pay5, k0_pay4]
  have hB : ∀ y, k0_pay3 (View.readAt (Elt Ideal) arg12.view
      (Rect.unit ![0, 0] S8x3072.size inb_S8x3072_S8x3072_0_0).toLoadRect (harg12.unread x10)) y = (0 : EReal) := fun y => by
    rw [read10]
    obtain ⟨n, j, rfl⟩ : ∃ n j, y = ix2 n j := ⟨y 0, y 1, by funext a; fin_cases a <;> rfl⟩
    pointwise [k0_pay3, hT]
  rw [hi]
  refine (act_at _ _ _ _ _ _ _ _ _ (fun l j => x1 (ix3 0 l j)) (fun k j => x3 (ix2 k j)) l j
    (tap_at arg5 harg5 x3 0 (by decide) _ j) (tap_at arg5 harg5 x3 1 (by decide) _ j) (tap_at arg5 harg5 x3 2 (by decide) _ j)
    (tap_at arg5 harg5 x3 3 (by decide) _ j)
    (lag_at arg16.view _ _ _ hA hB 0 5 rfl _ _ _ l j) (lag_at arg16.view _ _ _ hA hB 1 6 rfl _ _ _ l j)
    (lag_at arg16.view _ _ _ hA hB 2 7 rfl _ _ _ l j) (lag_at arg16.view _ _ _ hA hB 3 8 rfl _ _ _ l j)).trans ?_
  rw [read4]
  rfl

/-- The state after the block. -/
theorem state_at (hi : (i 1).val = 0) (hZ : ∀ y, x9 y = (0 : EReal)) (hT : ∀ y, x10 y = (0 : EReal)) (n : Fin 128) (j : Fin 2048) :
    (kernelRun0_A.sl.v892 c i arg3 harg3 arg4 harg4 arg5 harg5 arg6 harg6 arg7 harg7 arg8 harg8 arg11 harg11 arg12 harg12 arg15 arg16 arg18 arg19 x1 x2 x3 x4 x5 x6 x9 x10) (ix2 n j) = state (acts x1 x3 x4) (sizes x2 x5) (sums x2 x5 x6) n j := by
  have h6 : ∀ s h : Fin 128, (kernelRun0_A.sl.r_6 c arg4 harg4 arg7 harg7 x2 x5) (ix2 s h) = softplus (x2 (ix3 0 s h) + x5 (ix2 0 h)) := fun s h => by
    unfold kernelRun0_A.sl.r_6
    rw [read2, read56]
    exact steps_at x2 x5 s h
  refine heads_at _ _ _ c i arg3 harg3 arg4 harg4 arg5 harg5 arg6 harg6 arg7 harg7 arg8 harg8 arg11 harg11 arg12 harg12 arg15 arg16 arg18 arg19 x1 x2 x3 x4 x5 x6 x9 x10 (fun s j => ?_) (fun s j => ?_) (fun h s => ?_) (fun h s => ?_) hZ n j
  · exact (xs_at _ _ _ _ s j).trans (acts_at c i arg3 harg3 arg5 harg5 arg6 harg6 arg12 harg12 arg16 x1 x3 x4 x10 hi hT s _)
  · exact (bs_at _ _ _ _ s j).trans (acts_at c i arg3 harg3 arg5 harg5 arg6 harg6 arg12 harg12 arg16 x1 x3 x4 x10 hi hT s _)
  · rw [read56]
    refine (sums_row _ _ _ s fun s => ⟨_, h6 s _⟩).trans ?_
    simp only [h6]
    rfl
  · exact (steps_row _ _ s).trans (h6 s _)

variable (arg2 : Memref sig .tc .vmem S1x128x2048 .bf16) (harg2 : arg2.IsWhole) (arg9 : Memref sig .tc .vmem S1x2048 .f32) (harg9 : arg9.IsWhole)
  (arg10 : Memref sig .tc .vmem S1x2048 .f32) (harg10 : arg10.IsWhole) (arg13 : Memref sig .tc .vmem S128x2048 .f32)
  (harg13 : arg13.IsWhole) (arg14 : Memref sig .tc .vmem S8x3072 .f32) (harg14 : arg14.IsWhole)
  (arg17 : Memref sig .tc .vmem S128x2048 .f32) (harg15 : arg15.IsWhole) (harg16 : arg16.IsWhole) (harg17 : arg17.IsWhole)
  (harg18 : arg18.IsWhole) (harg19 : arg19.IsWhole) (hc0 : cond0_0 i) (hc1 : cond0_1 i)
  (x0 : Vec Ideal S1x128x2048 .bf16) (x7 x8 : Vec Ideal S1x2048 .f32)

/-- What the body leaves in the first result's block. -/
theorem out11_at (hi : (i 1).val = 0) (hZ : ∀ y, x9 y = (0 : EReal)) (hT : ∀ y, x10 y = (0 : EReal)) (n : Fin 128) (j : Fin 2048) :
    out0_A_11 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      hc0 hc1 x0 x1 x2 x3 x4 x5 x6 x7 x8 x9 x10 (ix2 n j)
      = state (acts x1 x3 x4) (sizes x2 x5) (sums x2 x5 x6) n j := by
  have h : View.canon ([⟨Rect.unit ![0, 0] S128x2048.size inb_S128x2048_S128x2048_0_0, (kernelRun0_A.sl.v892 c i arg3 harg3 arg4 harg4 arg5 harg5 arg6 harg6 arg7 harg7 arg8 harg8 arg11 harg11 arg12 harg12 arg15 arg16 arg18 arg19 x1 x2 x3 x4 x5 x6 x9 x10)⟩] :
      List (View.Piece (Elt Ideal) S128x2048 .f32)) = (kernelRun0_A.sl.v892 c i arg3 harg3 arg4 harg4 arg5 harg5 arg6 harg6 arg7 harg7 arg8 harg8 arg11 harg11 arg12 harg12 arg15 arg16 arg18 arg19 x1 x2 x3 x4 x5 x6 x9 x10) := View.canon_unit_zero hz _ _
  unfold out0_A_11
  rw [View.read_writes_junk_eq_canon]
  exact (congrFun h (ix2 n j)).trans (state_at c i arg3 harg3 arg4 harg4 arg5 harg5 arg6 harg6 arg7 harg7 arg8 harg8 arg11 harg11 arg12 harg12 arg15 arg16 arg18 arg19 x1 x2 x3 x4 x5 x6 x9 x10 hi hZ hT n j)

/-- What the body leaves in the second result's block: the input's last eight rows. -/
theorem out12_at (r : Fin 8) (j : Fin 3072) :
    out0_A_12 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      hc0 hc1 x0 x1 x2 x3 x4 x5 x6 x7 x8 x9 x10 (ix2 r j)
      = x1 (ix3 0 ⟨120 + r.val, by omega⟩ j) := by
  have h : View.canon ([⟨Rect.unit ![0, 0] S8x3072.size inb_S8x3072_S8x3072_0_0, kernelRun0_A.sl.r_3 c arg3 harg3 x1⟩] :
      List (View.Piece (Elt Ideal) S8x3072 .f32)) = kernelRun0_A.sl.r_3 c arg3 harg3 x1 := View.canon_unit_zero hz _ _
  have h' : kernelRun0_A.sl.r_3 c arg3 harg3 x1 (ix2 r j) = x1 (ix3 0 ⟨120 + r.val, by omega⟩ j) := by
    unfold kernelRun0_A.sl.r_3 kernelRun0_A.sl.r
    rw [read1]
    pointwise [k0_pay8, k0_pay4]
  unfold out0_A_12
  rw [View.read_writes_junk_eq_canon]
  exact (congrFun h (ix2 r j)).trans h'

end Cert.Proof.SsdMetaBlock

end
-- ==== Proof.SsdMetaClaims.lean ====
/- The state-space call on the meta block: its two result arrays after the run are the reference's results of the same
   arguments; its claims. -/
module

public import proofs.«01_k».proof.Proof.SsdMetaBlock
public import proofs.«01_k».proof.Proof.Gen.SsdMeta.Frame
public import proofs.«01_k».proof.Proof.Gen.SsdMetaIdeal.Frame
public import proofs.«01_k».proof.Defs
public import Idealize.ShloMosaic.Lib.StableHlo.ReadAt

@[expose] public section

set_option maxRecDepth 16384

noncomputable section

namespace Cert.Proof.SsdMetaClaims

open Cert.SsdMetaIdeal Cert.SsdMetaIdeal.Gen Cert.SsdMetaIdeal.Value Idealize.ShloMosaic Idealize.ShloMosaic.TcCoe
open Idealize.SL.Sem Cert.Proof.Ssd

/-! ## The windows' blocks: the one grid point has all of each array, of the projection the columns from 6144 -/

theorem coord1 : ∀ t : Fin cfg0.N, (grid0.coords t 1).val = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 2 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

theorem emb1 (t : Fin cfg0.N) (l : Fin 128) (j : Fin 3072) (y : ((cfg0.win 1).xblock (grid0.coords t)).Idx)
    (y0 : (y (0 : Fin 3)).val = 0) (y1 : (y (1 : Fin 3)).val = l.val) (y2 : (y (2 : Fin 3)).val = j.val) :
    ((cfg0.win 1).blk t).view.emb y = (ix3 0 l ⟨6144 + j.val, by omega⟩ : S1x128x9728.Idx) := by
  obtain ⟨e0, e1, e2⟩ := idx1 t
  funext a; apply Fin.ext
  match a with
  | ⟨0, _⟩ => show win0_1.index t (0 : Fin 3) * 1 + 1 * (y (0 : Fin 3)).val = 0; omega
  | ⟨1, _⟩ => show win0_1.index t (1 : Fin 3) * 128 + 1 * (y (1 : Fin 3)).val = l.val; omega
  | ⟨2, _⟩ => show win0_1.index t (2 : Fin 3) * 3072 + 1 * (y (2 : Fin 3)).val = 6144 + j.val; omega

theorem emb2 (t : Fin cfg0.N) (l h : Fin 128) :
    ((cfg0.win 2).blk t).view.emb (ix3 0 l h) = (ix3 0 l h : S1x128x128.Idx) := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 128 + 1 * l.val = l.val; omega
  | ⟨2, _⟩ => show win0_2.index t (2 : Fin 3) * 128 + 1 * h.val = h.val; omega

theorem emb3 (t : Fin cfg0.N) (r : Fin 4) (e : Fin 3072) :
    ((cfg0.win 3).blk t).view.emb (ix2 r e) = (ix2 r e : S4x3072.Idx) := by
  obtain ⟨e0, e1⟩ := idx3 t
  funext a; apply Fin.ext
  match a with
  | ⟨0, _⟩ => show win0_3.index t (0 : Fin 2) * 4 + 1 * r.val = r.val; omega
  | ⟨1, _⟩ => show win0_3.index t (1 : Fin 2) * 3072 + 1 * e.val = e.val; omega

theorem emb4 (t : Fin cfg0.N) (r : Fin 1) (e : Fin 3072) :
    ((cfg0.win 4).blk t).view.emb (ix2 r e) = (ix2 r e : S1x3072.Idx) := by
  obtain ⟨e0, e1⟩ := idx4 t
  funext a; apply Fin.ext
  match a with
  | ⟨0, _⟩ => show win0_4.index t (0 : Fin 2) * 1 + 1 * r.val = r.val; omega
  | ⟨1, _⟩ => show win0_4.index t (1 : Fin 2) * 3072 + 1 * e.val = e.val; omega

theorem emb5 (t : Fin cfg0.N) (r : Fin 1) (e : Fin 128) :
    ((cfg0.win 5).blk t).view.emb (ix2 r e) = (ix2 r e : S1x128.Idx) := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 128 + 1 * e.val = e.val; omega

theorem emb6 (t : Fin cfg0.N) (r : Fin 1) (e : Fin 128) :
    ((cfg0.win 6).blk t).view.emb (ix2 r e) = (ix2 r e : S1x128.Idx) := by
  obtain ⟨e0, e1⟩ := idx6 t
  funext a; apply Fin.ext
  match a with
  | ⟨0, _⟩ => show win0_6.index t (0 : Fin 2) * 1 + 1 * r.val = r.val; omega
  | ⟨1, _⟩ => show win0_6.index t (1 : Fin 2) * 128 + 1 * e.val = e.val; omega

theorem emb9 (t : Fin cfg0.N) (r : Fin 128) (e : Fin 2048) :
    ((cfg0.win 9).blk t).view.emb (ix2 r e) = (ix2 r e : S128x2048.Idx) := by
  obtain ⟨e0, e1⟩ := idx9 t
  funext a; apply Fin.ext
  match a with
  | ⟨0, _⟩ => show win0_9.index t (0 : Fin 2) * 128 + 1 * r.val = r.val; omega
  | ⟨1, _⟩ => show win0_9.index t (1 : Fin 2) * 2048 + 1 * e.val = e.val; omega

theorem emb10 (t : Fin cfg0.N) (r : Fin 8) (e : Fin 3072) :
    ((cfg0.win 10).blk t).view.emb (ix2 r e) = (ix2 r e : S8x3072.Idx) := by
  obtain ⟨e0, e1⟩ := idx10 t
  funext a; apply Fin.ext
  match a with
  | ⟨0, _⟩ => show win0_10.index t (0 : Fin 2) * 8 + 1 * r.val = r.val; omega
  | ⟨1, _⟩ => show win0_10.index t (1 : Fin 2) * 3072 + 1 * e.val = e.val; omega

theorem emb11 (t : Fin cfg0.N) (r : Fin 128) (e : Fin 2048) :
    ((cfg0.win 11).blk t).view.emb (ix2 r e) = (ix2 r e : S128x2048.Idx) := by
  obtain ⟨e0, e1⟩ := idx11 t
  funext a; apply Fin.ext
  match a with
  | ⟨0, _⟩ => show win0_11.index t (0 : Fin 2) * 128 + 1 * r.val = r.val; omega
  | ⟨1, _⟩ => show win0_11.index t (1 : Fin 2) * 2048 + 1 * e.val = e.val; omega

theorem emb12 (t : Fin cfg0.N) (r : Fin 8) (e : Fin 3072) :
    ((cfg0.win 12).blk t).view.emb (ix2 r e) = (ix2 r e : S8x3072.Idx) := by
  obtain ⟨e0, e1⟩ := idx12 t
  funext a; apply Fin.ext
  match a with
  | ⟨0, _⟩ => show win0_12.index t (0 : Fin 2) * 8 + 1 * r.val = r.val; omega
  | ⟨1, _⟩ => show win0_12.index t (1 : Fin 2) * 3072 + 1 * e.val = e.val; omega

/-! ## What the blocks hold of the arguments -/

variable (m : (ℓ : Loc nD τ sig) → Buf (Elt Ideal) ℓ) (ρ : Dev nD → PrngReg)

theorem cols_block (c : Dev nD) (t : Fin cfg0.N) (l : Fin 128) (j : Fin 3072) : X0_1 m c t (ix3 0 l j)
    = m ((c : Thread nD τ).loc main_arg0) (ix3 0 l ⟨6144 + j.val, by omega⟩ : S1x128x9728.Idx) := by
  unfold X0_1 Pipeline.Window.fill
  rw [dif_pos (moved0_1 t _)]
  show V m c main_arg0 (((cfg0.win 1).blk t).view.emb _) = _
  rw [emb1 t l j _ rfl rfl rfl, V_main_arg0]

theorem steps_block (c : Dev nD) (t : Fin cfg0.N) (l h : Fin 128) : iblk m c 2 t (ix3 0 l h)
    = m ((c : Thread nD τ).loc main_arg1) (ix3 0 l h : S1x128x128.Idx) := by
  show V m c main_arg1 (((cfg0.win 2).blk t).view.emb (ix3 0 l h)) = _
  rw [emb2, V_main_arg1]

theorem taps_block (c : Dev nD) (t : Fin cfg0.N) (k : Fin 4) (j : Fin 3072) : iblk m c 3 t (ix2 k j)
    = m ((c : Thread nD τ).loc main_arg2) (ix3 0 k j : S1x4x3072.Idx) := by
  show V m c main_v14 (((cfg0.win 3).blk t).view.emb (ix2 k j)) = _
  rw [emb3]
  unfold V
  after_reads_at

theorem bias_block (c : Dev nD) (t : Fin cfg0.N) (j : Fin 3072) : iblk m c 4 t (ix2 0 j)
    = m ((c : Thread nD τ).loc main_arg3) (ix2 0 j : S1x3072.Idx) := by
  show V m c main_v1 (((cfg0.win 4).blk t).view.emb (ix2 0 j)) = _
  rw [emb4]
  unfold V
  after_reads_at

theorem stepBias_block (c : Dev nD) (t : Fin cfg0.N) (h : Fin 32) : iblk m c 5 t (ix2 0 ⟨h.val, by omega⟩)
    = m ((c : Thread nD τ).loc main_arg4) (ix2 0 h : S1x32.Idx) := by
  show V m c main_v4 (((cfg0.win 5).blk t).view.emb (ix2 0 ⟨h.val, by omega⟩)) = _
  rw [emb5]
  unfold V
  after_reads_at

theorem rate_block (c : Dev nD) (t : Fin cfg0.N) (h : Fin 32) : iblk m c 6 t (ix2 0 ⟨h.val, by omega⟩)
    = m ((c : Thread nD τ).loc main_arg5) (ix2 0 h : S1x32.Idx) := by
  show V m c main_v7 (((cfg0.win 6).blk t).view.emb (ix2 0 ⟨h.val, by omega⟩)) = _
  rw [emb6]
  unfold V
  after_reads_at

theorem zeros_block (c : Dev nD) (t : Fin cfg0.N) (y : S128x2048.Idx) : iblk m c 9 t y = (0 : EReal) := by
  obtain ⟨n, j, rfl⟩ : ∃ n j, y = ix2 n j := ⟨y 0, y 1, by funext a; fin_cases a <;> rfl⟩
  show V m c main_v15 (((cfg0.win 9).blk t).view.emb (ix2 n j)) = _
  rw [emb9]
  unfold V
  after_reads_at

theorem noTail_block (c : Dev nD) (t : Fin cfg0.N) (y : S8x3072.Idx) : iblk m c 10 t y = (0 : EReal) := by
  obtain ⟨n, j, rfl⟩ : ∃ n j, y = ix2 n j := ⟨y 0, y 1, by funext a; fin_cases a <;> rfl⟩
  show V m c main_v16 (((cfg0.win 10).blk t).view.emb (ix2 n j)) = _
  rw [emb10]
  unfold V
  after_reads_at

/-! ## The results -/

/-- The reference's results of the kernel's arguments. -/
def G (c : Dev nD) : S128x2048.Idx → Elt Ideal .f32 :=
  SsdMetaRef.whole (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

def H (c : Dev nD) : S8x3072.Idx → Elt Ideal .f32 := SsdMetaRef.tail (m ((c : Thread nD τ).loc main_arg0))

theorem H_at (c : Dev nD) (r : Fin 8) (j : Fin 3072) : H m c (ix2 r j)
    = m ((c : Thread nD τ).loc main_arg0) (ix3 0 ⟨120 + r.val, by omega⟩ ⟨6144 + j.val, by omega⟩ : S1x128x9728.Idx) := by
  unfold H
  pointwise [SsdMetaRef.tail, SsdMetaRef.cols]

/-- The state the grid point computes, as the reference's. -/
theorem state_block (c : Dev nD) (t : Fin cfg0.N) (n : Fin 128) (j : Fin 2048) :
    state (SsdMetaPay.acts (X0_1 m c t) (iblk m c 3 t) (iblk m c 4 t)) (SsdMetaPay.sizes (iblk m c 2 t) (iblk m c 5 t))
      (SsdMetaPay.sums (iblk m c 2 t) (iblk m c 5 t) (iblk m c 6 t)) n j = G m c (ix2 n j) := by
  unfold G
  rw [SsdMetaRef.whole_at]
  unfold SsdMetaPay.sums SsdMetaPay.sizes SsdMetaPay.acts
  simp only [cols_block, steps_block, taps_block, bias_block, stepBias_block, rate_block]

/-- A block equal to the array is the array's block. -/
theorem cut11_eq (t : Fin cfg0.N) (X A : S128x2048.Idx → Elt Ideal .f32)
    (h : ∀ (r : Fin 128) (e : Fin 2048), X (ix2 r e) = A (ix2 r e)) :
    (cfg0.win 11).cut (grid0.coords t) X = ((cfg0.win 11).blk t).view.read (Elt Ideal) A := by
  funext i
  obtain ⟨r, e, rfl⟩ : ∃ (r : Fin 128) (e : Fin 2048), i = (ix2 r e : S128x2048.Idx) :=
    ⟨i (0 : Fin 2), i (1 : Fin 2), funext fun a => by
      match a with
      | ⟨0, _⟩ => rfl
      | ⟨1, _⟩ => rfl⟩
  show X (ix2 r e) = A (((cfg0.win 11).blk t).view.emb (ix2 r e))
  rw [h, emb11]

theorem flushed11_eq (c : Dev nD) (t : Fin cfg0.N) :
    (dats m 0 c).flushed 11 t = ((cfg0.win 11).blk t).view.read (Elt Ideal) (G m c) := by
  rw [flushed11_A]
  refine cut11_eq t _ _ fun n j => ?_
  refine Eq.trans ?_ (state_block m c t n j)
  apply SsdMetaBlock.out11_at
  · exact coord1 t
  · exact zeros_block m c t
  · exact noTail_block m c t

/-- Every index is in the one point's block. -/
theorem covered11 (i : S128x2048.Idx) :
    ∃ t : Fin cfg0.N, (cfg0.win 11).flush t = true ∧ i ∈ ((cfg0.win 11).blk t).view.set := by
  refine ⟨⟨0, by rw [show cfg0.N = 1 from N_0]; omega⟩, (by decide +kernel : ∀ t : Fin grid0.N, (cfg0.win 11).flush t = true) _, ?_⟩
  generalize (⟨0, _⟩ : Fin cfg0.N) = t
  have h := ((cfg0.win 11).blk t).view.emb_mem_set (ix2 (i 0) (i 1))
  refine (?_ : i = _) ▸ h
  refine Eq.trans ?_ (emb11 t (i 0) (i 1)).symm
  funext a; apply Fin.ext
  match a with
  | ⟨0, _⟩ => rfl
  | ⟨1, _⟩ => rfl

/-- The result array after the run. -/
theorem final11 (c : Dev nD) : (dats m 0 c).arrAt 11 cfg0.N = G m c :=
  (dats m 0 c).arrAt_eq_of_cover 11 (G m c) (fun t _ => flushed11_eq m c t) covered11

/-- A block equal to the array is the array's block. -/
theorem cut12_eq (t : Fin cfg0.N) (X A : S8x3072.Idx → Elt Ideal .f32)
    (h : ∀ (r : Fin 8) (e : Fin 3072), X (ix2 r e) = A (ix2 r e)) :
    (cfg0.win 12).cut (grid0.coords t) X = ((cfg0.win 12).blk t).view.read (Elt Ideal) A := by
  funext i
  obtain ⟨r, e, rfl⟩ : ∃ (r : Fin 8) (e : Fin 3072), i = (ix2 r e : S8x3072.Idx) :=
    ⟨i (0 : Fin 2), i (1 : Fin 2), funext fun a => by
      match a with
      | ⟨0, _⟩ => rfl
      | ⟨1, _⟩ => rfl⟩
  show X (ix2 r e) = A (((cfg0.win 12).blk t).view.emb (ix2 r e))
  rw [h, emb12]

theorem flushed12_eq (c : Dev nD) (t : Fin cfg0.N) :
    (dats m 0 c).flushed 12 t = ((cfg0.win 12).blk t).view.read (Elt Ideal) (H m c) := by
  rw [flushed12_A]
  refine cut12_eq t _ _ fun r j => ?_
  refine Eq.trans ?_ ((cols_block m c t ⟨120 + r.val, by omega⟩ j).trans (H_at m c r j).symm)
  apply SsdMetaBlock.out12_at

/-- Every index is in the one point's block. -/
theorem covered12 (i : S8x3072.Idx) :
    ∃ t : Fin cfg0.N, (cfg0.win 12).flush t = true ∧ i ∈ ((cfg0.win 12).blk t).view.set := by
  refine ⟨⟨0, by rw [show cfg0.N = 1 from N_0]; omega⟩, (by decide +kernel : ∀ t : Fin grid0.N, (cfg0.win 12).flush t = true) _, ?_⟩
  generalize (⟨0, _⟩ : Fin cfg0.N) = t
  have h := ((cfg0.win 12).blk t).view.emb_mem_set (ix2 (i 0) (i 1))
  refine (?_ : i = _) ▸ h
  refine Eq.trans ?_ (emb12 t (i 0) (i 1)).symm
  funext a; apply Fin.ext
  match a with
  | ⟨0, _⟩ => rfl
  | ⟨1, _⟩ => rfl

/-- The result array after the run. -/
theorem final12 (c : Dev nD) : (dats m 0 c).arrAt 12 cfg0.N = H m c :=
  (dats m 0 c).arrAt_eq_of_cover 12 (H m c) (fun t _ => flushed12_eq m c t) covered12

/-! ## The claims -/

theorem frame : Cert.quiescent_SsdMeta := fun m ρ _ => Cert.SsdMeta.Gen.frame m ρ
theorem frame_ideal : Cert.quiescent_SsdMetaIdeal := fun m ρ _ => Cert.SsdMetaIdeal.Gen.frame m ρ

/-- The reference's frame: its run read at the arguments; it declares no semaphore. -/
theorem frame_ref : Cert.quiescent_SsdMetaReferenceIdeal := fun m ρ _ =>
  (θ_run Cert.SsdMetaReferenceIdeal.defs _ _).mono
    (fun r h => ⟨fun c => (h c).2.2, sem_eq_zero_of_no_sems (by decide) r.2⟩)
    (Cert.SsdMetaReferenceIdeal.Value.run (F := Ideal) m ρ)

/-- The kernel's results are the reference's. -/
theorem algebraic : Cert.algebraic_SsdMetaIdeal_SsdMetaReferenceIdeal := by
  intro m ρ m' ρ' _ hagree
  have e (c : Dev nD) : Cert.SsdMetaReferenceIdeal.Value.res_main_v80 m' c = G m c := by
    rw [SsdMetaRef.res_eq]
    unfold G
    obtain ⟨h0, h1, h2, h3, h4, h5, -, -⟩ := hagree c
    rw [h0, h1, h2, h3, h4, h5]
  refine ⟨fun c => G m c, fun c => H m c, ?_, ?_⟩
  · exact (θ_run defs _ _).mono (fun r h c => ⟨(h c).1.trans (final11 m c), (h c).2.1.trans (final12 m c), (h c).2.2⟩)
      (run_blocks (F := Ideal) m ρ)
  · exact (θ_run Cert.SsdMetaReferenceIdeal.defs _ _).mono
      (fun r h c => ⟨(h c).1.trans (e c), (h c).2.1.trans (congrArg SsdMetaRef.tail (hagree c).1), (h c).2.2⟩)
      (Cert.SsdMetaReferenceIdeal.Value.run (F := Ideal) m' ρ')

end Cert.Proof.SsdMetaClaims

end
-- ==== Proof.lean ====
module

public import proofs.«01_k».proof.Proof.Attn
public import proofs.«01_k».proof.Proof.InProjClaims
public import proofs.«01_k».proof.Proof.InProjMetaClaims
public import proofs.«01_k».proof.Proof.MergeRun
public import proofs.«01_k».proof.Proof.SsdMetaClaims
public import proofs.«01_k».proof.Proof.Gen.MergeOut.Frame
public import proofs.«01_k».proof.Proof.Gen.MergeOutIdeal.Value
public import proofs.«01_k».proof.Proof.Gen.MergeOutReferenceIdeal.Run
public import proofs.«01_k».proof.Proof.Gen.InProj.Skeleton
public import proofs.«01_k».proof.Proof.Gen.InProj.Frame
public import proofs.«01_k».proof.Proof.Gen.InProjIdeal.Skeleton
public import proofs.«01_k».proof.Proof.Gen.InProjIdeal.Frame
public import proofs.«01_k».proof.Proof.Gen.InProjReferenceIdeal.Run
public import proofs.«01_k».proof.Proof.Gen.InProjMeta.Skeleton
public import proofs.«01_k».proof.Proof.Gen.InProjMeta.Frame
public import proofs.«01_k».proof.Proof.Gen.InProjMetaIdeal.Skeleton
public import proofs.«01_k».proof.Proof.Gen.InProjMetaIdeal.Frame
public import proofs.«01_k».proof.Proof.Gen.InProjMetaReferenceIdeal.Run
public import proofs.«01_k».proof.Proof.Gen.SsdMeta.Frame
public import proofs.«01_k».proof.Proof.Gen.SsdMetaIdeal.Frame
public import proofs.«01_k».proof.Proof.Gen.SsdMetaIdeal.Value
public import proofs.«01_k».proof.Proof.Gen.SsdMetaReferenceIdeal.Run
public import proofs.«01_k».proof.Defs

@[expose] public section

noncomputable section

namespace Cert.Proof

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.MergeOut.Gen.facts, Cert.MergeOutIdeal.Gen.facts, Cert.MergeOutReferenceIdeal.Gen.facts,
    Cert.InProjMeta.Gen.facts, Cert.InProjMetaIdeal.Gen.facts, Cert.InProjMetaReferenceIdeal.Gen.facts,
    Cert.SsdMeta.Gen.facts, Cert.SsdMetaIdeal.Gen.facts, Cert.SsdMetaReferenceIdeal.Gen.facts,
    Cert.Pre_finite_scores.Gen.facts,
    Attn.frame, Attn.frame_ideal, Attn.frame_ideal_pre, Attn.frame_ref, Attn.frame_ref_pre,
    InProjClaims.frame, InProjClaims.frame_ideal, InProjClaims.frame_ref,
    MergeRun.frame, MergeRun.frame_ideal, MergeRun.frame_ref,
    InProjMetaClaims.frame, InProjMetaClaims.frame_ideal, InProjMetaClaims.frame_ref,
    SsdMetaClaims.frame, SsdMetaClaims.frame_ideal, SsdMetaClaims.frame_ref,
    trivial, Attn.algebraic, trivial, InProjClaims.algebraic, trivial, MergeRun.algebraic,
    trivial, InProjMetaClaims.algebraic, trivial, SsdMetaClaims.algebraic⟩

end Cert.Proof

end
